-- ==== Defs.lean ====
def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_RefPreIdeal (m : (ℓ : Loc Cert.RefPreIdeal.nD Cert.RefPreIdeal.τ Cert.RefPreIdeal.sig) → Buf (Elt Ideal) ℓ) : Prop :=
  True

def Pre_Attn [hPre_windows_exist : Cert.Pre_windows_exist.Facts] (m : (ℓ : Loc Cert.Attn.nD Cert.Attn.τ Cert.Attn.sig) → Buf (Elt Bits) ℓ) : Prop :=
  ∀ c : Dev Cert.Attn.nD,
    (Cert.Pre_windows_exist.fn (F := Bits) (m ((c.tc : Thread Cert.Attn.nD Cert.Attn.τ).loc Cert.Attn.main_arg0)) (m ((c.tc : Thread Cert.Attn.nD Cert.Attn.τ).loc Cert.Attn.main_arg1))) = (fun _ => 1#1)

def Pre_AttnIdeal [hPre_windows_exist : Cert.Pre_windows_exist.Facts] (m : (ℓ : Loc Cert.AttnIdeal.nD Cert.AttnIdeal.τ Cert.AttnIdeal.sig) → Buf (Elt Ideal) ℓ) : Prop :=
  ∀ c : Dev Cert.AttnIdeal.nD,
    (Cert.Pre_windows_exist.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_windows_exist [hPre_windows_exist : Cert.Pre_windows_exist.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_windows_exist.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_RefMlpIdeal (m : (ℓ : Loc Cert.RefMlpIdeal.nD Cert.RefMlpIdeal.τ Cert.RefMlpIdeal.sig) → Buf (Elt Ideal) ℓ) : Prop :=
  True

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_RefPreIdeal [hRefPreIdeal : Cert.RefPreIdeal.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2)
      ∧ r.2.mem ((c.tc : Thread Cert.RefPreIdeal.nD Cert.RefPreIdeal.τ).loc Cert.RefPreIdeal.main_arg3) = m ((c.tc : Thread Cert.RefPreIdeal.nD Cert.RefPreIdeal.τ).loc Cert.RefPreIdeal.main_arg3)
      ∧ r.2.mem ((c.tc : Thread Cert.RefPreIdeal.nD Cert.RefPreIdeal.τ).loc Cert.RefPreIdeal.main_arg4) = m ((c.tc : Thread Cert.RefPreIdeal.nD Cert.RefPreIdeal.τ).loc Cert.RefPreIdeal.main_arg4)
      ∧ r.2.mem ((c.tc : Thread Cert.RefPreIdeal.nD Cert.RefPreIdeal.τ).loc Cert.RefPreIdeal.main_arg5) = m ((c.tc : Thread Cert.RefPreIdeal.nD Cert.RefPreIdeal.τ).loc Cert.RefPreIdeal.main_arg5)
      ∧ r.2.mem ((c.tc : Thread Cert.RefPreIdeal.nD Cert.RefPreIdeal.τ).loc Cert.RefPreIdeal.main_arg6) = m ((c.tc : Thread Cert.RefPreIdeal.nD Cert.RefPreIdeal.τ).loc Cert.RefPreIdeal.main_arg6))
      ∧ r.2.sem = fun _ => 0)

def quiescent_Attn [hAttn : Cert.Attn.Facts] [hPre_windows_exist : Cert.Pre_windows_exist.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] [hPre_windows_exist : Cert.Pre_windows_exist.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1))
      ∧ r.2.sem = fun _ => 0)

def quiescent_RefAttnIdeal_pre_windows_exist [hRefAttnIdeal : Cert.RefAttnIdeal.Facts] [hPre_windows_exist : Cert.Pre_windows_exist.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_windows_exist m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3)
      ∧ r.2.mem ((c.tc : Thread Cert.RefProjIdeal.nD Cert.RefProjIdeal.τ).loc Cert.RefProjIdeal.main_arg4) = m ((c.tc : Thread Cert.RefProjIdeal.nD Cert.RefProjIdeal.τ).loc Cert.RefProjIdeal.main_arg4)
      ∧ r.2.mem ((c.tc : Thread Cert.RefProjIdeal.nD Cert.RefProjIdeal.τ).loc Cert.RefProjIdeal.main_arg5) = m ((c.tc : Thread Cert.RefProjIdeal.nD Cert.RefProjIdeal.τ).loc Cert.RefProjIdeal.main_arg5)
      ∧ r.2.mem ((c.tc : Thread Cert.RefProjIdeal.nD Cert.RefProjIdeal.τ).loc Cert.RefProjIdeal.main_arg6) = m ((c.tc : Thread Cert.RefProjIdeal.nD Cert.RefProjIdeal.τ).loc Cert.RefProjIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_RefMlpIdeal [hRefMlpIdeal : Cert.RefMlpIdeal.Facts] : Prop :=
  ∀ (m : (ℓ : Loc Cert.RefMlpIdeal.nD Cert.RefMlpIdeal.τ Cert.RefMlpIdeal.sig) → Buf (Elt Ideal) ℓ) (g : Dev Cert.RefMlpIdeal.nD → PrngReg), Pre_RefMlpIdeal m →
    θ_run (Cert.RefMlpIdeal.defs (F := Ideal)) (onTc (τ := Cert.RefMlpIdeal.τ) (Cert.RefMlpIdeal.main (F := Ideal))) ⟨m, fun _ => 0, g⟩ (fun r => (∀ c : Dev Cert.RefMlpIdeal.nD,
      r.2.mem ((c.tc : Thread Cert.RefMlpIdeal.nD Cert.RefMlpIdeal.τ).loc Cert.RefMlpIdeal.main_arg0) = m ((c.tc : Thread Cert.RefMlpIdeal.nD Cert.RefMlpIdeal.τ).loc Cert.RefMlpIdeal.main_arg0)
      ∧ r.2.mem ((c.tc : Thread Cert.RefMlpIdeal.nD Cert.RefMlpIdeal.τ).loc Cert.RefMlpIdeal.main_arg1) = m ((c.tc : Thread Cert.RefMlpIdeal.nD Cert.RefMlpIdeal.τ).loc Cert.RefMlpIdeal.main_arg1)
      ∧ r.2.mem ((c.tc : Thread Cert.RefMlpIdeal.nD Cert.RefMlpIdeal.τ).loc Cert.RefMlpIdeal.main_arg2) = m ((c.tc : Thread Cert.RefMlpIdeal.nD Cert.RefMlpIdeal.τ).loc Cert.RefMlpIdeal.main_arg2)
      ∧ r.2.mem ((c.tc : Thread Cert.RefMlpIdeal.nD Cert.RefMlpIdeal.τ).loc Cert.RefMlpIdeal.main_arg3) = m ((c.tc : Thread Cert.RefMlpIdeal.nD Cert.RefMlpIdeal.τ).loc Cert.RefMlpIdeal.main_arg3)
      ∧ r.2.mem ((c.tc : Thread Cert.RefMlpIdeal.nD Cert.RefMlpIdeal.τ).loc Cert.RefMlpIdeal.main_arg4) = m ((c.tc : Thread Cert.RefMlpIdeal.nD Cert.RefMlpIdeal.τ).loc Cert.RefMlpIdeal.main_arg4)
      ∧ r.2.mem ((c.tc : Thread Cert.RefMlpIdeal.nD Cert.RefMlpIdeal.τ).loc Cert.RefMlpIdeal.main_arg5) = m ((c.tc : Thread Cert.RefMlpIdeal.nD Cert.RefMlpIdeal.τ).loc Cert.RefMlpIdeal.main_arg5)
      ∧ r.2.mem ((c.tc : Thread Cert.RefMlpIdeal.nD Cert.RefMlpIdeal.τ).loc Cert.RefMlpIdeal.main_arg6) = m ((c.tc : Thread Cert.RefMlpIdeal.nD Cert.RefMlpIdeal.τ).loc Cert.RefMlpIdeal.main_arg6))
      ∧ r.2.sem = fun _ => 0)

def preserves_Pre_PreIdeal : Prop :=
  True

def algebraic_PreIdeal_RefPreIdeal [hPreIdeal : Cert.PreIdeal.Facts] [hRefPreIdeal : Cert.RefPreIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.RefPreIdeal.nD Cert.RefPreIdeal.τ Cert.RefPreIdeal.sig) → Buf (Elt Ideal) ℓ) (g' : Dev Cert.RefPreIdeal.nD → PrngReg), Pre_PreIdeal m →
    (∀ c : Dev Cert.PreIdeal.nD,
      m' ((c.tc : Thread Cert.RefPreIdeal.nD Cert.RefPreIdeal.τ).loc Cert.RefPreIdeal.main_arg0) = m ((c.tc : Thread Cert.PreIdeal.nD Cert.PreIdeal.τ).loc Cert.PreIdeal.main_arg0)
      ∧ m' ((c.tc : Thread Cert.RefPreIdeal.nD Cert.RefPreIdeal.τ).loc Cert.RefPreIdeal.main_arg1) = m ((c.tc : Thread Cert.PreIdeal.nD Cert.PreIdeal.τ).loc Cert.PreIdeal.main_arg1)
      ∧ m' ((c.tc : Thread Cert.RefPreIdeal.nD Cert.RefPreIdeal.τ).loc Cert.RefPreIdeal.main_arg2) = m ((c.tc : Thread Cert.PreIdeal.nD Cert.PreIdeal.τ).loc Cert.PreIdeal.main_arg2)
      ∧ m' ((c.tc : Thread Cert.RefPreIdeal.nD Cert.RefPreIdeal.τ).loc Cert.RefPreIdeal.main_arg3) = m ((c.tc : Thread Cert.PreIdeal.nD Cert.PreIdeal.τ).loc Cert.PreIdeal.main_arg3)
      ∧ m' ((c.tc : Thread Cert.RefPreIdeal.nD Cert.RefPreIdeal.τ).loc Cert.RefPreIdeal.main_arg4) = m ((c.tc : Thread Cert.PreIdeal.nD Cert.PreIdeal.τ).loc Cert.PreIdeal.main_arg4)
      ∧ m' ((c.tc : Thread Cert.RefPreIdeal.nD Cert.RefPreIdeal.τ).loc Cert.RefPreIdeal.main_arg5) = m ((c.tc : Thread Cert.PreIdeal.nD Cert.PreIdeal.τ).loc Cert.PreIdeal.main_arg5)
      ∧ m' ((c.tc : Thread Cert.RefPreIdeal.nD Cert.RefPreIdeal.τ).loc Cert.RefPreIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v6_0)) (v1 : (c : Dev Cert.PreIdeal.nD) → Buf (Elt Ideal) ((c.tc : Thread Cert.PreIdeal.nD Cert.PreIdeal.τ).loc Cert.PreIdeal.main_v6_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v6_0) = v0 c
          ∧ r.2.mem ((c.tc : Thread Cert.PreIdeal.nD Cert.PreIdeal.τ).loc Cert.PreIdeal.main_v6_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.RefPreIdeal.defs (F := Ideal)) (onTc (τ := Cert.RefPreIdeal.τ) (Cert.RefPreIdeal.main (F := Ideal))) ⟨m', fun _ => 0, g'⟩ (fun r => ∀ c : Dev Cert.RefPreIdeal.nD,
          r.2.mem ((c.tc : Thread Cert.RefPreIdeal.nD Cert.RefPreIdeal.τ).loc Cert.RefPreIdeal.main_v24) = v0 c
          ∧ r.2.mem ((c.tc : Thread Cert.RefPreIdeal.nD Cert.RefPreIdeal.τ).loc Cert.RefPreIdeal.main_v47) = v1 c
          ∧ r.2.mem ((c.tc : Thread Cert.RefPreIdeal.nD Cert.RefPreIdeal.τ).loc Cert.RefPreIdeal.main_arg0) = m' ((c.tc : Thread Cert.RefPreIdeal.nD Cert.RefPreIdeal.τ).loc Cert.RefPreIdeal.main_arg0)
          ∧ r.2.mem ((c.tc : Thread Cert.RefPreIdeal.nD Cert.RefPreIdeal.τ).loc Cert.RefPreIdeal.main_arg1) = m' ((c.tc : Thread Cert.RefPreIdeal.nD Cert.RefPreIdeal.τ).loc Cert.RefPreIdeal.main_arg1)
          ∧ r.2.mem ((c.tc : Thread Cert.RefPreIdeal.nD Cert.RefPreIdeal.τ).loc Cert.RefPreIdeal.main_arg2) = m' ((c.tc : Thread Cert.RefPreIdeal.nD Cert.RefPreIdeal.τ).loc Cert.RefPreIdeal.main_arg2)
          ∧ r.2.mem ((c.tc : Thread Cert.RefPreIdeal.nD Cert.RefPreIdeal.τ).loc Cert.RefPreIdeal.main_arg3) = m' ((c.tc : Thread Cert.RefPreIdeal.nD Cert.RefPreIdeal.τ).loc Cert.RefPreIdeal.main_arg3)
          ∧ r.2.mem ((c.tc : Thread Cert.RefPreIdeal.nD Cert.RefPreIdeal.τ).loc Cert.RefPreIdeal.main_arg4) = m' ((c.tc : Thread Cert.RefPreIdeal.nD Cert.RefPreIdeal.τ).loc Cert.RefPreIdeal.main_arg4)
          ∧ r.2.mem ((c.tc : Thread Cert.RefPreIdeal.nD Cert.RefPreIdeal.τ).loc Cert.RefPreIdeal.main_arg5) = m' ((c.tc : Thread Cert.RefPreIdeal.nD Cert.RefPreIdeal.τ).loc Cert.RefPreIdeal.main_arg5)
          ∧ r.2.mem ((c.tc : Thread Cert.RefPreIdeal.nD Cert.RefPreIdeal.τ).loc Cert.RefPreIdeal.main_arg6) = m' ((c.tc : Thread Cert.RefPreIdeal.nD Cert.RefPreIdeal.τ).loc Cert.RefPreIdeal.main_arg6))

def preserves_Attn_AttnIdeal : Prop :=
  True

def algebraic_AttnIdeal_RefAttnIdeal [hAttnIdeal : Cert.AttnIdeal.Facts] [hRefAttnIdeal : Cert.RefAttnIdeal.Facts] [hPre_windows_exist : Cert.Pre_windows_exist.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v39) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)
      ∧ m' ((c.tc : Thread Cert.RefProjIdeal.nD Cert.RefProjIdeal.τ).loc Cert.RefProjIdeal.main_arg4) = m ((c.tc : Thread Cert.ProjIdeal.nD Cert.ProjIdeal.τ).loc Cert.ProjIdeal.main_arg4)
      ∧ m' ((c.tc : Thread Cert.RefProjIdeal.nD Cert.RefProjIdeal.τ).loc Cert.RefProjIdeal.main_arg5) = m ((c.tc : Thread Cert.ProjIdeal.nD Cert.ProjIdeal.τ).loc Cert.ProjIdeal.main_arg5)
      ∧ m' ((c.tc : Thread Cert.RefProjIdeal.nD Cert.RefProjIdeal.τ).loc Cert.RefProjIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v40) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3)
          ∧ r.2.mem ((c.tc : Thread Cert.RefProjIdeal.nD Cert.RefProjIdeal.τ).loc Cert.RefProjIdeal.main_arg4) = m' ((c.tc : Thread Cert.RefProjIdeal.nD Cert.RefProjIdeal.τ).loc Cert.RefProjIdeal.main_arg4)
          ∧ r.2.mem ((c.tc : Thread Cert.RefProjIdeal.nD Cert.RefProjIdeal.τ).loc Cert.RefProjIdeal.main_arg5) = m' ((c.tc : Thread Cert.RefProjIdeal.nD Cert.RefProjIdeal.τ).loc Cert.RefProjIdeal.main_arg5)
          ∧ r.2.mem ((c.tc : Thread Cert.RefProjIdeal.nD Cert.RefProjIdeal.τ).loc Cert.RefProjIdeal.main_arg6) = m' ((c.tc : Thread Cert.RefProjIdeal.nD Cert.RefProjIdeal.τ).loc Cert.RefProjIdeal.main_arg6))

def preserves_Mlp_MlpIdeal : Prop :=
  True

def algebraic_MlpIdeal_RefMlpIdeal [hMlpIdeal : Cert.MlpIdeal.Facts] [hRefMlpIdeal : Cert.RefMlpIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.RefMlpIdeal.nD Cert.RefMlpIdeal.τ Cert.RefMlpIdeal.sig) → Buf (Elt Ideal) ℓ) (g' : Dev Cert.RefMlpIdeal.nD → PrngReg), Pre_MlpIdeal m →
    (∀ c : Dev Cert.MlpIdeal.nD,
      m' ((c.tc : Thread Cert.RefMlpIdeal.nD Cert.RefMlpIdeal.τ).loc Cert.RefMlpIdeal.main_arg0) = m ((c.tc : Thread Cert.MlpIdeal.nD Cert.MlpIdeal.τ).loc Cert.MlpIdeal.main_arg0)
      ∧ m' ((c.tc : Thread Cert.RefMlpIdeal.nD Cert.RefMlpIdeal.τ).loc Cert.RefMlpIdeal.main_arg1) = m ((c.tc : Thread Cert.MlpIdeal.nD Cert.MlpIdeal.τ).loc Cert.MlpIdeal.main_arg1)
      ∧ m' ((c.tc : Thread Cert.RefMlpIdeal.nD Cert.RefMlpIdeal.τ).loc Cert.RefMlpIdeal.main_arg2) = m ((c.tc : Thread Cert.MlpIdeal.nD Cert.MlpIdeal.τ).loc Cert.MlpIdeal.main_arg2)
      ∧ m' ((c.tc : Thread Cert.RefMlpIdeal.nD Cert.RefMlpIdeal.τ).loc Cert.RefMlpIdeal.main_arg3) = m ((c.tc : Thread Cert.MlpIdeal.nD Cert.MlpIdeal.τ).loc Cert.MlpIdeal.main_arg3)
      ∧ m' ((c.tc : Thread Cert.RefMlpIdeal.nD Cert.RefMlpIdeal.τ).loc Cert.RefMlpIdeal.main_arg4) = m ((c.tc : Thread Cert.MlpIdeal.nD Cert.MlpIdeal.τ).loc Cert.MlpIdeal.main_arg4)
      ∧ m' ((c.tc : Thread Cert.RefMlpIdeal.nD Cert.RefMlpIdeal.τ).loc Cert.RefMlpIdeal.main_arg5) = m ((c.tc : Thread Cert.MlpIdeal.nD Cert.MlpIdeal.τ).loc Cert.MlpIdeal.main_arg5)
      ∧ m' ((c.tc : Thread Cert.RefMlpIdeal.nD Cert.RefMlpIdeal.τ).loc Cert.RefMlpIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.RefMlpIdeal.defs (F := Ideal)) (onTc (τ := Cert.RefMlpIdeal.τ) (Cert.RefMlpIdeal.main (F := Ideal))) ⟨m', fun _ => 0, g'⟩ (fun r => ∀ c : Dev Cert.RefMlpIdeal.nD,
          r.2.mem ((c.tc : Thread Cert.RefMlpIdeal.nD Cert.RefMlpIdeal.τ).loc Cert.RefMlpIdeal.main_v36) = v0 c
          ∧ r.2.mem ((c.tc : Thread Cert.RefMlpIdeal.nD Cert.RefMlpIdeal.τ).loc Cert.RefMlpIdeal.main_arg0) = m' ((c.tc : Thread Cert.RefMlpIdeal.nD Cert.RefMlpIdeal.τ).loc Cert.RefMlpIdeal.main_arg0)
          ∧ r.2.mem ((c.tc : Thread Cert.RefMlpIdeal.nD Cert.RefMlpIdeal.τ).loc Cert.RefMlpIdeal.main_arg1) = m' ((c.tc : Thread Cert.RefMlpIdeal.nD Cert.RefMlpIdeal.τ).loc Cert.RefMlpIdeal.main_arg1)
          ∧ r.2.mem ((c.tc : Thread Cert.RefMlpIdeal.nD Cert.RefMlpIdeal.τ).loc Cert.RefMlpIdeal.main_arg2) = m' ((c.tc : Thread Cert.RefMlpIdeal.nD Cert.RefMlpIdeal.τ).loc Cert.RefMlpIdeal.main_arg2)
          ∧ r.2.mem ((c.tc : Thread Cert.RefMlpIdeal.nD Cert.RefMlpIdeal.τ).loc Cert.RefMlpIdeal.main_arg3) = m' ((c.tc : Thread Cert.RefMlpIdeal.nD Cert.RefMlpIdeal.τ).loc Cert.RefMlpIdeal.main_arg3)
          ∧ r.2.mem ((c.tc : Thread Cert.RefMlpIdeal.nD Cert.RefMlpIdeal.τ).loc Cert.RefMlpIdeal.main_arg4) = m' ((c.tc : Thread Cert.RefMlpIdeal.nD Cert.RefMlpIdeal.τ).loc Cert.RefMlpIdeal.main_arg4)
          ∧ r.2.mem ((c.tc : Thread Cert.RefMlpIdeal.nD Cert.RefMlpIdeal.τ).loc Cert.RefMlpIdeal.main_arg5) = m' ((c.tc : Thread Cert.RefMlpIdeal.nD Cert.RefMlpIdeal.τ).loc Cert.RefMlpIdeal.main_arg5)
          ∧ r.2.mem ((c.tc : Thread Cert.RefMlpIdeal.nD Cert.RefMlpIdeal.τ).loc Cert.RefMlpIdeal.main_arg6) = m' ((c.tc : Thread Cert.RefMlpIdeal.nD Cert.RefMlpIdeal.τ).loc Cert.RefMlpIdeal.main_arg6))

def Claim : Prop :=
  ∃ (hPre : Cert.Pre.Facts) (hPreIdeal : Cert.PreIdeal.Facts) (hRefPreIdeal : Cert.RefPreIdeal.Facts) (hAttn : Cert.Attn.Facts) (hAttnIdeal : Cert.AttnIdeal.Facts) (hRefAttnIdeal : Cert.RefAttnIdeal.Facts) (hProj : Cert.Proj.Facts) (hProjIdeal : Cert.ProjIdeal.Facts) (hRefProjIdeal : Cert.RefProjIdeal.Facts) (hMlp : Cert.Mlp.Facts) (hMlpIdeal : Cert.MlpIdeal.Facts) (hRefMlpIdeal : Cert.RefMlpIdeal.Facts) (hPre_windows_exist : Cert.Pre_windows_exist.Facts),
    quiescent_Pre (hPre := hPre)
    ∧ quiescent_PreIdeal (hPreIdeal := hPreIdeal)
    ∧ quiescent_RefPreIdeal (hRefPreIdeal := hRefPreIdeal)
    ∧ quiescent_Attn (hAttn := hAttn) (hPre_windows_exist := hPre_windows_exist)
    ∧ quiescent_AttnIdeal (hAttnIdeal := hAttnIdeal) (hPre_windows_exist := hPre_windows_exist)
    ∧ quiescent_RefAttnIdeal (hRefAttnIdeal := hRefAttnIdeal)
    ∧ quiescent_RefAttnIdeal_pre_windows_exist (hRefAttnIdeal := hRefAttnIdeal) (hPre_windows_exist := hPre_windows_exist)
    ∧ quiescent_Proj (hProj := hProj)
    ∧ quiescent_ProjIdeal (hProjIdeal := hProjIdeal)
    ∧ quiescent_RefProjIdeal (hRefProjIdeal := hRefProjIdeal)
    ∧ quiescent_Mlp (hMlp := hMlp)
    ∧ quiescent_MlpIdeal (hMlpIdeal := hMlpIdeal)
    ∧ quiescent_RefMlpIdeal (hRefMlpIdeal := hRefMlpIdeal)
    ∧ preserves_Pre_PreIdeal
    ∧ algebraic_PreIdeal_RefPreIdeal (hPreIdeal := hPreIdeal) (hRefPreIdeal := hRefPreIdeal)
    ∧ preserves_Attn_AttnIdeal
    ∧ algebraic_AttnIdeal_RefAttnIdeal (hAttnIdeal := hAttnIdeal) (hRefAttnIdeal := hRefAttnIdeal) (hPre_windows_exist := hPre_windows_exist)
    ∧ preserves_Proj_ProjIdeal
    ∧ algebraic_ProjIdeal_RefProjIdeal (hProjIdeal := hProjIdeal) (hRefProjIdeal := hRefProjIdeal)
    ∧ preserves_Mlp_MlpIdeal
    ∧ algebraic_MlpIdeal_RefMlpIdeal (hMlpIdeal := hMlpIdeal) (hRefMlpIdeal := hRefMlpIdeal)
-- ==== Pre_windows_exist.lean ====
abbrev S4x49x4 : Shape := ⟨3, ![4, 49, 4]⟩
abbrev S4x56x56x1152 : Shape := ⟨4, ![4, 56, 56, 1152]⟩
abbrev S_ : Shape := ⟨0, ![]⟩

class Facts : Prop where
  bcast_S_S4x49x4 : S_.BroadcastsInDim S4x49x4 (![] : Fin 0 → Fin S4x49x4.rank)
  reducesTo_S4x49x4_S_d0_1_2 : S4x49x4.ReducesTo [0, 1, 2] S_
  h_S_ : 0 < S_.numel

variable [Facts]

def fn {F : FTy → Type} [FloatOps F] (main_arg0 : IVec S4x49x4 32) (main_arg1 : FVec F S4x56x56x1152 .f32) : IVec S_ 1 :=
  let main_c : IVec S_ 32 := constantI S_ 32 0#32
  let main_v0 : IVec S4x49x4 32 := broadcastInDim S4x49x4 ![] bcast_S_S4x49x4 main_c
  let main_v1 : IVec S4x49x4 1 := cmpi .sge main_arg0 main_v0
  let main_c_0 : IVec S_ 32 := constantI S_ 32 49#32
  let main_v2 : IVec S4x49x4 32 := broadcastInDim S4x49x4 ![] bcast_S_S4x49x4 main_c_0
  let main_v3 : IVec S4x49x4 1 := cmpi .slt main_arg0 main_v2
  let main_v4 : IVec S4x49x4 1 := andi main_v1 main_v3
  let main_c_1 : IVec S_ 1 := constantI S_ 1 1#1
  let main_v5 : IVec S_ 1 := (fun x v => Host.reduce IntOp.andi x v reducesTo_S4x49x4_S_d0_1_2 h_S_) main_v4 main_c_1
  main_v5
-- ==== Pre.lean ====
abbrev S4x384x56x56 : Shape := ⟨4, ![4, 384, 56, 56]⟩
abbrev S384x1x3x3 : Shape := ⟨4, ![384, 1, 3, 3]⟩
abbrev S384 : Shape := ⟨1, ![384]⟩
abbrev S1152x384 : Shape := ⟨2, ![1152, 384]⟩
abbrev S1152 : Shape := ⟨1, ![1152]⟩
abbrev S4x56x56x384 : Shape := ⟨4, ![4, 56, 56, 384]⟩
abbrev S384x3x3 : Shape := ⟨3, ![384, 3, 3]⟩
abbrev S3x3x384 : Shape := ⟨3, ![3, 3, 384]⟩
abbrev S9x384 : Shape := ⟨2, ![9, 384]⟩
abbrev S384x1152 : Shape := ⟨2, ![384, 1152]⟩
abbrev S4x56x56x1152 : Shape := ⟨4, ![4, 56, 56, 1152]⟩
abbrev S4x49x4 : Shape := ⟨3, ![4, 49, 4]⟩
abbrev S1x56x56x384 : Shape := ⟨4, ![1, 56, 56, 384]⟩
abbrev S1x56x56x1152 : Shape := ⟨4, ![1, 56, 56, 1152]⟩
abbrev S1x49x4 : Shape := ⟨3, ![1, 49, 4]⟩
abbrev S56x56x384 : Shape := ⟨3, ![56, 56, 384]⟩
abbrev S56x1x384 : Shape := ⟨3, ![56, 1, 384]⟩
abbrev S56x58x384 : Shape := ⟨3, ![56, 58, 384]⟩
abbrev S1x58x384 : Shape := ⟨3, ![1, 58, 384]⟩
abbrev S58x58x384 : Shape := ⟨3, ![58, 58, 384]⟩
abbrev S58x56x384 : Shape := ⟨3, ![58, 56, 384]⟩
abbrev S1x1x384 : Shape := ⟨3, ![1, 1, 384]⟩
abbrev S1x384 : Shape := ⟨2, ![1, 384]⟩
abbrev S56x56 : Shape := ⟨2, ![56, 56]⟩
abbrev S56x56x1 : Shape := ⟨3, ![56, 56, 1]⟩
abbrev S3136x384 : Shape := ⟨2, ![3136, 384]⟩
abbrev S3136x1152 : Shape := ⟨2, ![3136, 1152]⟩
abbrev S1x1152 : Shape := ⟨2, ![1, 1152]⟩
abbrev S56x56x1152 : Shape := ⟨3, ![56, 56, 1152]⟩
abbrev S7x8x7x8x1152 : Shape := ⟨5, ![7, 8, 7, 8, 1152]⟩
abbrev S7x8x7x8x384 : Shape := ⟨5, ![7, 8, 7, 8, 384]⟩
abbrev S7x7x384 : Shape := ⟨3, ![7, 7, 384]⟩
abbrev S49x384 : Shape := ⟨2, ![49, 384]⟩
abbrev S49x49 : Shape := ⟨2, ![49, 49]⟩
abbrev S49 : Shape := ⟨1, ![49]⟩
abbrev S49x1 : Shape := ⟨2, ![49, 1]⟩
abbrev S49x4 : Shape := ⟨2, ![49, 4]⟩

abbrev nBuf : Space → Nat
  | .hbm => 16
  | .vmem => 14
  | .smem => 0
  | _ => 0

abbrev bufTy : (tb : Table) → Fin (tcTables nBuf tb) → BufTy
  | .hbm, ⟨0, _⟩ => ⟨S4x384x56x56, .f32⟩
  | .hbm, ⟨1, _⟩ => ⟨S384x1x3x3, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S1152x384, .f32⟩
  | .hbm, ⟨6, _⟩ => ⟨S1152, .f32⟩
  | .hbm, ⟨7, _⟩ => ⟨S4x56x56x384, .f32⟩
  | .hbm, ⟨8, _⟩ => ⟨S384x3x3, .f32⟩
  | .hbm, ⟨9, _⟩ => ⟨S3x3x384, .f32⟩
  | .hbm, ⟨10, _⟩ => ⟨S9x384, .f32⟩
  | .hbm, ⟨11, _⟩ => ⟨S384x1152, .f32⟩
  | .hbm, ⟨12, _⟩ => ⟨S384x1152, .bf16⟩
  | .hbm, ⟨13, _⟩ => ⟨S4x56x56x384, .f32⟩
  | .hbm, ⟨14, _⟩ => ⟨S4x56x56x1152, .f32⟩
  | .hbm, ⟨15, _⟩ => ⟨S4x49x4, .i32⟩
  | .local _ .vmem, ⟨0, _⟩ => ⟨S1x56x56x384, .f32⟩
  | .local _ .vmem, ⟨1, _⟩ => ⟨S1x56x56x384, .f32⟩
  | .local _ .vmem, ⟨2, _⟩ => ⟨S9x384, .f32⟩
  | .local _ .vmem, ⟨3, _⟩ => ⟨S384, .f32⟩
  | .local _ .vmem, ⟨4, _⟩ => ⟨S384, .f32⟩
  | .local _ .vmem, ⟨5, _⟩ => ⟨S384, .f32⟩
  | .local _ .vmem, ⟨6, _⟩ => ⟨S384x1152, .bf16⟩
  | .local _ .vmem, ⟨7, _⟩ => ⟨S1152, .f32⟩
  | .local _ .vmem, ⟨8, _⟩ => ⟨S1x56x56x384, .f32⟩
  | .local _ .vmem, ⟨9, _⟩ => ⟨S1x56x56x384, .f32⟩
  | .local _ .vmem, ⟨10, _⟩ => ⟨S1x56x56x1152, .f32⟩
  | .local _ .vmem, ⟨11, _⟩ => ⟨S1x56x56x1152, .f32⟩
  | .local _ .vmem, ⟨12, _⟩ => ⟨S1x49x4, .i32⟩
  | .local _ .vmem, ⟨13, _⟩ => ⟨S1x49x4, .i32⟩
  | _, _ => ⟨S4x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x56x56x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1152 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1152 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x56x56x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x56x56x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x49x4 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefPreIdeal.lean ====
abbrev S4x384x56x56 : Shape := ⟨4, ![4, 384, 56, 56]⟩
abbrev S384x1x3x3 : Shape := ⟨4, ![384, 1, 3, 3]⟩
abbrev S384 : Shape := ⟨1, ![384]⟩
abbrev S1152x384 : Shape := ⟨2, ![1152, 384]⟩
abbrev S1152 : Shape := ⟨1, ![1152]⟩
abbrev S_ : Shape := ⟨0, ![]⟩
abbrev S4x384x58x58 : Shape := ⟨4, ![4, 384, 58, 58]⟩
abbrev S4x384x56x58 : Shape := ⟨4, ![4, 384, 56, 58]⟩
abbrev S4x384x1x56x58 : Shape := ⟨5, ![4, 384, 1, 56, 58]⟩
abbrev S4x384x3x56x58 : Shape := ⟨5, ![4, 384, 3, 56, 58]⟩
abbrev S4x384x3x56x56 : Shape := ⟨5, ![4, 384, 3, 56, 56]⟩
abbrev S4x384x3x1x56x56 : Shape := ⟨6, ![4, 384, 3, 1, 56, 56]⟩
abbrev S4x384x3x3x56x56 : Shape := ⟨6, ![4, 384, 3, 3, 56, 56]⟩
abbrev S384x3x3 : Shape := ⟨3, ![384, 3, 3]⟩
abbrev S1x384x3x3x1x1 : Shape := ⟨6, ![1, 384, 3, 3, 1, 1]⟩
abbrev S1x384x1x1 : Shape := ⟨4, ![1, 384, 1, 1]⟩
abbrev S4x56x56x384 : Shape := ⟨4, ![4, 56, 56, 384]⟩
abbrev S4x56x56 : Shape := ⟨3, ![4, 56, 56]⟩
abbrev S4x56x56x1 : Shape := ⟨4, ![4, 56, 56, 1]⟩
abbrev S1x1x1x384 : Shape := ⟨4, ![1, 1, 1, 384]⟩
abbrev S384x1152 : Shape := ⟨2, ![384, 1152]⟩
abbrev S4x56x56x1152 : Shape := ⟨4, ![4, 56, 56, 1152]⟩
abbrev S1x1x1x1152 : Shape := ⟨4, ![1, 1, 1, 1152]⟩

abbrev nBuf : Space → Nat
  | .hbm => 84
  | .vmem => 0
  | .smem => 0
  | _ => 0

abbrev bufTy : (tb : Table) → Fin (tcTables nBuf tb) → BufTy
  | .hbm, ⟨0, _⟩ => ⟨S4x384x56x56, .f32⟩
  | .hbm, ⟨1, _⟩ => ⟨S384x1x3x3, .f32⟩
  | .hbm, ⟨2, _⟩ => ⟨S384, .f32⟩
  | .hbm, ⟨3, _⟩ => ⟨S384, .f32⟩
  | .hbm, ⟨4, _⟩ => ⟨S384, .f32⟩
  | .hbm, ⟨5, _⟩ => ⟨S1152x384, .f32⟩
  | .hbm, ⟨6, _⟩ => ⟨S1152, .f32⟩
  | .hbm, ⟨7, _⟩ => ⟨S_, .i32⟩
  | .hbm, ⟨8, _⟩ => ⟨S_, .f32⟩
  | .hbm, ⟨9, _⟩ => ⟨S4x384x58x58, .f32⟩
  | .hbm, ⟨10, _⟩ => ⟨S4x384x56x58, .f32⟩
  | .hbm, ⟨11, _⟩ => ⟨S4x384x56x58, .f32⟩
  | .hbm, ⟨12, _⟩ => ⟨S4x384x56x58, .f32⟩
  | .hbm, ⟨13, _⟩ => ⟨S4x384x1x56x58, .f32⟩
  | .hbm, ⟨14, _⟩ => ⟨S4x384x1x56x58, .f32⟩
  | .hbm, ⟨15, _⟩ => ⟨S4x384x1x56x58, .f32⟩
  | .hbm, ⟨16, _⟩ => ⟨S4x384x3x56x58, .f32⟩
  | .hbm, ⟨17, _⟩ => ⟨S4x384x3x56x56, .f32⟩
  | .hbm, ⟨18, _⟩ => ⟨S4x384x3x56x56, .f32⟩
  | .hbm, ⟨19, _⟩ => ⟨S4x384x3x56x56, .f32⟩
  | .hbm, ⟨20, _⟩ => ⟨S4x384x3x1x56x56, .f32⟩
  | .hbm, ⟨21, _⟩ => ⟨S4x384x3x1x56x56, .f32⟩
  | .hbm, ⟨22, _⟩ => ⟨S4x384x3x1x56x56, .f32⟩
  | .hbm, ⟨23, _⟩ => ⟨S4x384x3x3x56x56, .f32⟩
  | .hbm, ⟨24, _⟩ => ⟨S384x3x3, .f32⟩
  | .hbm, ⟨25, _⟩ => ⟨S1x384x3x3x1x1, .f32⟩
  | .hbm, ⟨26, _⟩ => ⟨S4x384x3x3x56x56, .f32⟩
  | .hbm, ⟨27, _⟩ => ⟨S4x384x3x3x56x56, .f32⟩
  | .hbm, ⟨28, _⟩ => ⟨S_, .f32⟩
  | .hbm, ⟨29, _⟩ => ⟨S4x384x56x56, .f32⟩
  | .hbm, ⟨30, _⟩ => ⟨S1x384x1x1, .f32⟩
  | .hbm, ⟨31, _⟩ => ⟨S4x384x56x56, .f32⟩
  | .hbm, ⟨32, _⟩ => ⟨S4x384x56x56, .f32⟩
  | .hbm, ⟨33, _⟩ => ⟨S4x384x56x56, .f32⟩
  | .hbm, ⟨34, _⟩ => ⟨S4x56x56x384, .f32⟩
  | .hbm, ⟨35, _⟩ => ⟨S_, .f32⟩
  | .hbm, ⟨36, _⟩ => ⟨S4x56x56, .f32⟩
  | .hbm, ⟨37, _⟩ => ⟨S4x56x56x1, .f32⟩
  | .hbm, ⟨38, _⟩ => ⟨S_, .f32⟩
  | .hbm, ⟨39, _⟩ => ⟨S4x56x56x1, .f32⟩
  | .hbm, ⟨40, _⟩ => ⟨S4x56x56x1, .f32⟩
  | .hbm, ⟨41, _⟩ => ⟨S_, .i32⟩
  | .hbm, ⟨42, _⟩ => ⟨S_, .f32⟩
  | .hbm, ⟨43, _⟩ => ⟨S4x56x56, .f32⟩
  | .hbm, ⟨44, _⟩ => ⟨S4x56x56x1, .f32⟩
  | .hbm, ⟨45, _⟩ => ⟨S_, .f32⟩
  | .hbm, ⟨46, _⟩ => ⟨S4x56x56x1, .f32⟩
  | .hbm, ⟨47, _⟩ => ⟨S4x56x56x1, .f32⟩
  | .hbm, ⟨48, _⟩ => ⟨S4x56x56x384, .f32⟩
  | .hbm, ⟨49, _⟩ => ⟨S4x56x56x384, .f32⟩
  | .hbm, ⟨50, _⟩ => ⟨S4x56x56x384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4x56x56, .f32⟩
  | .hbm, ⟨56, _⟩ => ⟨S4x56x56x1, .f32⟩
  | .hbm, ⟨57, _⟩ => ⟨S4x56x56x1, .f32⟩
  | .hbm, ⟨58, _⟩ => ⟨S4x56x56x1, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S4x56x56x1, .f32⟩
  | .hbm, ⟨64, _⟩ => ⟨S4x56x56x1, .f32⟩
  | .hbm, ⟨65, _⟩ => ⟨S4x56x56x384, .f32⟩
  | .hbm, ⟨66, _⟩ => ⟨S4x56x56x384, .f32⟩
  | .hbm, ⟨67, _⟩ => ⟨S_, .f32⟩
  | .hbm, ⟨68, _⟩ => ⟨S4x56x56x1, .f32⟩
  | .hbm, ⟨69, _⟩ => ⟨S4x56x56x1, .f32⟩
  | .hbm, ⟨70, _⟩ => ⟨S4x56x56x1, .f32⟩
  | .hbm, ⟨71, _⟩ => ⟨S4x56x56x384, .f32⟩
  | .hbm, ⟨72, _⟩ => ⟨S4x56x56x384, .f32⟩
  | .hbm, ⟨73, _⟩ => ⟨S1x1x1x384, .f32⟩
  | .hbm, ⟨74, _⟩ => ⟨S4x56x56x384, .f32⟩
  | .hbm, ⟨75, _⟩ => ⟨S4x56x56x384, .f32⟩
  | .hbm, ⟨76, _⟩ => ⟨S1x1x1x384, .f32⟩
  | .hbm, ⟨77, _⟩ => ⟨S4x56x56x384, .f32⟩
  | .hbm, ⟨78, _⟩ => ⟨S4x56x56x384, .f32⟩
  | .hbm, ⟨79, _⟩ => ⟨S384x1152, .f32⟩
  | .hbm, ⟨80, _⟩ => ⟨S4x56x56x1152, .f32⟩
  | .hbm, ⟨81, _⟩ => ⟨S1x1x1x1152, .f32⟩
  | .hbm, ⟨82, _⟩ => ⟨S4x56x56x1152, .f32⟩
  | .hbm, ⟨83, _⟩ => ⟨S4x56x56x1152, .f32⟩
  | _, _ => ⟨S4x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_cst_2 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_cst_3 : Ref sig .tc := ⟨.hbm, 59, rfl⟩
abbrev main_call1_v13 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩

abbrev nD : Nat := 1
abbrev τ : Topo := Topo.v7x

variable {F : FTy → Type} [FloatOps F]
-- ==== Attn.lean ====
abbrev S4x49x4 : Shape := ⟨3, ![4, 49, 4]⟩
abbrev S4x56x56x1152 : Shape := ⟨4, ![4, 56, 56, 1152]⟩
abbrev S784 : Shape := ⟨1, ![784]⟩
abbrev S4x56x56x384 : Shape := ⟨4, ![4, 56, 56, 384]⟩
abbrev S1x56x56x1152 : Shape := ⟨4, ![1, 56, 56, 1152]⟩
abbrev S1x8x56x384 : Shape := ⟨4, ![1, 8, 56, 384]⟩
abbrev S768x384 : Shape := ⟨2, ![768, 384]⟩
abbrev S1x8x8x384 : Shape := ⟨4, ![1, 8, 8, 384]⟩
abbrev S8x8x384 : Shape := ⟨3, ![8, 8, 384]⟩
abbrev S64x384 : Shape := ⟨2, ![64, 384]⟩
abbrev S1 : Shape := ⟨1, ![1]⟩
abbrev S1x8x8x768 : Shape := ⟨4, ![1, 8, 8, 768]⟩
abbrev S8x8x768 : Shape := ⟨3, ![8, 8, 768]⟩
abbrev S64x768 : Shape := ⟨2, ![64, 768]⟩
abbrev S256x384 : Shape := ⟨2, ![256, 384]⟩
abbrev S64x32 : Shape := ⟨2, ![64, 32]⟩
abbrev S768x256 : Shape := ⟨2, ![768, 256]⟩
abbrev S768 : Shape := ⟨1, ![768]⟩
abbrev S768x1 : Shape := ⟨2, ![768, 1]⟩

abbrev nBuf : Space → Nat
  | .hbm => 3
  | .vmem => 5
  | .smem => 1
  | _ => 0

abbrev bufTy : (tb : Table) → Fin (tcTables nBuf tb) → BufTy
  | .hbm, ⟨0, _⟩ => ⟨S4x49x4, .i32⟩
  | .hbm, ⟨1, _⟩ => ⟨S4x56x56x1152, .f32⟩
  | .hbm, ⟨2, _⟩ => ⟨S4x56x56x384, .f32⟩
  | .local _ .vmem, ⟨0, _⟩ => ⟨S1x56x56x1152, .f32⟩
  | .local _ .vmem, ⟨1, _⟩ => ⟨S1x56x56x1152, .f32⟩
  | .local _ .vmem, ⟨2, _⟩ => ⟨S1x8x56x384, .f32⟩
  | .local _ .vmem, ⟨3, _⟩ => ⟨S1x8x56x384, .f32⟩
  | .local _ .vmem, ⟨4, _⟩ => ⟨S768x384, .bf16⟩
  | .local _ .smem, ⟨0, _⟩ => ⟨S784, .i32⟩
  | _, _ => ⟨S4x49x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 7], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 4 → Nat :=
  let c0 : Index := 0#32
  let arg1 : BitVec 32 := BitVec.ofNat 32 (i 1).val
  let c8_i32 : BitVec 32 := 8#32
  let v5 : BitVec 32 := Scalar.muli arg1 c8_i32
  let v6 : Index := Scalar.indexCast v5
  let c0_2 : Index := 0#32
  let c0_3 : Index := 0#32
  ![0, v6.toNat, 0, 0]
def k0_off2 (i : grid0.Coords) : Fin 1 → Nat :=
  let arg0 : BitVec 32 := BitVec.ofNat 32 (i 0).val
  let c49_i32 : BitVec 32 := 49#32
  let v12 : BitVec 32 := Scalar.muli arg0 c49_i32
  let arg1 : BitVec 32 := BitVec.ofNat 32 (i 1).val
  let c7_i32 : BitVec 32 := 7#32
  let v13 : BitVec 32 := Scalar.muli arg1 c7_i32
  let v14 : BitVec 32 := Scalar.addi v12 v13
  let c0_i32_4 : BitVec 32 := 0#32
  let v15 : BitVec 32 := Scalar.addi v14 c0_i32_4
  let c4_i32 : BitVec 32 := 4#32
  let v16 : BitVec 32 := Scalar.muli v15 c4_i32
  let c0_i32_5 : BitVec 32 := 0#32
  let v17 : BitVec 32 := Scalar.addi v16 c0_i32_5
  let v18 : Index := Scalar.indexCast v17
  ![v18.toNat]
def k0_off3 (v19 : BitVec 32) : Fin 4 → Nat :=
  let c0_20 : Index := 0#32
  let c0_i32_7 : BitVec 32 := 0#32
  let v21 : BitVec 1 := Scalar.cmpi .sgt v19 c0_i32_7
  let v22 : BitVec 32 := Scalar.extui v21
  let c0_i32_8 : BitVec 32 := 0#32
  let v23 : BitVec 1 := Scalar.cmpi .slt v19 c0_i32_8
  let v24 : BitVec 32 := Scalar.extui v23
  let v25 : BitVec 32 := Scalar.subi v22 v24
  let c7_i32_6 : BitVec 32 := 7#32
  let c0_i32_9 : BitVec 32 := 0#32
  let v26 : BitVec 1 := Scalar.cmpi .sgt c7_i32_6 c0_i32_9
  let v27 : BitVec 32 := Scalar.extui v26
  let c0_i32_10 : BitVec 32 := 0#32
  let v28 : BitVec 1 := Scalar.cmpi .slt c7_i32_6 c0_i32_10
  let v29 : BitVec 32 := Scalar.extui v28
  let v30 : BitVec 32 := Scalar.subi v27 v29
  let v31 : BitVec 1 := Scalar.cmpi .ne v25 v30
  let v32 : BitVec 32 := Scalar.remsi v19 c7_i32_6
  let c0_i32_11 : BitVec 32 := 0#32
  let v33 : BitVec 1 := Scalar.cmpi .ne v32 c0_i32_11
  let v34 : BitVec 1 := Scalar.andi v31 v33
  let v20 : BitVec 32 := Scalar.divsi v19 c7_i32_6
  let c1_i32 : BitVec 32 := 1#32
  let v35 : BitVec 32 := Scalar.subi v20 c1_i32
  let v36 : BitVec 32 := Scalar.select v34 v35 v20
  let c8_i32_18 : BitVec 32 := 8#32
  let v47 : BitVec 32 := Scalar.muli v36 c8_i32_18
  let v49 : Index := Scalar.indexCast v47
  let c7_i32_12 : BitVec 32 := 7#32
  let c0_i32_13 : BitVec 32 := 0#32
  let v37 : BitVec 1 := Scalar.cmpi .eq c7_i32_12 c0_i32_13
  let c1_i32_14 : BitVec 32 := 1#32
  let v38 : BitVec 32 := Scalar.select v37 c1_i32_14 c7_i32_12
  let v39 : BitVec 32 := Scalar.remsi v19 v38
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let c0_i32_15 : BitVec 32 := 0#32
  let v40 : BitVec 1 := Scalar.cmpi .ne v39 c0_i32_15
  let v44 : BitVec 1 := Scalar.andi v43 v40
  let v45 : BitVec 32 := Scalar.addi v39 v38
  let v46 : BitVec 32 := Scalar.select v44 v45 v39
  let c8_i32_19 : BitVec 32 := 8#32
  let v48 : BitVec 32 := Scalar.muli v46 c8_i32_19
  let v50 : Index := Scalar.indexCast v48
  let c384 : Index := 384#32
  ![0, v49.toNat, v50.toNat, 384]

def k0_chk1 (v19 : BitVec 32) : Prop :=
  (∀ a, (k0_off3 v19) a + S1x8x8x768.size a ≤ S1x56x56x1152.size a)
theorem k0_off3_inb : ∀ (v19 : BitVec 32) (k0_hw1 : k0_chk1 v19), ∀ a, (k0_off3 v19) a + S1x8x8x768.size a ≤ S1x56x56x1152.size a := fun v19 k0_hw1 => k0_hw1

def k0_off4 (i : grid0.Coords) : Fin 1 → Nat :=
  let arg0 : BitVec 32 := BitVec.ofNat 32 (i 0).val
  let c49_i32 : BitVec 32 := 49#32
  let v12 : BitVec 32 := Scalar.muli arg0 c49_i32
  let arg1 : BitVec 32 := BitVec.ofNat 32 (i 1).val
  let c7_i32 : BitVec 32 := 7#32
  let v13 : BitVec 32 := Scalar.muli arg1 c7_i32
  let v14 : BitVec 32 := Scalar.addi v12 v13
  let c0_i32_4 : BitVec 32 := 0#32
  let v15 : BitVec 32 := Scalar.addi v14 c0_i32_4
  let c4_i32 : BitVec 32 := 4#32
  let v16 : BitVec 32 := Scalar.muli v15 c4_i32
  let c1_i32_21 : BitVec 32 := 1#32
  let v56 : BitVec 32 := Scalar.addi v16 c1_i32_21
  let v57 : Index := Scalar.indexCast v56
  ![v57.toNat]
def k0_off5 (v58 : BitVec 32) : Fin 4 → Nat :=
  let c0_37 : Index := 0#32
  let c0_i32_23 : BitVec 32 := 0#32
  let v60 : BitVec 1 := Scalar.cmpi .sgt v58 c0_i32_23
  let v61 : BitVec 32 := Scalar.extui v60
  let c0_i32_24 : BitVec 32 := 0#32
  let v62 : BitVec 1 := Scalar.cmpi .slt v58 c0_i32_24
  let v63 : BitVec 32 := Scalar.extui v62
  let v64 : BitVec 32 := Scalar.subi v61 v63
  let c7_i32_22 : BitVec 32 := 7#32
  let c0_i32_25 : BitVec 32 := 0#32
  let v65 : BitVec 1 := Scalar.cmpi .sgt c7_i32_22 c0_i32_25
  let v66 : BitVec 32 := Scalar.extui v65
  let c0_i32_26 : BitVec 32 := 0#32
  let v67 : BitVec 1 := Scalar.cmpi .slt c7_i32_22 c0_i32_26
  let v68 : BitVec 32 := Scalar.extui v67
  let v69 : BitVec 32 := Scalar.subi v66 v68
  let v70 : BitVec 1 := Scalar.cmpi .ne v64 v69
  let v71 : BitVec 32 := Scalar.remsi v58 c7_i32_22
  let c0_i32_27 : BitVec 32 := 0#32
  let v72 : BitVec 1 := Scalar.cmpi .ne v71 c0_i32_27
  let v73 : BitVec 1 := Scalar.andi v70 v72
  let v59 : BitVec 32 := Scalar.divsi v58 c7_i32_22
  let c1_i32_28 : BitVec 32 := 1#32
  let v74 : BitVec 32 := Scalar.subi v59 c1_i32_28
  let v75 : BitVec 32 := Scalar.select v73 v74 v59
  let c8_i32_35 : BitVec 32 := 8#32
  let v86 : BitVec 32 := Scalar.muli v75 c8_i32_35
  let v88 : Index := Scalar.indexCast v86
  let c7_i32_29 : BitVec 32 := 7#32
  let c0_i32_30 : BitVec 32 := 0#32
  let v76 : BitVec 1 := Scalar.cmpi .eq c7_i32_29 c0_i32_30
  let c1_i32_31 : BitVec 32 := 1#32
  let v77 : BitVec 32 := Scalar.select v76 c1_i32_31 c7_i32_29
  let v78 : BitVec 32 := Scalar.remsi v58 v77
  let c0_i32_33 : BitVec 32 := 0#32
  let v80 : BitVec 1 := Scalar.cmpi .slt v78 c0_i32_33
  let c0_i32_34 : BitVec 32 := 0#32
  let v81 : BitVec 1 := Scalar.cmpi .slt v77 c0_i32_34
  let v82 : BitVec 1 := Scalar.xori v80 v81
  let c0_i32_32 : BitVec 32 := 0#32
  let v79 : BitVec 1 := Scalar.cmpi .ne v78 c0_i32_32
  let v83 : BitVec 1 := Scalar.andi v82 v79
  let v84 : BitVec 32 := Scalar.addi v78 v77
  let v85 : BitVec 32 := Scalar.select v83 v84 v78
  let c8_i32_36 : BitVec 32 := 8#32
  let v87 : BitVec 32 := Scalar.muli v85 c8_i32_36
  let v89 : Index := Scalar.indexCast v87
  let c384_38 : Index := 384#32
  ![0, v88.toNat, v89.toNat, 384]

def k0_chk2 (v58 : BitVec 32) : Prop :=
  (∀ a, (k0_off5 v58) a + S1x8x8x768.size a ≤ S1x56x56x1152.size a)
theorem k0_off5_inb : ∀ (v58 : BitVec 32) (k0_hw2 : k0_chk2 v58), ∀ a, (k0_off5 v58) a + S1x8x8x768.size a ≤ S1x56x56x1152.size a := fun v58 k0_hw2 => k0_hw2

def k0_off6 (i : grid0.Coords) : Fin 1 → Nat :=
  let arg0 : BitVec 32 := BitVec.ofNat 32 (i 0).val
  let c49_i32 : BitVec 32 := 49#32
  let v12 : BitVec 32 := Scalar.muli arg0 c49_i32
  let arg1 : BitVec 32 := BitVec.ofNat 32 (i 1).val
  let c7_i32 : BitVec 32 := 7#32
  let v13 : BitVec 32 := Scalar.muli arg1 c7_i32
  let v14 : BitVec 32 := Scalar.addi v12 v13
  let c0_i32_4 : BitVec 32 := 0#32
  let v15 : BitVec 32 := Scalar.addi v14 c0_i32_4
  let c4_i32 : BitVec 32 := 4#32
  let v16 : BitVec 32 := Scalar.muli v15 c4_i32
  let c2_i32 : BitVec 32 := 2#32
  let v95 : BitVec 32 := Scalar.addi v16 c2_i32
  let v96 : Index := Scalar.indexCast v95
  ![v96.toNat]
def k0_off7 (v97 : BitVec 32) : Fin 4 → Nat :=
  let c0_54 : Index := 0#32
  let c0_i32_40 : BitVec 32 := 0#32
  let v99 : BitVec 1 := Scalar.cmpi .sgt v97 c0_i32_40
  let v100 : BitVec 32 := Scalar.extui v99
  let c0_i32_41 : BitVec 32 := 0#32
  let v101 : BitVec 1 := Scalar.cmpi .slt v97 c0_i32_41
  let v102 : BitVec 32 := Scalar.extui v101
  let v103 : BitVec 32 := Scalar.subi v100 v102
  let c7_i32_39 : BitVec 32 := 7#32
  let c0_i32_42 : BitVec 32 := 0#32
  let v104 : BitVec 1 := Scalar.cmpi .sgt c7_i32_39 c0_i32_42
  let v105 : BitVec 32 := Scalar.extui v104
  let c0_i32_43 : BitVec 32 := 0#32
  let v106 : BitVec 1 := Scalar.cmpi .slt c7_i32_39 c0_i32_43
  let v107 : BitVec 32 := Scalar.extui v106
  let v108 : BitVec 32 := Scalar.subi v105 v107
  let v109 : BitVec 1 := Scalar.cmpi .ne v103 v108
  let v110 : BitVec 32 := Scalar.remsi v97 c7_i32_39
  let c0_i32_44 : BitVec 32 := 0#32
  let v111 : BitVec 1 := Scalar.cmpi .ne v110 c0_i32_44
  let v112 : BitVec 1 := Scalar.andi v109 v111
  let v98 : BitVec 32 := Scalar.divsi v97 c7_i32_39
  let c1_i32_45 : BitVec 32 := 1#32
  let v113 : BitVec 32 := Scalar.subi v98 c1_i32_45
  let v114 : BitVec 32 := Scalar.select v112 v113 v98
  let c8_i32_52 : BitVec 32 := 8#32
  let v125 : BitVec 32 := Scalar.muli v114 c8_i32_52
  let v127 : Index := Scalar.indexCast v125
  let c7_i32_46 : BitVec 32 := 7#32
  let c0_i32_47 : BitVec 32 := 0#32
  let v115 : BitVec 1 := Scalar.cmpi .eq c7_i32_46 c0_i32_47
  let c1_i32_48 : BitVec 32 := 1#32
  let v116 : BitVec 32 := Scalar.select v115 c1_i32_48 c7_i32_46
  let v117 : BitVec 32 := Scalar.remsi v97 v116
  let c0_i32_50 : BitVec 32 := 0#32
  let v119 : BitVec 1 := Scalar.cmpi .slt v117 c0_i32_50
  let c0_i32_51 : BitVec 32 := 0#32
  let v120 : BitVec 1 := Scalar.cmpi .slt v116 c0_i32_51
  let v121 : BitVec 1 := Scalar.xori v119 v120
  let c0_i32_49 : BitVec 32 := 0#32
  let v118 : BitVec 1 := Scalar.cmpi .ne v117 c0_i32_49
  let v122 : BitVec 1 := Scalar.andi v121 v118
  let v123 : BitVec 32 := Scalar.addi v117 v116
  let v124 : BitVec 32 := Scalar.select v122 v123 v117
  let c8_i32_53 : BitVec 32 := 8#32
  let v126 : BitVec 32 := Scalar.muli v124 c8_i32_53
  let v128 : Index := Scalar.indexCast v126
  let c384_55 : Index := 384#32
  ![0, v127.toNat, v128.toNat, 384]

def k0_chk3 (v97 : BitVec 32) : Prop :=
  (∀ a, (k0_off7 v97) a + S1x8x8x768.size a ≤ S1x56x56x1152.size a)
theorem k0_off7_inb : ∀ (v97 : BitVec 32) (k0_hw3 : k0_chk3 v97), ∀ a, (k0_off7 v97) a + S1x8x8x768.size a ≤ S1x56x56x1152.size a := fun v97 k0_hw3 => k0_hw3

def k0_off8 (i : grid0.Coords) : Fin 1 → Nat :=
  let arg0 : BitVec 32 := BitVec.ofNat 32 (i 0).val
  let c49_i32 : BitVec 32 := 49#32
  let v12 : BitVec 32 := Scalar.muli arg0 c49_i32
  let arg1 : BitVec 32 := BitVec.ofNat 32 (i 1).val
  let c7_i32 : BitVec 32 := 7#32
  let v13 : BitVec 32 := Scalar.muli arg1 c7_i32
  let v14 : BitVec 32 := Scalar.addi v12 v13
  let c0_i32_4 : BitVec 32 := 0#32
  let v15 : BitVec 32 := Scalar.addi v14 c0_i32_4
  let c4_i32 : BitVec 32 := 4#32
  let v16 : BitVec 32 := Scalar.muli v15 c4_i32
  let c3_i32 : BitVec 32 := 3#32
  let v134 : BitVec 32 := Scalar.addi v16 c3_i32
  let v135 : Index := Scalar.indexCast v134
  ![v135.toNat]
def k0_off9 (v136 : BitVec 32) : Fin 4 → Nat :=
  let c0_71 : Index := 0#32
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c7_i32_56 : BitVec 32 := 7#32
  let c0_i32_59 : BitVec 32 := 0#32
  let v143 : BitVec 1 := Scalar.cmpi .sgt c7_i32_56 c0_i32_59
  let v144 : BitVec 32 := Scalar.extui v143
  let c0_i32_60 : BitVec 32 := 0#32
  let v145 : BitVec 1 := Scalar.cmpi .slt c7_i32_56 c0_i32_60
  let v146 : BitVec 32 := Scalar.extui v145
  let v147 : BitVec 32 := Scalar.subi v144 v146
  let v148 : BitVec 1 := Scalar.cmpi .ne v142 v147
  let v149 : BitVec 32 := Scalar.remsi v136 c7_i32_56
  let c0_i32_61 : BitVec 32 := 0#32
  let v150 : BitVec 1 := Scalar.cmpi .ne v149 c0_i32_61
  let v151 : BitVec 1 := Scalar.andi v148 v150
  let v137 : BitVec 32 := Scalar.divsi v136 c7_i32_56
  let c1_i32_62 : BitVec 32 := 1#32
  let v152 : BitVec 32 := Scalar.subi v137 c1_i32_62
  let v153 : BitVec 32 := Scalar.select v151 v152 v137
  let c8_i32_69 : BitVec 32 := 8#32
  let v164 : BitVec 32 := Scalar.muli v153 c8_i32_69
  let v166 : Index := Scalar.indexCast v164
  let c7_i32_63 : BitVec 32 := 7#32
  let c0_i32_64 : BitVec 32 := 0#32
  let v154 : BitVec 1 := Scalar.cmpi .eq c7_i32_63 c0_i32_64
  let c1_i32_65 : BitVec 32 := 1#32
  let v155 : BitVec 32 := Scalar.select v154 c1_i32_65 c7_i32_63
  let v156 : BitVec 32 := Scalar.remsi v136 v155
  let c0_i32_67 : BitVec 32 := 0#32
  let v158 : BitVec 1 := Scalar.cmpi .slt v156 c0_i32_67
  let c0_i32_68 : BitVec 32 := 0#32
  let v159 : BitVec 1 := Scalar.cmpi .slt v155 c0_i32_68
  let v160 : BitVec 1 := Scalar.xori v158 v159
  let c0_i32_66 : BitVec 32 := 0#32
  let v157 : BitVec 1 := Scalar.cmpi .ne v156 c0_i32_66
  let v161 : BitVec 1 := Scalar.andi v160 v157
  let v162 : BitVec 32 := Scalar.addi v156 v155
  let v163 : BitVec 32 := Scalar.select v161 v162 v156
  let c8_i32_70 : BitVec 32 := 8#32
  let v165 : BitVec 32 := Scalar.muli v163 c8_i32_70
  let v167 : Index := Scalar.indexCast v165
  let c384_72 : Index := 384#32
  ![0, v166.toNat, v167.toNat, 384]

def k0_chk4 (v136 : BitVec 32) : Prop :=
  (∀ a, (k0_off9 v136) a + S1x8x8x768.size a ≤ S1x56x56x1152.size a)
theorem k0_off9_inb : ∀ (v136 : BitVec 32) (k0_hw4 : k0_chk4 v136), ∀ a, (k0_off9 v136) a + S1x8x8x768.size a ≤ S1x56x56x1152.size a := fun v136 k0_hw4 => k0_hw4

def k0_off10 (i : grid0.Coords) : Fin 4 → Nat :=
  let c0_92 : Index := 0#32
  let arg1 : BitVec 32 := BitVec.ofNat 32 (i 1).val
  let c8_i32_91 : BitVec 32 := 8#32
  let v256 : BitVec 32 := Scalar.muli arg1 c8_i32_91
  let v257 : Index := Scalar.indexCast v256
  let c8 : Index := 8#32
  let c0_93 : Index := 0#32
  ![0, v257.toNat, 8, 0]
def k0_off11 (i : grid0.Coords) : Fin 1 → Nat :=
  let arg0 : BitVec 32 := BitVec.ofNat 32 (i 0).val
  let c49_i32_95 : BitVec 32 := 49#32
  let v263 : BitVec 32 := Scalar.muli arg0 c49_i32_95
  let arg1 : BitVec 32 := BitVec.ofNat 32 (i 1).val
  let c7_i32_96 : BitVec 32 := 7#32
  let v264 : BitVec 32 := Scalar.muli arg1 c7_i32_96
  let v265 : BitVec 32 := Scalar.addi v263 v264
  let c1_i32_97 : BitVec 32 := 1#32
  let v266 : BitVec 32 := Scalar.addi v265 c1_i32_97
  let c4_i32_98 : BitVec 32 := 4#32
  let v267 : BitVec 32 := Scalar.muli v266 c4_i32_98
  let c0_i32_99 : BitVec 32 := 0#32
  let v268 : BitVec 32 := Scalar.addi v267 c0_i32_99
  let v269 : Index := Scalar.indexCast v268
  ![v269.toNat]
def k0_off12 (v270 : BitVec 32) : Fin 4 → Nat :=
  let c0_115 : Index := 0#32
  let c0_i32_101 : BitVec 32 := 0#32
  let v272 : BitVec 1 := Scalar.cmpi .sgt v270 c0_i32_101
  let v273 : BitVec 32 := Scalar.extui v272
  let c0_i32_102 : BitVec 32 := 0#32
  let v274 : BitVec 1 := Scalar.cmpi .slt v270 c0_i32_102
  let v275 : BitVec 32 := Scalar.extui v274
  let v276 : BitVec 32 := Scalar.subi v273 v275
  let c7_i32_100 : BitVec 32 := 7#32
  let c0_i32_103 : BitVec 32 := 0#32
  let v277 : BitVec 1 := Scalar.cmpi .sgt c7_i32_100 c0_i32_103
  let v278 : BitVec 32 := Scalar.extui v277
  let c0_i32_104 : BitVec 32 := 0#32
  let v279 : BitVec 1 := Scalar.cmpi .slt c7_i32_100 c0_i32_104
  let v280 : BitVec 32 := Scalar.extui v279
  let v281 : BitVec 32 := Scalar.subi v278 v280
  let v282 : BitVec 1 := Scalar.cmpi .ne v276 v281
  let v283 : BitVec 32 := Scalar.remsi v270 c7_i32_100
  let c0_i32_105 : BitVec 32 := 0#32
  let v284 : BitVec 1 := Scalar.cmpi .ne v283 c0_i32_105
  let v285 : BitVec 1 := Scalar.andi v282 v284
  let v271 : BitVec 32 := Scalar.divsi v270 c7_i32_100
  let c1_i32_106 : BitVec 32 := 1#32
  let v286 : BitVec 32 := Scalar.subi v271 c1_i32_106
  let v287 : BitVec 32 := Scalar.select v285 v286 v271
  let c8_i32_113 : BitVec 32 := 8#32
  let v298 : BitVec 32 := Scalar.muli v287 c8_i32_113
  let v300 : Index := Scalar.indexCast v298
  let c7_i32_107 : BitVec 32 := 7#32
  let c0_i32_108 : BitVec 32 := 0#32
  let v288 : BitVec 1 := Scalar.cmpi .eq c7_i32_107 c0_i32_108
  let c1_i32_109 : BitVec 32 := 1#32
  let v289 : BitVec 32 := Scalar.select v288 c1_i32_109 c7_i32_107
  let v290 : BitVec 32 := Scalar.remsi v270 v289
  let c0_i32_111 : BitVec 32 := 0#32
  let v292 : BitVec 1 := Scalar.cmpi .slt v290 c0_i32_111
  let c0_i32_112 : BitVec 32 := 0#32
  let v293 : BitVec 1 := Scalar.cmpi .slt v289 c0_i32_112
  let v294 : BitVec 1 := Scalar.xori v292 v293
  let c0_i32_110 : BitVec 32 := 0#32
  let v291 : BitVec 1 := Scalar.cmpi .ne v290 c0_i32_110
  let v295 : BitVec 1 := Scalar.andi v294 v291
  let v296 : BitVec 32 := Scalar.addi v290 v289
  let v297 : BitVec 32 := Scalar.select v295 v296 v290
  let c8_i32_114 : BitVec 32 := 8#32
  let v299 : BitVec 32 := Scalar.muli v297 c8_i32_114
  let v301 : Index := Scalar.indexCast v299
  let c384_116 : Index := 384#32
  ![0, v300.toNat, v301.toNat, 384]

def k0_chk5 (v270 : BitVec 32) : Prop :=
  (∀ a, (k0_off12 v270) a + S1x8x8x768.size a ≤ S1x56x56x1152.size a)
theorem k0_off12_inb : ∀ (v270 : BitVec 32) (k0_hw5 : k0_chk5 v270), ∀ a, (k0_off12 v270) a + S1x8x8x768.size a ≤ S1x56x56x1152.size a := fun v270 k0_hw5 => k0_hw5

def k0_off13 (i : grid0.Coords) : Fin 1 → Nat :=
  let arg0 : BitVec 32 := BitVec.ofNat 32 (i 0).val
  let c49_i32_95 : BitVec 32 := 49#32
  let v263 : BitVec 32 := Scalar.muli arg0 c49_i32_95
  let arg1 : BitVec 32 := BitVec.ofNat 32 (i 1).val
  let c7_i32_96 : BitVec 32 := 7#32
  let v264 : BitVec 32 := Scalar.muli arg1 c7_i32_96
  let v265 : BitVec 32 := Scalar.addi v263 v264
  let c1_i32_97 : BitVec 32 := 1#32
  let v266 : BitVec 32 := Scalar.addi v265 c1_i32_97
  let c4_i32_98 : BitVec 32 := 4#32
  let v267 : BitVec 32 := Scalar.muli v266 c4_i32_98
  let c1_i32_117 : BitVec 32 := 1#32
  let v307 : BitVec 32 := Scalar.addi v267 c1_i32_117
  let v308 : Index := Scalar.indexCast v307
  ![v308.toNat]
def k0_off14 (v309 : BitVec 32) : Fin 4 → Nat :=
  let c0_133 : Index := 0#32
  let c0_i32_119 : BitVec 32 := 0#32
  let v311 : BitVec 1 := Scalar.cmpi .sgt v309 c0_i32_119
  let v312 : BitVec 32 := Scalar.extui v311
  let c0_i32_120 : BitVec 32 := 0#32
  let v313 : BitVec 1 := Scalar.cmpi .slt v309 c0_i32_120
  let v314 : BitVec 32 := Scalar.extui v313
  let v315 : BitVec 32 := Scalar.subi v312 v314
  let c7_i32_118 : BitVec 32 := 7#32
  let c0_i32_121 : BitVec 32 := 0#32
  let v316 : BitVec 1 := Scalar.cmpi .sgt c7_i32_118 c0_i32_121
  let v317 : BitVec 32 := Scalar.extui v316
  let c0_i32_122 : BitVec 32 := 0#32
  let v318 : BitVec 1 := Scalar.cmpi .slt c7_i32_118 c0_i32_122
  let v319 : BitVec 32 := Scalar.extui v318
  let v320 : BitVec 32 := Scalar.subi v317 v319
  let v321 : BitVec 1 := Scalar.cmpi .ne v315 v320
  let v322 : BitVec 32 := Scalar.remsi v309 c7_i32_118
  let c0_i32_123 : BitVec 32 := 0#32
  let v323 : BitVec 1 := Scalar.cmpi .ne v322 c0_i32_123
  let v324 : BitVec 1 := Scalar.andi v321 v323
  let v310 : BitVec 32 := Scalar.divsi v309 c7_i32_118
  let c1_i32_124 : BitVec 32 := 1#32
  let v325 : BitVec 32 := Scalar.subi v310 c1_i32_124
  let v326 : BitVec 32 := Scalar.select v324 v325 v310
  let c8_i32_131 : BitVec 32 := 8#32
  let v337 : BitVec 32 := Scalar.muli v326 c8_i32_131
  let v339 : Index := Scalar.indexCast v337
  let c7_i32_125 : BitVec 32 := 7#32
  let c0_i32_126 : BitVec 32 := 0#32
  let v327 : BitVec 1 := Scalar.cmpi .eq c7_i32_125 c0_i32_126
  let c1_i32_127 : BitVec 32 := 1#32
  let v328 : BitVec 32 := Scalar.select v327 c1_i32_127 c7_i32_125
  let v329 : BitVec 32 := Scalar.remsi v309 v328
  let c0_i32_129 : BitVec 32 := 0#32
  let v331 : BitVec 1 := Scalar.cmpi .slt v329 c0_i32_129
  let c0_i32_130 : BitVec 32 := 0#32
  let v332 : BitVec 1 := Scalar.cmpi .slt v328 c0_i32_130
  let v333 : BitVec 1 := Scalar.xori v331 v332
  let c0_i32_128 : BitVec 32 := 0#32
  let v330 : BitVec 1 := Scalar.cmpi .ne v329 c0_i32_128
  let v334 : BitVec 1 := Scalar.andi v333 v330
  let v335 : BitVec 32 := Scalar.addi v329 v328
  let v336 : BitVec 32 := Scalar.select v334 v335 v329
  let c8_i32_132 : BitVec 32 := 8#32
  let v338 : BitVec 32 := Scalar.muli v336 c8_i32_132
  let v340 : Index := Scalar.indexCast v338
  let c384_134 : Index := 384#32
  ![0, v339.toNat, v340.toNat, 384]

def k0_chk6 (v309 : BitVec 32) : Prop :=
  (∀ a, (k0_off14 v309) a + S1x8x8x768.size a ≤ S1x56x56x1152.size a)
theorem k0_off14_inb : ∀ (v309 : BitVec 32) (k0_hw6 : k0_chk6 v309), ∀ a, (k0_off14 v309) a + S1x8x8x768.size a ≤ S1x56x56x1152.size a := fun v309 k0_hw6 => k0_hw6

def k0_off15 (i : grid0.Coords) : Fin 1 → Nat :=
  let arg0 : BitVec 32 := BitVec.ofNat 32 (i 0).val
  let c49_i32_95 : BitVec 32 := 49#32
  let v263 : BitVec 32 := Scalar.muli arg0 c49_i32_95
  let arg1 : BitVec 32 := BitVec.ofNat 32 (i 1).val
  let c7_i32_96 : BitVec 32 := 7#32
  let v264 : BitVec 32 := Scalar.muli arg1 c7_i32_96
  let v265 : BitVec 32 := Scalar.addi v263 v264
  let c1_i32_97 : BitVec 32 := 1#32
  let v266 : BitVec 32 := Scalar.addi v265 c1_i32_97
  let c4_i32_98 : BitVec 32 := 4#32
  let v267 : BitVec 32 := Scalar.muli v266 c4_i32_98
  let c2_i32_135 : BitVec 32 := 2#32
  let v346 : BitVec 32 := Scalar.addi v267 c2_i32_135
  let v347 : Index := Scalar.indexCast v346
  ![v347.toNat]
def k0_off16 (v348 : BitVec 32) : Fin 4 → Nat :=
  let c0_151 : Index := 0#32
  let c0_i32_137 : BitVec 32 := 0#32
  let v350 : BitVec 1 := Scalar.cmpi .sgt v348 c0_i32_137
  let v351 : BitVec 32 := Scalar.extui v350
  let c0_i32_138 : BitVec 32 := 0#32
  let v352 : BitVec 1 := Scalar.cmpi .slt v348 c0_i32_138
  let v353 : BitVec 32 := Scalar.extui v352
  let v354 : BitVec 32 := Scalar.subi v351 v353
  let c7_i32_136 : BitVec 32 := 7#32
  let c0_i32_139 : BitVec 32 := 0#32
  let v355 : BitVec 1 := Scalar.cmpi .sgt c7_i32_136 c0_i32_139
  let v356 : BitVec 32 := Scalar.extui v355
  let c0_i32_140 : BitVec 32 := 0#32
  let v357 : BitVec 1 := Scalar.cmpi .slt c7_i32_136 c0_i32_140
  let v358 : BitVec 32 := Scalar.extui v357
  let v359 : BitVec 32 := Scalar.subi v356 v358
  let v360 : BitVec 1 := Scalar.cmpi .ne v354 v359
  let v361 : BitVec 32 := Scalar.remsi v348 c7_i32_136
  let c0_i32_141 : BitVec 32 := 0#32
  let v362 : BitVec 1 := Scalar.cmpi .ne v361 c0_i32_141
  let v363 : BitVec 1 := Scalar.andi v360 v362
  let v349 : BitVec 32 := Scalar.divsi v348 c7_i32_136
  let c1_i32_142 : BitVec 32 := 1#32
  let v364 : BitVec 32 := Scalar.subi v349 c1_i32_142
  let v365 : BitVec 32 := Scalar.select v363 v364 v349
  let c8_i32_149 : BitVec 32 := 8#32
  let v376 : BitVec 32 := Scalar.muli v365 c8_i32_149
  let v378 : Index := Scalar.indexCast v376
  let c7_i32_143 : BitVec 32 := 7#32
  let c0_i32_144 : BitVec 32 := 0#32
  let v366 : BitVec 1 := Scalar.cmpi .eq c7_i32_143 c0_i32_144
  let c1_i32_145 : BitVec 32 := 1#32
  let v367 : BitVec 32 := Scalar.select v366 c1_i32_145 c7_i32_143
  let v368 : BitVec 32 := Scalar.remsi v348 v367
  let c0_i32_147 : BitVec 32 := 0#32
  let v370 : BitVec 1 := Scalar.cmpi .slt v368 c0_i32_147
  let c0_i32_148 : BitVec 32 := 0#32
  let v371 : BitVec 1 := Scalar.cmpi .slt v367 c0_i32_148
  let v372 : BitVec 1 := Scalar.xori v370 v371
  let c0_i32_146 : BitVec 32 := 0#32
  let v369 : BitVec 1 := Scalar.cmpi .ne v368 c0_i32_146
  let v373 : BitVec 1 := Scalar.andi v372 v369
  let v374 : BitVec 32 := Scalar.addi v368 v367
  let v375 : BitVec 32 := Scalar.select v373 v374 v368
  let c8_i32_150 : BitVec 32 := 8#32
  let v377 : BitVec 32 := Scalar.muli v375 c8_i32_150
  let v379 : Index := Scalar.indexCast v377
  let c384_152 : Index := 384#32
  ![0, v378.toNat, v379.toNat, 384]

def k0_chk7 (v348 : BitVec 32) : Prop :=
  (∀ a, (k0_off16 v348) a + S1x8x8x768.size a ≤ S1x56x56x1152.size a)
theorem k0_off16_inb : ∀ (v348 : BitVec 32) (k0_hw7 : k0_chk7 v348), ∀ a, (k0_off16 v348) a + S1x8x8x768.size a ≤ S1x56x56x1152.size a := fun v348 k0_hw7 => k0_hw7

def k0_off17 (i : grid0.Coords) : Fin 1 → Nat :=
  let arg0 : BitVec 32 := BitVec.ofNat 32 (i 0).val
  let c49_i32_95 : BitVec 32 := 49#32
  let v263 : BitVec 32 := Scalar.muli arg0 c49_i32_95
  let arg1 : BitVec 32 := BitVec.ofNat 32 (i 1).val
  let c7_i32_96 : BitVec 32 := 7#32
  let v264 : BitVec 32 := Scalar.muli arg1 c7_i32_96
  let v265 : BitVec 32 := Scalar.addi v263 v264
  let c1_i32_97 : BitVec 32 := 1#32
  let v266 : BitVec 32 := Scalar.addi v265 c1_i32_97
  let c4_i32_98 : BitVec 32 := 4#32
  let v267 : BitVec 32 := Scalar.muli v266 c4_i32_98
  let c3_i32_153 : BitVec 32 := 3#32
  let v385 : BitVec 32 := Scalar.addi v267 c3_i32_153
  let v386 : Index := Scalar.indexCast v385
  ![v386.toNat]
def k0_off18 (v387 : BitVec 32) : Fin 4 → Nat :=
  let c0_169 : Index := 0#32
  let c0_i32_155 : BitVec 32 := 0#32
  let v389 : BitVec 1 := Scalar.cmpi .sgt v387 c0_i32_155
  let v390 : BitVec 32 := Scalar.extui v389
  let c0_i32_156 : BitVec 32 := 0#32
  let v391 : BitVec 1 := Scalar.cmpi .slt v387 c0_i32_156
  let v392 : BitVec 32 := Scalar.extui v391
  let v393 : BitVec 32 := Scalar.subi v390 v392
  let c7_i32_154 : BitVec 32 := 7#32
  let c0_i32_157 : BitVec 32 := 0#32
  let v394 : BitVec 1 := Scalar.cmpi .sgt c7_i32_154 c0_i32_157
  let v395 : BitVec 32 := Scalar.extui v394
  let c0_i32_158 : BitVec 32 := 0#32
  let v396 : BitVec 1 := Scalar.cmpi .slt c7_i32_154 c0_i32_158
  let v397 : BitVec 32 := Scalar.extui v396
  let v398 : BitVec 32 := Scalar.subi v395 v397
  let v399 : BitVec 1 := Scalar.cmpi .ne v393 v398
  let v400 : BitVec 32 := Scalar.remsi v387 c7_i32_154
  let c0_i32_159 : BitVec 32 := 0#32
  let v401 : BitVec 1 := Scalar.cmpi .ne v400 c0_i32_159
  let v402 : BitVec 1 := Scalar.andi v399 v401
  let v388 : BitVec 32 := Scalar.divsi v387 c7_i32_154
  let c1_i32_160 : BitVec 32 := 1#32
  let v403 : BitVec 32 := Scalar.subi v388 c1_i32_160
  let v404 : BitVec 32 := Scalar.select v402 v403 v388
  let c8_i32_167 : BitVec 32 := 8#32
  let v415 : BitVec 32 := Scalar.muli v404 c8_i32_167
  let v417 : Index := Scalar.indexCast v415
  let c7_i32_161 : BitVec 32 := 7#32
  let c0_i32_162 : BitVec 32 := 0#32
  let v405 : BitVec 1 := Scalar.cmpi .eq c7_i32_161 c0_i32_162
  let c1_i32_163 : BitVec 32 := 1#32
  let v406 : BitVec 32 := Scalar.select v405 c1_i32_163 c7_i32_161
  let v407 : BitVec 32 := Scalar.remsi v387 v406
  let c0_i32_165 : BitVec 32 := 0#32
  let v409 : BitVec 1 := Scalar.cmpi .slt v407 c0_i32_165
  let c0_i32_166 : BitVec 32 := 0#32
  let v410 : BitVec 1 := Scalar.cmpi .slt v406 c0_i32_166
  let v411 : BitVec 1 := Scalar.xori v409 v410
  let c0_i32_164 : BitVec 32 := 0#32
  let v408 : BitVec 1 := Scalar.cmpi .ne v407 c0_i32_164
  let v412 : BitVec 1 := Scalar.andi v411 v408
  let v413 : BitVec 32 := Scalar.addi v407 v406
  let v414 : BitVec 32 := Scalar.select v412 v413 v407
  let c8_i32_168 : BitVec 32 := 8#32
  let v416 : BitVec 32 := Scalar.muli v414 c8_i32_168
  let v418 : Index := Scalar.indexCast v416
  let c384_170 : Index := 384#32
  ![0, v417.toNat, v418.toNat, 384]

def k0_chk8 (v387 : BitVec 32) : Prop :=
  (∀ a, (k0_off18 v387) a + S1x8x8x768.size a ≤ S1x56x56x1152.size a)
theorem k0_off18_inb : ∀ (v387 : BitVec 32) (k0_hw8 : k0_chk8 v387), ∀ a, (k0_off18 v387) a + S1x8x8x768.size a ≤ S1x56x56x1152.size a := fun v387 k0_hw8 => k0_hw8

def k0_off19 (i : grid0.Coords) : Fin 4 → Nat :=
  let c0_206 : Index := 0#32
  let arg1 : BitVec 32 := BitVec.ofNat 32 (i 1).val
  let c8_i32_205 : BitVec 32 := 8#32
  let v507 : BitVec 32 := Scalar.muli arg1 c8_i32_205
  let v508 : Index := Scalar.indexCast v507
  let c16 : Index := 16#32
  let c0_207 : Index := 0#32
  ![0, v508.toNat, 16, 0]
def k0_off20 (i : grid0.Coords) : Fin 1 → Nat :=
  let arg0 : BitVec 32 := BitVec.ofNat 32 (i 0).val
  let c49_i32_209 : BitVec 32 := 49#32
  let v514 : BitVec 32 := Scalar.muli arg0 c49_i32_209
  let arg1 : BitVec 32 := BitVec.ofNat 32 (i 1).val
  let c7_i32_210 : BitVec 32 := 7#32
  let v515 : BitVec 32 := Scalar.muli arg1 c7_i32_210
  let v516 : BitVec 32 := Scalar.addi v514 v515
  let c2_i32_211 : BitVec 32 := 2#32
  let v517 : BitVec 32 := Scalar.addi v516 c2_i32_211
  let c4_i32_212 : BitVec 32 := 4#32
  let v518 : BitVec 32 := Scalar.muli v517 c4_i32_212
  let c0_i32_213 : BitVec 32 := 0#32
  let v519 : BitVec 32 := Scalar.addi v518 c0_i32_213
  let v520 : Index := Scalar.indexCast v519
  ![v520.toNat]
def k0_off21 (v521 : BitVec 32) : Fin 4 → Nat :=
  let c0_229 : Index := 0#32
  let c0_i32_215 : BitVec 32 := 0#32
  let v523 : BitVec 1 := Scalar.cmpi .sgt v521 c0_i32_215
  let v524 : BitVec 32 := Scalar.extui v523
  let c0_i32_216 : BitVec 32 := 0#32
  let v525 : BitVec 1 := Scalar.cmpi .slt v521 c0_i32_216
  let v526 : BitVec 32 := Scalar.extui v525
  let v527 : BitVec 32 := Scalar.subi v524 v526
  let c7_i32_214 : BitVec 32 := 7#32
  let c0_i32_217 : BitVec 32 := 0#32
  let v528 : BitVec 1 := Scalar.cmpi .sgt c7_i32_214 c0_i32_217
  let v529 : BitVec 32 := Scalar.extui v528
  let c0_i32_218 : BitVec 32 := 0#32
  let v530 : BitVec 1 := Scalar.cmpi .slt c7_i32_214 c0_i32_218
  let v531 : BitVec 32 := Scalar.extui v530
  let v532 : BitVec 32 := Scalar.subi v529 v531
  let v533 : BitVec 1 := Scalar.cmpi .ne v527 v532
  let v534 : BitVec 32 := Scalar.remsi v521 c7_i32_214
  let c0_i32_219 : BitVec 32 := 0#32
  let v535 : BitVec 1 := Scalar.cmpi .ne v534 c0_i32_219
  let v536 : BitVec 1 := Scalar.andi v533 v535
  let v522 : BitVec 32 := Scalar.divsi v521 c7_i32_214
  let c1_i32_220 : BitVec 32 := 1#32
  let v537 : BitVec 32 := Scalar.subi v522 c1_i32_220
  let v538 : BitVec 32 := Scalar.select v536 v537 v522
  let c8_i32_227 : BitVec 32 := 8#32
  let v549 : BitVec 32 := Scalar.muli v538 c8_i32_227
  let v551 : Index := Scalar.indexCast v549
  let c7_i32_221 : BitVec 32 := 7#32
  let c0_i32_222 : BitVec 32 := 0#32
  let v539 : BitVec 1 := Scalar.cmpi .eq c7_i32_221 c0_i32_222
  let c1_i32_223 : BitVec 32 := 1#32
  let v540 : BitVec 32 := Scalar.select v539 c1_i32_223 c7_i32_221
  let v541 : BitVec 32 := Scalar.remsi v521 v540
  let c0_i32_225 : BitVec 32 := 0#32
  let v543 : BitVec 1 := Scalar.cmpi .slt v541 c0_i32_225
  let c0_i32_226 : BitVec 32 := 0#32
  let v544 : BitVec 1 := Scalar.cmpi .slt v540 c0_i32_226
  let v545 : BitVec 1 := Scalar.xori v543 v544
  let c0_i32_224 : BitVec 32 := 0#32
  let v542 : BitVec 1 := Scalar.cmpi .ne v541 c0_i32_224
  let v546 : BitVec 1 := Scalar.andi v545 v542
  let v547 : BitVec 32 := Scalar.addi v541 v540
  let v548 : BitVec 32 := Scalar.select v546 v547 v541
  let c8_i32_228 : BitVec 32 := 8#32
  let v550 : BitVec 32 := Scalar.muli v548 c8_i32_228
  let v552 : Index := Scalar.indexCast v550
  let c384_230 : Index := 384#32
  ![0, v551.toNat, v552.toNat, 384]

def k0_chk9 (v521 : BitVec 32) : Prop :=
  (∀ a, (k0_off21 v521) a + S1x8x8x768.size a ≤ S1x56x56x1152.size a)
theorem k0_off21_inb : ∀ (v521 : BitVec 32) (k0_hw9 : k0_chk9 v521), ∀ a, (k0_off21 v521) a + S1x8x8x768.size a ≤ S1x56x56x1152.size a := fun v521 k0_hw9 => k0_hw9

def k0_off22 (i : grid0.Coords) : Fin 1 → Nat :=
  let arg0 : BitVec 32 := BitVec.ofNat 32 (i 0).val
  let c49_i32_209 : BitVec 32 := 49#32
  let v514 : BitVec 32 := Scalar.muli arg0 c49_i32_209
  let arg1 : BitVec 32 := BitVec.ofNat 32 (i 1).val
  let c7_i32_210 : BitVec 32 := 7#32
  let v515 : BitVec 32 := Scalar.muli arg1 c7_i32_210
  let v516 : BitVec 32 := Scalar.addi v514 v515
  let c2_i32_211 : BitVec 32 := 2#32
  let v517 : BitVec 32 := Scalar.addi v516 c2_i32_211
  let c4_i32_212 : BitVec 32 := 4#32
  let v518 : BitVec 32 := Scalar.muli v517 c4_i32_212
  let c1_i32_231 : BitVec 32 := 1#32
  let v558 : BitVec 32 := Scalar.addi v518 c1_i32_231
  let v559 : Index := Scalar.indexCast v558
  ![v559.toNat]
def k0_off23 (v560 : BitVec 32) : Fin 4 → Nat :=
  let c0_247 : Index := 0#32
  let c0_i32_233 : BitVec 32 := 0#32
  let v562 : BitVec 1 := Scalar.cmpi .sgt v560 c0_i32_233
  let v563 : BitVec 32 := Scalar.extui v562
  let c0_i32_234 : BitVec 32 := 0#32
  let v564 : BitVec 1 := Scalar.cmpi .slt v560 c0_i32_234
  let v565 : BitVec 32 := Scalar.extui v564
  let v566 : BitVec 32 := Scalar.subi v563 v565
  let c7_i32_232 : BitVec 32 := 7#32
  let c0_i32_235 : BitVec 32 := 0#32
  let v567 : BitVec 1 := Scalar.cmpi .sgt c7_i32_232 c0_i32_235
  let v568 : BitVec 32 := Scalar.extui v567
  let c0_i32_236 : BitVec 32 := 0#32
  let v569 : BitVec 1 := Scalar.cmpi .slt c7_i32_232 c0_i32_236
  let v570 : BitVec 32 := Scalar.extui v569
  let v571 : BitVec 32 := Scalar.subi v568 v570
  let v572 : BitVec 1 := Scalar.cmpi .ne v566 v571
  let v573 : BitVec 32 := Scalar.remsi v560 c7_i32_232
  let c0_i32_237 : BitVec 32 := 0#32
  let v574 : BitVec 1 := Scalar.cmpi .ne v573 c0_i32_237
  let v575 : BitVec 1 := Scalar.andi v572 v574
  let v561 : BitVec 32 := Scalar.divsi v560 c7_i32_232
  let c1_i32_238 : BitVec 32 := 1#32
  let v576 : BitVec 32 := Scalar.subi v561 c1_i32_238
  let v577 : BitVec 32 := Scalar.select v575 v576 v561
  let c8_i32_245 : BitVec 32 := 8#32
  let v588 : BitVec 32 := Scalar.muli v577 c8_i32_245
  let v590 : Index := Scalar.indexCast v588
  let c7_i32_239 : BitVec 32 := 7#32
  let c0_i32_240 : BitVec 32 := 0#32
  let v578 : BitVec 1 := Scalar.cmpi .eq c7_i32_239 c0_i32_240
  let c1_i32_241 : BitVec 32 := 1#32
  let v579 : BitVec 32 := Scalar.select v578 c1_i32_241 c7_i32_239
  let v580 : BitVec 32 := Scalar.remsi v560 v579
  let c0_i32_243 : BitVec 32 := 0#32
  let v582 : BitVec 1 := Scalar.cmpi .slt v580 c0_i32_243
  let c0_i32_244 : BitVec 32 := 0#32
  let v583 : BitVec 1 := Scalar.cmpi .slt v579 c0_i32_244
  let v584 : BitVec 1 := Scalar.xori v582 v583
  let c0_i32_242 : BitVec 32 := 0#32
  let v581 : BitVec 1 := Scalar.cmpi .ne v580 c0_i32_242
  let v585 : BitVec 1 := Scalar.andi v584 v581
  let v586 : BitVec 32 := Scalar.addi v580 v579
  let v587 : BitVec 32 := Scalar.select v585 v586 v580
  let c8_i32_246 : BitVec 32 := 8#32
  let v589 : BitVec 32 := Scalar.muli v587 c8_i32_246
  let v591 : Index := Scalar.indexCast v589
  let c384_248 : Index := 384#32
  ![0, v590.toNat, v591.toNat, 384]

def k0_chk10 (v560 : BitVec 32) : Prop :=
  (∀ a, (k0_off23 v560) a + S1x8x8x768.size a ≤ S1x56x56x1152.size a)
theorem k0_off23_inb : ∀ (v560 : BitVec 32) (k0_hw10 : k0_chk10 v560), ∀ a, (k0_off23 v560) a + S1x8x8x768.size a ≤ S1x56x56x1152.size a := fun v560 k0_hw10 => k0_hw10

def k0_off24 (i : grid0.Coords) : Fin 1 → Nat :=
  let arg0 : BitVec 32 := BitVec.ofNat 32 (i 0).val
  let c49_i32_209 : BitVec 32 := 49#32
  let v514 : BitVec 32 := Scalar.muli arg0 c49_i32_209
  let arg1 : BitVec 32 := BitVec.ofNat 32 (i 1).val
  let c7_i32_210 : BitVec 32 := 7#32
  let v515 : BitVec 32 := Scalar.muli arg1 c7_i32_210
  let v516 : BitVec 32 := Scalar.addi v514 v515
  let c2_i32_211 : BitVec 32 := 2#32
  let v517 : BitVec 32 := Scalar.addi v516 c2_i32_211
  let c4_i32_212 : BitVec 32 := 4#32
  let v518 : BitVec 32 := Scalar.muli v517 c4_i32_212
  let c2_i32_249 : BitVec 32 := 2#32
  let v597 : BitVec 32 := Scalar.addi v518 c2_i32_249
  let v598 : Index := Scalar.indexCast v597
  ![v598.toNat]
def k0_off25 (v599 : BitVec 32) : Fin 4 → Nat :=
  let c0_265 : Index := 0#32
  let c0_i32_251 : BitVec 32 := 0#32
  let v601 : BitVec 1 := Scalar.cmpi .sgt v599 c0_i32_251
  let v602 : BitVec 32 := Scalar.extui v601
  let c0_i32_252 : BitVec 32 := 0#32
  let v603 : BitVec 1 := Scalar.cmpi .slt v599 c0_i32_252
  let v604 : BitVec 32 := Scalar.extui v603
  let v605 : BitVec 32 := Scalar.subi v602 v604
  let c7_i32_250 : BitVec 32 := 7#32
  let c0_i32_253 : BitVec 32 := 0#32
  let v606 : BitVec 1 := Scalar.cmpi .sgt c7_i32_250 c0_i32_253
  let v607 : BitVec 32 := Scalar.extui v606
  let c0_i32_254 : BitVec 32 := 0#32
  let v608 : BitVec 1 := Scalar.cmpi .slt c7_i32_250 c0_i32_254
  let v609 : BitVec 32 := Scalar.extui v608
  let v610 : BitVec 32 := Scalar.subi v607 v609
  let v611 : BitVec 1 := Scalar.cmpi .ne v605 v610
  let v612 : BitVec 32 := Scalar.remsi v599 c7_i32_250
  let c0_i32_255 : BitVec 32 := 0#32
  let v613 : BitVec 1 := Scalar.cmpi .ne v612 c0_i32_255
  let v614 : BitVec 1 := Scalar.andi v611 v613
  let v600 : BitVec 32 := Scalar.divsi v599 c7_i32_250
  let c1_i32_256 : BitVec 32 := 1#32
  let v615 : BitVec 32 := Scalar.subi v600 c1_i32_256
  let v616 : BitVec 32 := Scalar.select v614 v615 v600
  let c8_i32_263 : BitVec 32 := 8#32
  let v627 : BitVec 32 := Scalar.muli v616 c8_i32_263
  let v629 : Index := Scalar.indexCast v627
  let c7_i32_257 : BitVec 32 := 7#32
  let c0_i32_258 : BitVec 32 := 0#32
  let v617 : BitVec 1 := Scalar.cmpi .eq c7_i32_257 c0_i32_258
  let c1_i32_259 : BitVec 32 := 1#32
  let v618 : BitVec 32 := Scalar.select v617 c1_i32_259 c7_i32_257
  let v619 : BitVec 32 := Scalar.remsi v599 v618
  let c0_i32_261 : BitVec 32 := 0#32
  let v621 : BitVec 1 := Scalar.cmpi .slt v619 c0_i32_261
  let c0_i32_262 : BitVec 32 := 0#32
  let v622 : BitVec 1 := Scalar.cmpi .slt v618 c0_i32_262
  let v623 : BitVec 1 := Scalar.xori v621 v622
  let c0_i32_260 : BitVec 32 := 0#32
  let v620 : BitVec 1 := Scalar.cmpi .ne v619 c0_i32_260
  let v624 : BitVec 1 := Scalar.andi v623 v620
  let v625 : BitVec 32 := Scalar.addi v619 v618
  let v626 : BitVec 32 := Scalar.select v624 v625 v619
  let c8_i32_264 : BitVec 32 := 8#32
  let v628 : BitVec 32 := Scalar.muli v626 c8_i32_264
  let v630 : Index := Scalar.indexCast v628
  let c384_266 : Index := 384#32
  ![0, v629.toNat, v630.toNat, 384]

def k0_chk11 (v599 : BitVec 32) : Prop :=
  (∀ a, (k0_off25 v599) a + S1x8x8x768.size a ≤ S1x56x56x1152.size a)
theorem k0_off25_inb : ∀ (v599 : BitVec 32) (k0_hw11 : k0_chk11 v599), ∀ a, (k0_off25 v599) a + S1x8x8x768.size a ≤ S1x56x56x1152.size a := fun v599 k0_hw11 => k0_hw11

def k0_off26 (i : grid0.Coords) : Fin 1 → Nat :=
  let arg0 : BitVec 32 := BitVec.ofNat 32 (i 0).val
  let c49_i32_209 : BitVec 32 := 49#32
  let v514 : BitVec 32 := Scalar.muli arg0 c49_i32_209
  let arg1 : BitVec 32 := BitVec.ofNat 32 (i 1).val
  let c7_i32_210 : BitVec 32 := 7#32
  let v515 : BitVec 32 := Scalar.muli arg1 c7_i32_210
  let v516 : BitVec 32 := Scalar.addi v514 v515
  let c2_i32_211 : BitVec 32 := 2#32
  let v517 : BitVec 32 := Scalar.addi v516 c2_i32_211
  let c4_i32_212 : BitVec 32 := 4#32
  let v518 : BitVec 32 := Scalar.muli v517 c4_i32_212
  let c3_i32_267 : BitVec 32 := 3#32
  let v636 : BitVec 32 := Scalar.addi v518 c3_i32_267
  let v637 : Index := Scalar.indexCast v636
  ![v637.toNat]
def k0_off27 (v638 : BitVec 32) : Fin 4 → Nat :=
  let c0_283 : Index := 0#32
  let c0_i32_269 : BitVec 32 := 0#32
  let v640 : BitVec 1 := Scalar.cmpi .sgt v638 c0_i32_269
  let v641 : BitVec 32 := Scalar.extui v640
  let c0_i32_270 : BitVec 32 := 0#32
  let v642 : BitVec 1 := Scalar.cmpi .slt v638 c0_i32_270
  let v643 : BitVec 32 := Scalar.extui v642
  let v644 : BitVec 32 := Scalar.subi v641 v643
  let c7_i32_268 : BitVec 32 := 7#32
  let c0_i32_271 : BitVec 32 := 0#32
  let v645 : BitVec 1 := Scalar.cmpi .sgt c7_i32_268 c0_i32_271
  let v646 : BitVec 32 := Scalar.extui v645
  let c0_i32_272 : BitVec 32 := 0#32
  let v647 : BitVec 1 := Scalar.cmpi .slt c7_i32_268 c0_i32_272
  let v648 : BitVec 32 := Scalar.extui v647
  let v649 : BitVec 32 := Scalar.subi v646 v648
  let v650 : BitVec 1 := Scalar.cmpi .ne v644 v649
  let v651 : BitVec 32 := Scalar.remsi v638 c7_i32_268
  let c0_i32_273 : BitVec 32 := 0#32
  let v652 : BitVec 1 := Scalar.cmpi .ne v651 c0_i32_273
  let v653 : BitVec 1 := Scalar.andi v650 v652
  let v639 : BitVec 32 := Scalar.divsi v638 c7_i32_268
  let c1_i32_274 : BitVec 32 := 1#32
  let v654 : BitVec 32 := Scalar.subi v639 c1_i32_274
  let v655 : BitVec 32 := Scalar.select v653 v654 v639
  let c8_i32_281 : BitVec 32 := 8#32
  let v666 : BitVec 32 := Scalar.muli v655 c8_i32_281
  let v668 : Index := Scalar.indexCast v666
  let c7_i32_275 : BitVec 32 := 7#32
  let c0_i32_276 : BitVec 32 := 0#32
  let v656 : BitVec 1 := Scalar.cmpi .eq c7_i32_275 c0_i32_276
  let c1_i32_277 : BitVec 32 := 1#32
  let v657 : BitVec 32 := Scalar.select v656 c1_i32_277 c7_i32_275
  let v658 : BitVec 32 := Scalar.remsi v638 v657
  let c0_i32_279 : BitVec 32 := 0#32
  let v660 : BitVec 1 := Scalar.cmpi .slt v658 c0_i32_279
  let c0_i32_280 : BitVec 32 := 0#32
  let v661 : BitVec 1 := Scalar.cmpi .slt v657 c0_i32_280
  let v662 : BitVec 1 := Scalar.xori v660 v661
  let c0_i32_278 : BitVec 32 := 0#32
  let v659 : BitVec 1 := Scalar.cmpi .ne v658 c0_i32_278
  let v663 : BitVec 1 := Scalar.andi v662 v659
  let v664 : BitVec 32 := Scalar.addi v658 v657
  let v665 : BitVec 32 := Scalar.select v663 v664 v658
  let c8_i32_282 : BitVec 32 := 8#32
  let v667 : BitVec 32 := Scalar.muli v665 c8_i32_282
  let v669 : Index := Scalar.indexCast v667
  let c384_284 : Index := 384#32
  ![0, v668.toNat, v669.toNat, 384]

def k0_chk12 (v638 : BitVec 32) : Prop :=
  (∀ a, (k0_off27 v638) a + S1x8x8x768.size a ≤ S1x56x56x1152.size a)
theorem k0_off27_inb : ∀ (v638 : BitVec 32) (k0_hw12 : k0_chk12 v638), ∀ a, (k0_off27 v638) a + S1x8x8x768.size a ≤ S1x56x56x1152.size a := fun v638 k0_hw12 => k0_hw12

def k0_off28 (i : grid0.Coords) : Fin 4 → Nat :=
  let c0_320 : Index := 0#32
  let arg1 : BitVec 32 := BitVec.ofNat 32 (i 1).val
  let c8_i32_319 : BitVec 32 := 8#32
  let v758 : BitVec 32 := Scalar.muli arg1 c8_i32_319
  let v759 : Index := Scalar.indexCast v758
  let c24 : Index := 24#32
  let c0_321 : Index := 0#32
  ![0, v759.toNat, 24, 0]
def k0_off29 (i : grid0.Coords) : Fin 1 → Nat :=
  let arg0 : BitVec 32 := BitVec.ofNat 32 (i 0).val
  let c49_i32_323 : BitVec 32 := 49#32
  let v765 : BitVec 32 := Scalar.muli arg0 c49_i32_323
  let arg1 : BitVec 32 := BitVec.ofNat 32 (i 1).val
  let c7_i32_324 : BitVec 32 := 7#32
  let v766 : BitVec 32 := Scalar.muli arg1 c7_i32_324
  let v767 : BitVec 32 := Scalar.addi v765 v766
  let c3_i32_325 : BitVec 32 := 3#32
  let v768 : BitVec 32 := Scalar.addi v767 c3_i32_325
  let c4_i32_326 : BitVec 32 := 4#32
  let v769 : BitVec 32 := Scalar.muli v768 c4_i32_326
  let c0_i32_327 : BitVec 32 := 0#32
  let v770 : BitVec 32 := Scalar.addi v769 c0_i32_327
  let v771 : Index := Scalar.indexCast v770
  ![v771.toNat]
def k0_off30 (v772 : BitVec 32) : Fin 4 → Nat :=
  let c0_343 : Index := 0#32
  let c0_i32_329 : BitVec 32 := 0#32
  let v774 : BitVec 1 := Scalar.cmpi .sgt v772 c0_i32_329
  let v775 : BitVec 32 := Scalar.extui v774
  let c0_i32_330 : BitVec 32 := 0#32
  let v776 : BitVec 1 := Scalar.cmpi .slt v772 c0_i32_330
  let v777 : BitVec 32 := Scalar.extui v776
  let v778 : BitVec 32 := Scalar.subi v775 v777
  let c7_i32_328 : BitVec 32 := 7#32
  let c0_i32_331 : BitVec 32 := 0#32
  let v779 : BitVec 1 := Scalar.cmpi .sgt c7_i32_328 c0_i32_331
  let v780 : BitVec 32 := Scalar.extui v779
  let c0_i32_332 : BitVec 32 := 0#32
  let v781 : BitVec 1 := Scalar.cmpi .slt c7_i32_328 c0_i32_332
  let v782 : BitVec 32 := Scalar.extui v781
  let v783 : BitVec 32 := Scalar.subi v780 v782
  let v784 : BitVec 1 := Scalar.cmpi .ne v778 v783
  let v785 : BitVec 32 := Scalar.remsi v772 c7_i32_328
  let c0_i32_333 : BitVec 32 := 0#32
  let v786 : BitVec 1 := Scalar.cmpi .ne v785 c0_i32_333
  let v787 : BitVec 1 := Scalar.andi v784 v786
  let v773 : BitVec 32 := Scalar.divsi v772 c7_i32_328
  let c1_i32_334 : BitVec 32 := 1#32
  let v788 : BitVec 32 := Scalar.subi v773 c1_i32_334
  let v789 : BitVec 32 := Scalar.select v787 v788 v773
  let c8_i32_341 : BitVec 32 := 8#32
  let v800 : BitVec 32 := Scalar.muli v789 c8_i32_341
  let v802 : Index := Scalar.indexCast v800
  let c7_i32_335 : BitVec 32 := 7#32
  let c0_i32_336 : BitVec 32 := 0#32
  let v790 : BitVec 1 := Scalar.cmpi .eq c7_i32_335 c0_i32_336
  let c1_i32_337 : BitVec 32 := 1#32
  let v791 : BitVec 32 := Scalar.select v790 c1_i32_337 c7_i32_335
  let v792 : BitVec 32 := Scalar.remsi v772 v791
  let c0_i32_339 : BitVec 32 := 0#32
  let v794 : BitVec 1 := Scalar.cmpi .slt v792 c0_i32_339
  let c0_i32_340 : BitVec 32 := 0#32
  let v795 : BitVec 1 := Scalar.cmpi .slt v791 c0_i32_340
  let v796 : BitVec 1 := Scalar.xori v794 v795
  let c0_i32_338 : BitVec 32 := 0#32
  let v793 : BitVec 1 := Scalar.cmpi .ne v792 c0_i32_338
  let v797 : BitVec 1 := Scalar.andi v796 v793
  let v798 : BitVec 32 := Scalar.addi v792 v791
  let v799 : BitVec 32 := Scalar.select v797 v798 v792
  let c8_i32_342 : BitVec 32 := 8#32
  let v801 : BitVec 32 := Scalar.muli v799 c8_i32_342
  let v803 : Index := Scalar.indexCast v801
  let c384_344 : Index := 384#32
  ![0, v802.toNat, v803.toNat, 384]

def k0_chk13 (v772 : BitVec 32) : Prop :=
  (∀ a, (k0_off30 v772) a + S1x8x8x768.size a ≤ S1x56x56x1152.size a)
theorem k0_off30_inb : ∀ (v772 : BitVec 32) (k0_hw13 : k0_chk13 v772), ∀ a, (k0_off30 v772) a + S1x8x8x768.size a ≤ S1x56x56x1152.size a := fun v772 k0_hw13 => k0_hw13

def k0_off31 (i : grid0.Coords) : Fin 1 → Nat :=
  let arg0 : BitVec 32 := BitVec.ofNat 32 (i 0).val
  let c49_i32_323 : BitVec 32 := 49#32
  let v765 : BitVec 32 := Scalar.muli arg0 c49_i32_323
  let arg1 : BitVec 32 := BitVec.ofNat 32 (i 1).val
  let c7_i32_324 : BitVec 32 := 7#32
  let v766 : BitVec 32 := Scalar.muli arg1 c7_i32_324
  let v767 : BitVec 32 := Scalar.addi v765 v766
  let c3_i32_325 : BitVec 32 := 3#32
  let v768 : BitVec 32 := Scalar.addi v767 c3_i32_325
  let c4_i32_326 : BitVec 32 := 4#32
  let v769 : BitVec 32 := Scalar.muli v768 c4_i32_326
  let c1_i32_345 : BitVec 32 := 1#32
  let v809 : BitVec 32 := Scalar.addi v769 c1_i32_345
  let v810 : Index := Scalar.indexCast v809
  ![v810.toNat]
def k0_off32 (v811 : BitVec 32) : Fin 4 → Nat :=
  let c0_361 : Index := 0#32
  let c0_i32_347 : BitVec 32 := 0#32
  let v813 : BitVec 1 := Scalar.cmpi .sgt v811 c0_i32_347
  let v814 : BitVec 32 := Scalar.extui v813
  let c0_i32_348 : BitVec 32 := 0#32
  let v815 : BitVec 1 := Scalar.cmpi .slt v811 c0_i32_348
  let v816 : BitVec 32 := Scalar.extui v815
  let v817 : BitVec 32 := Scalar.subi v814 v816
  let c7_i32_346 : BitVec 32 := 7#32
  let c0_i32_349 : BitVec 32 := 0#32
  let v818 : BitVec 1 := Scalar.cmpi .sgt c7_i32_346 c0_i32_349
  let v819 : BitVec 32 := Scalar.extui v818
  let c0_i32_350 : BitVec 32 := 0#32
  let v820 : BitVec 1 := Scalar.cmpi .slt c7_i32_346 c0_i32_350
  let v821 : BitVec 32 := Scalar.extui v820
  let v822 : BitVec 32 := Scalar.subi v819 v821
  let v823 : BitVec 1 := Scalar.cmpi .ne v817 v822
  let v824 : BitVec 32 := Scalar.remsi v811 c7_i32_346
  let c0_i32_351 : BitVec 32 := 0#32
  let v825 : BitVec 1 := Scalar.cmpi .ne v824 c0_i32_351
  let v826 : BitVec 1 := Scalar.andi v823 v825
  let v812 : BitVec 32 := Scalar.divsi v811 c7_i32_346
  let c1_i32_352 : BitVec 32 := 1#32
  let v827 : BitVec 32 := Scalar.subi v812 c1_i32_352
  let v828 : BitVec 32 := Scalar.select v826 v827 v812
  let c8_i32_359 : BitVec 32 := 8#32
  let v839 : BitVec 32 := Scalar.muli v828 c8_i32_359
  let v841 : Index := Scalar.indexCast v839
  let c7_i32_353 : BitVec 32 := 7#32
  let c0_i32_354 : BitVec 32 := 0#32
  let v829 : BitVec 1 := Scalar.cmpi .eq c7_i32_353 c0_i32_354
  let c1_i32_355 : BitVec 32 := 1#32
  let v830 : BitVec 32 := Scalar.select v829 c1_i32_355 c7_i32_353
  let v831 : BitVec 32 := Scalar.remsi v811 v830
  let c0_i32_357 : BitVec 32 := 0#32
  let v833 : BitVec 1 := Scalar.cmpi .slt v831 c0_i32_357
  let c0_i32_358 : BitVec 32 := 0#32
  let v834 : BitVec 1 := Scalar.cmpi .slt v830 c0_i32_358
  let v835 : BitVec 1 := Scalar.xori v833 v834
  let c0_i32_356 : BitVec 32 := 0#32
  let v832 : BitVec 1 := Scalar.cmpi .ne v831 c0_i32_356
  let v836 : BitVec 1 := Scalar.andi v835 v832
  let v837 : BitVec 32 := Scalar.addi v831 v830
  let v838 : BitVec 32 := Scalar.select v836 v837 v831
  let c8_i32_360 : BitVec 32 := 8#32
  let v840 : BitVec 32 := Scalar.muli v838 c8_i32_360
  let v842 : Index := Scalar.indexCast v840
  let c384_362 : Index := 384#32
  ![0, v841.toNat, v842.toNat, 384]

def k0_chk14 (v811 : BitVec 32) : Prop :=
  (∀ a, (k0_off32 v811) a + S1x8x8x768.size a ≤ S1x56x56x1152.size a)
theorem k0_off32_inb : ∀ (v811 : BitVec 32) (k0_hw14 : k0_chk14 v811), ∀ a, (k0_off32 v811) a + S1x8x8x768.size a ≤ S1x56x56x1152.size a := fun v811 k0_hw14 => k0_hw14

def k0_off33 (i : grid0.Coords) : Fin 1 → Nat :=
  let arg0 : BitVec 32 := BitVec.ofNat 32 (i 0).val
  let c49_i32_323 : BitVec 32 := 49#32
  let v765 : BitVec 32 := Scalar.muli arg0 c49_i32_323
  let arg1 : BitVec 32 := BitVec.ofNat 32 (i 1).val
  let c7_i32_324 : BitVec 32 := 7#32
  let v766 : BitVec 32 := Scalar.muli arg1 c7_i32_324
  let v767 : BitVec 32 := Scalar.addi v765 v766
  let c3_i32_325 : BitVec 32 := 3#32
  let v768 : BitVec 32 := Scalar.addi v767 c3_i32_325
  let c4_i32_326 : BitVec 32 := 4#32
  let v769 : BitVec 32 := Scalar.muli v768 c4_i32_326
  let c2_i32_363 : BitVec 32 := 2#32
  let v848 : BitVec 32 := Scalar.addi v769 c2_i32_363
  let v849 : Index := Scalar.indexCast v848
  ![v849.toNat]
def k0_off34 (v850 : BitVec 32) : Fin 4 → Nat :=
  let c0_379 : Index := 0#32
  let c0_i32_365 : BitVec 32 := 0#32
  let v852 : BitVec 1 := Scalar.cmpi .sgt v850 c0_i32_365
  let v853 : BitVec 32 := Scalar.extui v852
  let c0_i32_366 : BitVec 32 := 0#32
  let v854 : BitVec 1 := Scalar.cmpi .slt v850 c0_i32_366
  let v855 : BitVec 32 := Scalar.extui v854
  let v856 : BitVec 32 := Scalar.subi v853 v855
  let c7_i32_364 : BitVec 32 := 7#32
  let c0_i32_367 : BitVec 32 := 0#32
  let v857 : BitVec 1 := Scalar.cmpi .sgt c7_i32_364 c0_i32_367
  let v858 : BitVec 32 := Scalar.extui v857
  let c0_i32_368 : BitVec 32 := 0#32
  let v859 : BitVec 1 := Scalar.cmpi .slt c7_i32_364 c0_i32_368
  let v860 : BitVec 32 := Scalar.extui v859
  let v861 : BitVec 32 := Scalar.subi v858 v860
  let v862 : BitVec 1 := Scalar.cmpi .ne v856 v861
  let v863 : BitVec 32 := Scalar.remsi v850 c7_i32_364
  let c0_i32_369 : BitVec 32 := 0#32
  let v864 : BitVec 1 := Scalar.cmpi .ne v863 c0_i32_369
  let v865 : BitVec 1 := Scalar.andi v862 v864
  let v851 : BitVec 32 := Scalar.divsi v850 c7_i32_364
  let c1_i32_370 : BitVec 32 := 1#32
  let v866 : BitVec 32 := Scalar.subi v851 c1_i32_370
  let v867 : BitVec 32 := Scalar.select v865 v866 v851
  let c8_i32_377 : BitVec 32 := 8#32
  let v878 : BitVec 32 := Scalar.muli v867 c8_i32_377
  let v880 : Index := Scalar.indexCast v878
  let c7_i32_371 : BitVec 32 := 7#32
  let c0_i32_372 : BitVec 32 := 0#32
  let v868 : BitVec 1 := Scalar.cmpi .eq c7_i32_371 c0_i32_372
  let c1_i32_373 : BitVec 32 := 1#32
  let v869 : BitVec 32 := Scalar.select v868 c1_i32_373 c7_i32_371
  let v870 : BitVec 32 := Scalar.remsi v850 v869
  let c0_i32_375 : BitVec 32 := 0#32
  let v872 : BitVec 1 := Scalar.cmpi .slt v870 c0_i32_375
  let c0_i32_376 : BitVec 32 := 0#32
  let v873 : BitVec 1 := Scalar.cmpi .slt v869 c0_i32_376
  let v874 : BitVec 1 := Scalar.xori v872 v873
  let c0_i32_374 : BitVec 32 := 0#32
  let v871 : BitVec 1 := Scalar.cmpi .ne v870 c0_i32_374
  let v875 : BitVec 1 := Scalar.andi v874 v871
  let v876 : BitVec 32 := Scalar.addi v870 v869
  let v877 : BitVec 32 := Scalar.select v875 v876 v870
  let c8_i32_378 : BitVec 32 := 8#32
  let v879 : BitVec 32 := Scalar.muli v877 c8_i32_378
  let v881 : Index := Scalar.indexCast v879
  let c384_380 : Index := 384#32
  ![0, v880.toNat, v881.toNat, 384]

def k0_chk15 (v850 : BitVec 32) : Prop :=
  (∀ a, (k0_off34 v850) a + S1x8x8x768.size a ≤ S1x56x56x1152.size a)
theorem k0_off34_inb : ∀ (v850 : BitVec 32) (k0_hw15 : k0_chk15 v850), ∀ a, (k0_off34 v850) a + S1x8x8x768.size a ≤ S1x56x56x1152.size a := fun v850 k0_hw15 => k0_hw15

def k0_off35 (i : grid0.Coords) : Fin 1 → Nat :=
  let arg0 : BitVec 32 := BitVec.ofNat 32 (i 0).val
  let c49_i32_323 : BitVec 32 := 49#32
  let v765 : BitVec 32 := Scalar.muli arg0 c49_i32_323
  let arg1 : BitVec 32 := BitVec.ofNat 32 (i 1).val
  let c7_i32_324 : BitVec 32 := 7#32
  let v766 : BitVec 32 := Scalar.muli arg1 c7_i32_324
  let v767 : BitVec 32 := Scalar.addi v765 v766
  let c3_i32_325 : BitVec 32 := 3#32
  let v768 : BitVec 32 := Scalar.addi v767 c3_i32_325
  let c4_i32_326 : BitVec 32 := 4#32
  let v769 : BitVec 32 := Scalar.muli v768 c4_i32_326
  let c3_i32_381 : BitVec 32 := 3#32
  let v887 : BitVec 32 := Scalar.addi v769 c3_i32_381
  let v888 : Index := Scalar.indexCast v887
  ![v888.toNat]
def k0_off36 (v889 : BitVec 32) : Fin 4 → Nat :=
  let c0_397 : Index := 0#32
  let c0_i32_383 : BitVec 32 := 0#32
  let v891 : BitVec 1 := Scalar.cmpi .sgt v889 c0_i32_383
  let v892 : BitVec 32 := Scalar.extui v891
  let c0_i32_384 : BitVec 32 := 0#32
  let v893 : BitVec 1 := Scalar.cmpi .slt v889 c0_i32_384
  let v894 : BitVec 32 := Scalar.extui v893
  let v895 : BitVec 32 := Scalar.subi v892 v894
  let c7_i32_382 : BitVec 32 := 7#32
  let c0_i32_385 : BitVec 32 := 0#32
  let v896 : BitVec 1 := Scalar.cmpi .sgt c7_i32_382 c0_i32_385
  let v897 : BitVec 32 := Scalar.extui v896
  let c0_i32_386 : BitVec 32 := 0#32
  let v898 : BitVec 1 := Scalar.cmpi .slt c7_i32_382 c0_i32_386
  let v899 : BitVec 32 := Scalar.extui v898
  let v900 : BitVec 32 := Scalar.subi v897 v899
  let v901 : BitVec 1 := Scalar.cmpi .ne v895 v900
  let v902 : BitVec 32 := Scalar.remsi v889 c7_i32_382
  let c0_i32_387 : BitVec 32 := 0#32
  let v903 : BitVec 1 := Scalar.cmpi .ne v902 c0_i32_387
  let v904 : BitVec 1 := Scalar.andi v901 v903
  let v890 : BitVec 32 := Scalar.divsi v889 c7_i32_382
  let c1_i32_388 : BitVec 32 := 1#32
  let v905 : BitVec 32 := Scalar.subi v890 c1_i32_388
  let v906 : BitVec 32 := Scalar.select v904 v905 v890
  let c8_i32_395 : BitVec 32 := 8#32
  let v917 : BitVec 32 := Scalar.muli v906 c8_i32_395
  let v919 : Index := Scalar.indexCast v917
  let c7_i32_389 : BitVec 32 := 7#32
  let c0_i32_390 : BitVec 32 := 0#32
  let v907 : BitVec 1 := Scalar.cmpi .eq c7_i32_389 c0_i32_390
  let c1_i32_391 : BitVec 32 := 1#32
  let v908 : BitVec 32 := Scalar.select v907 c1_i32_391 c7_i32_389
  let v909 : BitVec 32 := Scalar.remsi v889 v908
  let c0_i32_393 : BitVec 32 := 0#32
  let v911 : BitVec 1 := Scalar.cmpi .slt v909 c0_i32_393
  let c0_i32_394 : BitVec 32 := 0#32
  let v912 : BitVec 1 := Scalar.cmpi .slt v908 c0_i32_394
  let v913 : BitVec 1 := Scalar.xori v911 v912
  let c0_i32_392 : BitVec 32 := 0#32
  let v910 : BitVec 1 := Scalar.cmpi .ne v909 c0_i32_392
  let v914 : BitVec 1 := Scalar.andi v913 v910
  let v915 : BitVec 32 := Scalar.addi v909 v908
  let v916 : BitVec 32 := Scalar.select v914 v915 v909
  let c8_i32_396 : BitVec 32 := 8#32
  let v918 : BitVec 32 := Scalar.muli v916 c8_i32_396
  let v920 : Index := Scalar.indexCast v918
  let c384_398 : Index := 384#32
  ![0, v919.toNat, v920.toNat, 384]

def k0_chk16 (v889 : BitVec 32) : Prop :=
  (∀ a, (k0_off36 v889) a + S1x8x8x768.size a ≤ S1x56x56x1152.size a)
theorem k0_off36_inb : ∀ (v889 : BitVec 32) (k0_hw16 : k0_chk16 v889), ∀ a, (k0_off36 v889) a + S1x8x8x768.size a ≤ S1x56x56x1152.size a := fun v889 k0_hw16 => k0_hw16

def k0_off37 (i : grid0.Coords) : Fin 4 → Nat :=
  let c0_434 : Index := 0#32
  let arg1 : BitVec 32 := BitVec.ofNat 32 (i 1).val
  let c8_i32_433 : BitVec 32 := 8#32
  let v1009 : BitVec 32 := Scalar.muli arg1 c8_i32_433
  let v1010 : Index := Scalar.indexCast v1009
  let c32_435 : Index := 32#32
  let c0_436 : Index := 0#32
  ![0, v1010.toNat, 32, 0]
def k0_off38 (i : grid0.Coords) : Fin 1 → Nat :=
  let arg0 : BitVec 32 := BitVec.ofNat 32 (i 0).val
  let c49_i32_438 : BitVec 32 := 49#32
  let v1016 : BitVec 32 := Scalar.muli arg0 c49_i32_438
  let arg1 : BitVec 32 := BitVec.ofNat 32 (i 1).val
  let c7_i32_439 : BitVec 32 := 7#32
  let v1017 : BitVec 32 := Scalar.muli arg1 c7_i32_439
  let v1018 : BitVec 32 := Scalar.addi v1016 v1017
  let c4_i32_440 : BitVec 32 := 4#32
  let v1019 : BitVec 32 := Scalar.addi v1018 c4_i32_440
  let c4_i32_441 : BitVec 32 := 4#32
  let v1020 : BitVec 32 := Scalar.muli v1019 c4_i32_441
  let c0_i32_442 : BitVec 32 := 0#32
  let v1021 : BitVec 32 := Scalar.addi v1020 c0_i32_442
  let v1022 : Index := Scalar.indexCast v1021
  ![v1022.toNat]
def k0_off39 (v1023 : BitVec 32) : Fin 4 → Nat :=
  let c0_458 : Index := 0#32
  let c0_i32_444 : BitVec 32 := 0#32
  let v1025 : BitVec 1 := Scalar.cmpi .sgt v1023 c0_i32_444
  let v1026 : BitVec 32 := Scalar.extui v1025
  let c0_i32_445 : BitVec 32 := 0#32
  let v1027 : BitVec 1 := Scalar.cmpi .slt v1023 c0_i32_445
  let v1028 : BitVec 32 := Scalar.extui v1027
  let v1029 : BitVec 32 := Scalar.subi v1026 v1028
  let c7_i32_443 : BitVec 32 := 7#32
  let c0_i32_446 : BitVec 32 := 0#32
  let v1030 : BitVec 1 := Scalar.cmpi .sgt c7_i32_443 c0_i32_446
  let v1031 : BitVec 32 := Scalar.extui v1030
  let c0_i32_447 : BitVec 32 := 0#32
  let v1032 : BitVec 1 := Scalar.cmpi .slt c7_i32_443 c0_i32_447
  let v1033 : BitVec 32 := Scalar.extui v1032
  let v1034 : BitVec 32 := Scalar.subi v1031 v1033
  let v1035 : BitVec 1 := Scalar.cmpi .ne v1029 v1034
  let v1036 : BitVec 32 := Scalar.remsi v1023 c7_i32_443
  let c0_i32_448 : BitVec 32 := 0#32
  let v1037 : BitVec 1 := Scalar.cmpi .ne v1036 c0_i32_448
  let v1038 : BitVec 1 := Scalar.andi v1035 v1037
  let v1024 : BitVec 32 := Scalar.divsi v1023 c7_i32_443
  let c1_i32_449 : BitVec 32 := 1#32
  let v1039 : BitVec 32 := Scalar.subi v1024 c1_i32_449
  let v1040 : BitVec 32 := Scalar.select v1038 v1039 v1024
  let c8_i32_456 : BitVec 32 := 8#32
  let v1051 : BitVec 32 := Scalar.muli v1040 c8_i32_456
  let v1053 : Index := Scalar.indexCast v1051
  let c7_i32_450 : BitVec 32 := 7#32
  let c0_i32_451 : BitVec 32 := 0#32
  let v1041 : BitVec 1 := Scalar.cmpi .eq c7_i32_450 c0_i32_451
  let c1_i32_452 : BitVec 32 := 1#32
  let v1042 : BitVec 32 := Scalar.select v1041 c1_i32_452 c7_i32_450
  let v1043 : BitVec 32 := Scalar.remsi v1023 v1042
  let c0_i32_454 : BitVec 32 := 0#32
  let v1045 : BitVec 1 := Scalar.cmpi .slt v1043 c0_i32_454
  let c0_i32_455 : BitVec 32 := 0#32
  let v1046 : BitVec 1 := Scalar.cmpi .slt v1042 c0_i32_455
  let v1047 : BitVec 1 := Scalar.xori v1045 v1046
  let c0_i32_453 : BitVec 32 := 0#32
  let v1044 : BitVec 1 := Scalar.cmpi .ne v1043 c0_i32_453
  let v1048 : BitVec 1 := Scalar.andi v1047 v1044
  let v1049 : BitVec 32 := Scalar.addi v1043 v1042
  let v1050 : BitVec 32 := Scalar.select v1048 v1049 v1043
  let c8_i32_457 : BitVec 32 := 8#32
  let v1052 : BitVec 32 := Scalar.muli v1050 c8_i32_457
  let v1054 : Index := Scalar.indexCast v1052
  let c384_459 : Index := 384#32
  ![0, v1053.toNat, v1054.toNat, 384]

def k0_chk17 (v1023 : BitVec 32) : Prop :=
  (∀ a, (k0_off39 v1023) a + S1x8x8x768.size a ≤ S1x56x56x1152.size a)
theorem k0_off39_inb : ∀ (v1023 : BitVec 32) (k0_hw17 : k0_chk17 v1023), ∀ a, (k0_off39 v1023) a + S1x8x8x768.size a ≤ S1x56x56x1152.size a := fun v1023 k0_hw17 => k0_hw17

def k0_off40 (i : grid0.Coords) : Fin 1 → Nat :=
  let arg0 : BitVec 32 := BitVec.ofNat 32 (i 0).val
  let c49_i32_438 : BitVec 32 := 49#32
  let v1016 : BitVec 32 := Scalar.muli arg0 c49_i32_438
  let arg1 : BitVec 32 := BitVec.ofNat 32 (i 1).val
  let c7_i32_439 : BitVec 32 := 7#32
  let v1017 : BitVec 32 := Scalar.muli arg1 c7_i32_439
  let v1018 : BitVec 32 := Scalar.addi v1016 v1017
  let c4_i32_440 : BitVec 32 := 4#32
  let v1019 : BitVec 32 := Scalar.addi v1018 c4_i32_440
  let c4_i32_441 : BitVec 32 := 4#32
  let v1020 : BitVec 32 := Scalar.muli v1019 c4_i32_441
  let c1_i32_460 : BitVec 32 := 1#32
  let v1060 : BitVec 32 := Scalar.addi v1020 c1_i32_460
  let v1061 : Index := Scalar.indexCast v1060
  ![v1061.toNat]
def k0_off41 (v1062 : BitVec 32) : Fin 4 → Nat :=
  let c0_476 : Index := 0#32
  let c0_i32_462 : BitVec 32 := 0#32
  let v1064 : BitVec 1 := Scalar.cmpi .sgt v1062 c0_i32_462
  let v1065 : BitVec 32 := Scalar.extui v1064
  let c0_i32_463 : BitVec 32 := 0#32
  let v1066 : BitVec 1 := Scalar.cmpi .slt v1062 c0_i32_463
  let v1067 : BitVec 32 := Scalar.extui v1066
  let v1068 : BitVec 32 := Scalar.subi v1065 v1067
  let c7_i32_461 : BitVec 32 := 7#32
  let c0_i32_464 : BitVec 32 := 0#32
  let v1069 : BitVec 1 := Scalar.cmpi .sgt c7_i32_461 c0_i32_464
  let v1070 : BitVec 32 := Scalar.extui v1069
  let c0_i32_465 : BitVec 32 := 0#32
  let v1071 : BitVec 1 := Scalar.cmpi .slt c7_i32_461 c0_i32_465
  let v1072 : BitVec 32 := Scalar.extui v1071
  let v1073 : BitVec 32 := Scalar.subi v1070 v1072
  let v1074 : BitVec 1 := Scalar.cmpi .ne v1068 v1073
  let v1075 : BitVec 32 := Scalar.remsi v1062 c7_i32_461
  let c0_i32_466 : BitVec 32 := 0#32
  let v1076 : BitVec 1 := Scalar.cmpi .ne v1075 c0_i32_466
  let v1077 : BitVec 1 := Scalar.andi v1074 v1076
  let v1063 : BitVec 32 := Scalar.divsi v1062 c7_i32_461
  let c1_i32_467 : BitVec 32 := 1#32
  let v1078 : BitVec 32 := Scalar.subi v1063 c1_i32_467
  let v1079 : BitVec 32 := Scalar.select v1077 v1078 v1063
  let c8_i32_474 : BitVec 32 := 8#32
  let v1090 : BitVec 32 := Scalar.muli v1079 c8_i32_474
  let v1092 : Index := Scalar.indexCast v1090
  let c7_i32_468 : BitVec 32 := 7#32
  let c0_i32_469 : BitVec 32 := 0#32
  let v1080 : BitVec 1 := Scalar.cmpi .eq c7_i32_468 c0_i32_469
  let c1_i32_470 : BitVec 32 := 1#32
  let v1081 : BitVec 32 := Scalar.select v1080 c1_i32_470 c7_i32_468
  let v1082 : BitVec 32 := Scalar.remsi v1062 v1081
  let c0_i32_472 : BitVec 32 := 0#32
  let v1084 : BitVec 1 := Scalar.cmpi .slt v1082 c0_i32_472
  let c0_i32_473 : BitVec 32 := 0#32
  let v1085 : BitVec 1 := Scalar.cmpi .slt v1081 c0_i32_473
  let v1086 : BitVec 1 := Scalar.xori v1084 v1085
  let c0_i32_471 : BitVec 32 := 0#32
  let v1083 : BitVec 1 := Scalar.cmpi .ne v1082 c0_i32_471
  let v1087 : BitVec 1 := Scalar.andi v1086 v1083
  let v1088 : BitVec 32 := Scalar.addi v1082 v1081
  let v1089 : BitVec 32 := Scalar.select v1087 v1088 v1082
  let c8_i32_475 : BitVec 32 := 8#32
  let v1091 : BitVec 32 := Scalar.muli v1089 c8_i32_475
  let v1093 : Index := Scalar.indexCast v1091
  let c384_477 : Index := 384#32
  ![0, v1092.toNat, v1093.toNat, 384]

def k0_chk18 (v1062 : BitVec 32) : Prop :=
  (∀ a, (k0_off41 v1062) a + S1x8x8x768.size a ≤ S1x56x56x1152.size a)
theorem k0_off41_inb : ∀ (v1062 : BitVec 32) (k0_hw18 : k0_chk18 v1062), ∀ a, (k0_off41 v1062) a + S1x8x8x768.size a ≤ S1x56x56x1152.size a := fun v1062 k0_hw18 => k0_hw18

def k0_off42 (i : grid0.Coords) : Fin 1 → Nat :=
  let arg0 : BitVec 32 := BitVec.ofNat 32 (i 0).val
  let c49_i32_438 : BitVec 32 := 49#32
  let v1016 : BitVec 32 := Scalar.muli arg0 c49_i32_438
  let arg1 : BitVec 32 := BitVec.ofNat 32 (i 1).val
  let c7_i32_439 : BitVec 32 := 7#32
  let v1017 : BitVec 32 := Scalar.muli arg1 c7_i32_439
  let v1018 : BitVec 32 := Scalar.addi v1016 v1017
  let c4_i32_440 : BitVec 32 := 4#32
  let v1019 : BitVec 32 := Scalar.addi v1018 c4_i32_440
  let c4_i32_441 : BitVec 32 := 4#32
  let v1020 : BitVec 32 := Scalar.muli v1019 c4_i32_441
  let c2_i32_478 : BitVec 32 := 2#32
  let v1099 : BitVec 32 := Scalar.addi v1020 c2_i32_478
  let v1100 : Index := Scalar.indexCast v1099
  ![v1100.toNat]
def k0_off43 (v1101 : BitVec 32) : Fin 4 → Nat :=
  let c0_494 : Index := 0#32
  let c0_i32_480 : BitVec 32 := 0#32
  let v1103 : BitVec 1 := Scalar.cmpi .sgt v1101 c0_i32_480
  let v1104 : BitVec 32 := Scalar.extui v1103
  let c0_i32_481 : BitVec 32 := 0#32
  let v1105 : BitVec 1 := Scalar.cmpi .slt v1101 c0_i32_481
  let v1106 : BitVec 32 := Scalar.extui v1105
  let v1107 : BitVec 32 := Scalar.subi v1104 v1106
  let c7_i32_479 : BitVec 32 := 7#32
  let c0_i32_482 : BitVec 32 := 0#32
  let v1108 : BitVec 1 := Scalar.cmpi .sgt c7_i32_479 c0_i32_482
  let v1109 : BitVec 32 := Scalar.extui v1108
  let c0_i32_483 : BitVec 32 := 0#32
  let v1110 : BitVec 1 := Scalar.cmpi .slt c7_i32_479 c0_i32_483
  let v1111 : BitVec 32 := Scalar.extui v1110
  let v1112 : BitVec 32 := Scalar.subi v1109 v1111
  let v1113 : BitVec 1 := Scalar.cmpi .ne v1107 v1112
  let v1114 : BitVec 32 := Scalar.remsi v1101 c7_i32_479
  let c0_i32_484 : BitVec 32 := 0#32
  let v1115 : BitVec 1 := Scalar.cmpi .ne v1114 c0_i32_484
  let v1116 : BitVec 1 := Scalar.andi v1113 v1115
  let v1102 : BitVec 32 := Scalar.divsi v1101 c7_i32_479
  let c1_i32_485 : BitVec 32 := 1#32
  let v1117 : BitVec 32 := Scalar.subi v1102 c1_i32_485
  let v1118 : BitVec 32 := Scalar.select v1116 v1117 v1102
  let c8_i32_492 : BitVec 32 := 8#32
  let v1129 : BitVec 32 := Scalar.muli v1118 c8_i32_492
  let v1131 : Index := Scalar.indexCast v1129
  let c7_i32_486 : BitVec 32 := 7#32
  let c0_i32_487 : BitVec 32 := 0#32
  let v1119 : BitVec 1 := Scalar.cmpi .eq c7_i32_486 c0_i32_487
  let c1_i32_488 : BitVec 32 := 1#32
  let v1120 : BitVec 32 := Scalar.select v1119 c1_i32_488 c7_i32_486
  let v1121 : BitVec 32 := Scalar.remsi v1101 v1120
  let c0_i32_490 : BitVec 32 := 0#32
  let v1123 : BitVec 1 := Scalar.cmpi .slt v1121 c0_i32_490
  let c0_i32_491 : BitVec 32 := 0#32
  let v1124 : BitVec 1 := Scalar.cmpi .slt v1120 c0_i32_491
  let v1125 : BitVec 1 := Scalar.xori v1123 v1124
  let c0_i32_489 : BitVec 32 := 0#32
  let v1122 : BitVec 1 := Scalar.cmpi .ne v1121 c0_i32_489
  let v1126 : BitVec 1 := Scalar.andi v1125 v1122
  let v1127 : BitVec 32 := Scalar.addi v1121 v1120
  let v1128 : BitVec 32 := Scalar.select v1126 v1127 v1121
  let c8_i32_493 : BitVec 32 := 8#32
  let v1130 : BitVec 32 := Scalar.muli v1128 c8_i32_493
  let v1132 : Index := Scalar.indexCast v1130
  let c384_495 : Index := 384#32
  ![0, v1131.toNat, v1132.toNat, 384]

def k0_chk19 (v1101 : BitVec 32) : Prop :=
  (∀ a, (k0_off43 v1101) a + S1x8x8x768.size a ≤ S1x56x56x1152.size a)
theorem k0_off43_inb : ∀ (v1101 : BitVec 32) (k0_hw19 : k0_chk19 v1101), ∀ a, (k0_off43 v1101) a + S1x8x8x768.size a ≤ S1x56x56x1152.size a := fun v1101 k0_hw19 => k0_hw19

def k0_off44 (i : grid0.Coords) : Fin 1 → Nat :=
  let arg0 : BitVec 32 := BitVec.ofNat 32 (i 0).val
  let c49_i32_438 : BitVec 32 := 49#32
  let v1016 : BitVec 32 := Scalar.muli arg0 c49_i32_438
  let arg1 : BitVec 32 := BitVec.ofNat 32 (i 1).val
  let c7_i32_439 : BitVec 32 := 7#32
  let v1017 : BitVec 32 := Scalar.muli arg1 c7_i32_439
  let v1018 : BitVec 32 := Scalar.addi v1016 v1017
  let c4_i32_440 : BitVec 32 := 4#32
  let v1019 : BitVec 32 := Scalar.addi v1018 c4_i32_440
  let c4_i32_441 : BitVec 32 := 4#32
  let v1020 : BitVec 32 := Scalar.muli v1019 c4_i32_441
  let c3_i32_496 : BitVec 32 := 3#32
  let v1138 : BitVec 32 := Scalar.addi v1020 c3_i32_496
  let v1139 : Index := Scalar.indexCast v1138
  ![v1139.toNat]
def k0_off45 (v1140 : BitVec 32) : Fin 4 → Nat :=
  let c0_512 : Index := 0#32
  let c0_i32_498 : BitVec 32 := 0#32
  let v1142 : BitVec 1 := Scalar.cmpi .sgt v1140 c0_i32_498
  let v1143 : BitVec 32 := Scalar.extui v1142
  let c0_i32_499 : BitVec 32 := 0#32
  let v1144 : BitVec 1 := Scalar.cmpi .slt v1140 c0_i32_499
  let v1145 : BitVec 32 := Scalar.extui v1144
  let v1146 : BitVec 32 := Scalar.subi v1143 v1145
  let c7_i32_497 : BitVec 32 := 7#32
  let c0_i32_500 : BitVec 32 := 0#32
  let v1147 : BitVec 1 := Scalar.cmpi .sgt c7_i32_497 c0_i32_500
  let v1148 : BitVec 32 := Scalar.extui v1147
  let c0_i32_501 : BitVec 32 := 0#32
  let v1149 : BitVec 1 := Scalar.cmpi .slt c7_i32_497 c0_i32_501
  let v1150 : BitVec 32 := Scalar.extui v1149
  let v1151 : BitVec 32 := Scalar.subi v1148 v1150
  let v1152 : BitVec 1 := Scalar.cmpi .ne v1146 v1151
  let v1153 : BitVec 32 := Scalar.remsi v1140 c7_i32_497
  let c0_i32_502 : BitVec 32 := 0#32
  let v1154 : BitVec 1 := Scalar.cmpi .ne v1153 c0_i32_502
  let v1155 : BitVec 1 := Scalar.andi v1152 v1154
  let v1141 : BitVec 32 := Scalar.divsi v1140 c7_i32_497
  let c1_i32_503 : BitVec 32 := 1#32
  let v1156 : BitVec 32 := Scalar.subi v1141 c1_i32_503
  let v1157 : BitVec 32 := Scalar.select v1155 v1156 v1141
  let c8_i32_510 : BitVec 32 := 8#32
  let v1168 : BitVec 32 := Scalar.muli v1157 c8_i32_510
  let v1170 : Index := Scalar.indexCast v1168
  let c7_i32_504 : BitVec 32 := 7#32
  let c0_i32_505 : BitVec 32 := 0#32
  let v1158 : BitVec 1 := Scalar.cmpi .eq c7_i32_504 c0_i32_505
  let c1_i32_506 : BitVec 32 := 1#32
  let v1159 : BitVec 32 := Scalar.select v1158 c1_i32_506 c7_i32_504
  let v1160 : BitVec 32 := Scalar.remsi v1140 v1159
  let c0_i32_508 : BitVec 32 := 0#32
  let v1162 : BitVec 1 := Scalar.cmpi .slt v1160 c0_i32_508
  let c0_i32_509 : BitVec 32 := 0#32
  let v1163 : BitVec 1 := Scalar.cmpi .slt v1159 c0_i32_509
  let v1164 : BitVec 1 := Scalar.xori v1162 v1163
  let c0_i32_507 : BitVec 32 := 0#32
  let v1161 : BitVec 1 := Scalar.cmpi .ne v1160 c0_i32_507
  let v1165 : BitVec 1 := Scalar.andi v1164 v1161
  let v1166 : BitVec 32 := Scalar.addi v1160 v1159
  let v1167 : BitVec 32 := Scalar.select v1165 v1166 v1160
  let c8_i32_511 : BitVec 32 := 8#32
  let v1169 : BitVec 32 := Scalar.muli v1167 c8_i32_511
  let v1171 : Index := Scalar.indexCast v1169
  let c384_513 : Index := 384#32
  ![0, v1170.toNat, v1171.toNat, 384]

def k0_chk20 (v1140 : BitVec 32) : Prop :=
  (∀ a, (k0_off45 v1140) a + S1x8x8x768.size a ≤ S1x56x56x1152.size a)
theorem k0_off45_inb : ∀ (v1140 : BitVec 32) (k0_hw20 : k0_chk20 v1140), ∀ a, (k0_off45 v1140) a + S1x8x8x768.size a ≤ S1x56x56x1152.size a := fun v1140 k0_hw20 => k0_hw20

def k0_off46 (i : grid0.Coords) : Fin 4 → Nat :=
  let c0_549 : Index := 0#32
  let arg1 : BitVec 32 := BitVec.ofNat 32 (i 1).val
  let c8_i32_548 : BitVec 32 := 8#32
  let v1260 : BitVec 32 := Scalar.muli arg1 c8_i32_548
  let v1261 : Index := Scalar.indexCast v1260
  let c40 : Index := 40#32
  let c0_550 : Index := 0#32
  ![0, v1261.toNat, 40, 0]
def k0_off47 (i : grid0.Coords) : Fin 1 → Nat :=
  let arg0 : BitVec 32 := BitVec.ofNat 32 (i 0).val
  let c49_i32_552 : BitVec 32 := 49#32
  let v1267 : BitVec 32 := Scalar.muli arg0 c49_i32_552
  let arg1 : BitVec 32 := BitVec.ofNat 32 (i 1).val
  let c7_i32_553 : BitVec 32 := 7#32
  let v1268 : BitVec 32 := Scalar.muli arg1 c7_i32_553
  let v1269 : BitVec 32 := Scalar.addi v1267 v1268
  let c5_i32 : BitVec 32 := 5#32
  let v1270 : BitVec 32 := Scalar.addi v1269 c5_i32
  let c4_i32_554 : BitVec 32 := 4#32
  let v1271 : BitVec 32 := Scalar.muli v1270 c4_i32_554
  let c0_i32_555 : BitVec 32 := 0#32
  let v1272 : BitVec 32 := Scalar.addi v1271 c0_i32_555
  let v1273 : Index := Scalar.indexCast v1272
  ![v1273.toNat]
def k0_off48 (v1274 : BitVec 32) : Fin 4 → Nat :=
  let c0_571 : Index := 0#32
  let c0_i32_557 : BitVec 32 := 0#32
  let v1276 : BitVec 1 := Scalar.cmpi .sgt v1274 c0_i32_557
  let v1277 : BitVec 32 := Scalar.extui v1276
  let c0_i32_558 : BitVec 32 := 0#32
  let v1278 : BitVec 1 := Scalar.cmpi .slt v1274 c0_i32_558
  let v1279 : BitVec 32 := Scalar.extui v1278
  let v1280 : BitVec 32 := Scalar.subi v1277 v1279
  let c7_i32_556 : BitVec 32 := 7#32
  let c0_i32_559 : BitVec 32 := 0#32
  let v1281 : BitVec 1 := Scalar.cmpi .sgt c7_i32_556 c0_i32_559
  let v1282 : BitVec 32 := Scalar.extui v1281
  let c0_i32_560 : BitVec 32 := 0#32
  let v1283 : BitVec 1 := Scalar.cmpi .slt c7_i32_556 c0_i32_560
  let v1284 : BitVec 32 := Scalar.extui v1283
  let v1285 : BitVec 32 := Scalar.subi v1282 v1284
  let v1286 : BitVec 1 := Scalar.cmpi .ne v1280 v1285
  let v1287 : BitVec 32 := Scalar.remsi v1274 c7_i32_556
  let c0_i32_561 : BitVec 32 := 0#32
  let v1288 : BitVec 1 := Scalar.cmpi .ne v1287 c0_i32_561
  let v1289 : BitVec 1 := Scalar.andi v1286 v1288
  let v1275 : BitVec 32 := Scalar.divsi v1274 c7_i32_556
  let c1_i32_562 : BitVec 32 := 1#32
  let v1290 : BitVec 32 := Scalar.subi v1275 c1_i32_562
  let v1291 : BitVec 32 := Scalar.select v1289 v1290 v1275
  let c8_i32_569 : BitVec 32 := 8#32
  let v1302 : BitVec 32 := Scalar.muli v1291 c8_i32_569
  let v1304 : Index := Scalar.indexCast v1302
  let c7_i32_563 : BitVec 32 := 7#32
  let c0_i32_564 : BitVec 32 := 0#32
  let v1292 : BitVec 1 := Scalar.cmpi .eq c7_i32_563 c0_i32_564
  let c1_i32_565 : BitVec 32 := 1#32
  let v1293 : BitVec 32 := Scalar.select v1292 c1_i32_565 c7_i32_563
  let v1294 : BitVec 32 := Scalar.remsi v1274 v1293
  let c0_i32_567 : BitVec 32 := 0#32
  let v1296 : BitVec 1 := Scalar.cmpi .slt v1294 c0_i32_567
  let c0_i32_568 : BitVec 32 := 0#32
  let v1297 : BitVec 1 := Scalar.cmpi .slt v1293 c0_i32_568
  let v1298 : BitVec 1 := Scalar.xori v1296 v1297
  let c0_i32_566 : BitVec 32 := 0#32
  let v1295 : BitVec 1 := Scalar.cmpi .ne v1294 c0_i32_566
  let v1299 : BitVec 1 := Scalar.andi v1298 v1295
  let v1300 : BitVec 32 := Scalar.addi v1294 v1293
  let v1301 : BitVec 32 := Scalar.select v1299 v1300 v1294
  let c8_i32_570 : BitVec 32 := 8#32
  let v1303 : BitVec 32 := Scalar.muli v1301 c8_i32_570
  let v1305 : Index := Scalar.indexCast v1303
  let c384_572 : Index := 384#32
  ![0, v1304.toNat, v1305.toNat, 384]

def k0_chk21 (v1274 : BitVec 32) : Prop :=
  (∀ a, (k0_off48 v1274) a + S1x8x8x768.size a ≤ S1x56x56x1152.size a)
theorem k0_off48_inb : ∀ (v1274 : BitVec 32) (k0_hw21 : k0_chk21 v1274), ∀ a, (k0_off48 v1274) a + S1x8x8x768.size a ≤ S1x56x56x1152.size a := fun v1274 k0_hw21 => k0_hw21

def k0_off49 (i : grid0.Coords) : Fin 1 → Nat :=
  let arg0 : BitVec 32 := BitVec.ofNat 32 (i 0).val
  let c49_i32_552 : BitVec 32 := 49#32
  let v1267 : BitVec 32 := Scalar.muli arg0 c49_i32_552
  let arg1 : BitVec 32 := BitVec.ofNat 32 (i 1).val
  let c7_i32_553 : BitVec 32 := 7#32
  let v1268 : BitVec 32 := Scalar.muli arg1 c7_i32_553
  let v1269 : BitVec 32 := Scalar.addi v1267 v1268
  let c5_i32 : BitVec 32 := 5#32
  let v1270 : BitVec 32 := Scalar.addi v1269 c5_i32
  let c4_i32_554 : BitVec 32 := 4#32
  let v1271 : BitVec 32 := Scalar.muli v1270 c4_i32_554
  let c1_i32_573 : BitVec 32 := 1#32
  let v1311 : BitVec 32 := Scalar.addi v1271 c1_i32_573
  let v1312 : Index := Scalar.indexCast v1311
  ![v1312.toNat]
def k0_off50 (v1313 : BitVec 32) : Fin 4 → Nat :=
  let c0_589 : Index := 0#32
  let c0_i32_575 : BitVec 32 := 0#32
  let v1315 : BitVec 1 := Scalar.cmpi .sgt v1313 c0_i32_575
  let v1316 : BitVec 32 := Scalar.extui v1315
  let c0_i32_576 : BitVec 32 := 0#32
  let v1317 : BitVec 1 := Scalar.cmpi .slt v1313 c0_i32_576
  let v1318 : BitVec 32 := Scalar.extui v1317
  let v1319 : BitVec 32 := Scalar.subi v1316 v1318
  let c7_i32_574 : BitVec 32 := 7#32
  let c0_i32_577 : BitVec 32 := 0#32
  let v1320 : BitVec 1 := Scalar.cmpi .sgt c7_i32_574 c0_i32_577
  let v1321 : BitVec 32 := Scalar.extui v1320
  let c0_i32_578 : BitVec 32 := 0#32
  let v1322 : BitVec 1 := Scalar.cmpi .slt c7_i32_574 c0_i32_578
  let v1323 : BitVec 32 := Scalar.extui v1322
  let v1324 : BitVec 32 := Scalar.subi v1321 v1323
  let v1325 : BitVec 1 := Scalar.cmpi .ne v1319 v1324
  let v1326 : BitVec 32 := Scalar.remsi v1313 c7_i32_574
  let c0_i32_579 : BitVec 32 := 0#32
  let v1327 : BitVec 1 := Scalar.cmpi .ne v1326 c0_i32_579
  let v1328 : BitVec 1 := Scalar.andi v1325 v1327
  let v1314 : BitVec 32 := Scalar.divsi v1313 c7_i32_574
  let c1_i32_580 : BitVec 32 := 1#32
  let v1329 : BitVec 32 := Scalar.subi v1314 c1_i32_580
  let v1330 : BitVec 32 := Scalar.select v1328 v1329 v1314
  let c8_i32_587 : BitVec 32 := 8#32
  let v1341 : BitVec 32 := Scalar.muli v1330 c8_i32_587
  let v1343 : Index := Scalar.indexCast v1341
  let c7_i32_581 : BitVec 32 := 7#32
  let c0_i32_582 : BitVec 32 := 0#32
  let v1331 : BitVec 1 := Scalar.cmpi .eq c7_i32_581 c0_i32_582
  let c1_i32_583 : BitVec 32 := 1#32
  let v1332 : BitVec 32 := Scalar.select v1331 c1_i32_583 c7_i32_581
  let v1333 : BitVec 32 := Scalar.remsi v1313 v1332
  let c0_i32_585 : BitVec 32 := 0#32
  let v1335 : BitVec 1 := Scalar.cmpi .slt v1333 c0_i32_585
  let c0_i32_586 : BitVec 32 := 0#32
  let v1336 : BitVec 1 := Scalar.cmpi .slt v1332 c0_i32_586
  let v1337 : BitVec 1 := Scalar.xori v1335 v1336
  let c0_i32_584 : BitVec 32 := 0#32
  let v1334 : BitVec 1 := Scalar.cmpi .ne v1333 c0_i32_584
  let v1338 : BitVec 1 := Scalar.andi v1337 v1334
  let v1339 : BitVec 32 := Scalar.addi v1333 v1332
  let v1340 : BitVec 32 := Scalar.select v1338 v1339 v1333
  let c8_i32_588 : BitVec 32 := 8#32
  let v1342 : BitVec 32 := Scalar.muli v1340 c8_i32_588
  let v1344 : Index := Scalar.indexCast v1342
  let c384_590 : Index := 384#32
  ![0, v1343.toNat, v1344.toNat, 384]

def k0_chk22 (v1313 : BitVec 32) : Prop :=
  (∀ a, (k0_off50 v1313) a + S1x8x8x768.size a ≤ S1x56x56x1152.size a)
theorem k0_off50_inb : ∀ (v1313 : BitVec 32) (k0_hw22 : k0_chk22 v1313), ∀ a, (k0_off50 v1313) a + S1x8x8x768.size a ≤ S1x56x56x1152.size a := fun v1313 k0_hw22 => k0_hw22

def k0_off51 (i : grid0.Coords) : Fin 1 → Nat :=
  let arg0 : BitVec 32 := BitVec.ofNat 32 (i 0).val
  let c49_i32_552 : BitVec 32 := 49#32
  let v1267 : BitVec 32 := Scalar.muli arg0 c49_i32_552
  let arg1 : BitVec 32 := BitVec.ofNat 32 (i 1).val
  let c7_i32_553 : BitVec 32 := 7#32
  let v1268 : BitVec 32 := Scalar.muli arg1 c7_i32_553
  let v1269 : BitVec 32 := Scalar.addi v1267 v1268
  let c5_i32 : BitVec 32 := 5#32
  let v1270 : BitVec 32 := Scalar.addi v1269 c5_i32
  let c4_i32_554 : BitVec 32 := 4#32
  let v1271 : BitVec 32 := Scalar.muli v1270 c4_i32_554
  let c2_i32_591 : BitVec 32 := 2#32
  let v1350 : BitVec 32 := Scalar.addi v1271 c2_i32_591
  let v1351 : Index := Scalar.indexCast v1350
  ![v1351.toNat]
def k0_off52 (v1352 : BitVec 32) : Fin 4 → Nat :=
  let c0_607 : Index := 0#32
  let c0_i32_593 : BitVec 32 := 0#32
  let v1354 : BitVec 1 := Scalar.cmpi .sgt v1352 c0_i32_593
  let v1355 : BitVec 32 := Scalar.extui v1354
  let c0_i32_594 : BitVec 32 := 0#32
  let v1356 : BitVec 1 := Scalar.cmpi .slt v1352 c0_i32_594
  let v1357 : BitVec 32 := Scalar.extui v1356
  let v1358 : BitVec 32 := Scalar.subi v1355 v1357
  let c7_i32_592 : BitVec 32 := 7#32
  let c0_i32_595 : BitVec 32 := 0#32
  let v1359 : BitVec 1 := Scalar.cmpi .sgt c7_i32_592 c0_i32_595
  let v1360 : BitVec 32 := Scalar.extui v1359
  let c0_i32_596 : BitVec 32 := 0#32
  let v1361 : BitVec 1 := Scalar.cmpi .slt c7_i32_592 c0_i32_596
  let v1362 : BitVec 32 := Scalar.extui v1361
  let v1363 : BitVec 32 := Scalar.subi v1360 v1362
  let v1364 : BitVec 1 := Scalar.cmpi .ne v1358 v1363
  let v1365 : BitVec 32 := Scalar.remsi v1352 c7_i32_592
  let c0_i32_597 : BitVec 32 := 0#32
  let v1366 : BitVec 1 := Scalar.cmpi .ne v1365 c0_i32_597
  let v1367 : BitVec 1 := Scalar.andi v1364 v1366
  let v1353 : BitVec 32 := Scalar.divsi v1352 c7_i32_592
  let c1_i32_598 : BitVec 32 := 1#32
  let v1368 : BitVec 32 := Scalar.subi v1353 c1_i32_598
  let v1369 : BitVec 32 := Scalar.select v1367 v1368 v1353
  let c8_i32_605 : BitVec 32 := 8#32
  let v1380 : BitVec 32 := Scalar.muli v1369 c8_i32_605
  let v1382 : Index := Scalar.indexCast v1380
  let c7_i32_599 : BitVec 32 := 7#32
  let c0_i32_600 : BitVec 32 := 0#32
  let v1370 : BitVec 1 := Scalar.cmpi .eq c7_i32_599 c0_i32_600
  let c1_i32_601 : BitVec 32 := 1#32
  let v1371 : BitVec 32 := Scalar.select v1370 c1_i32_601 c7_i32_599
  let v1372 : BitVec 32 := Scalar.remsi v1352 v1371
  let c0_i32_603 : BitVec 32 := 0#32
  let v1374 : BitVec 1 := Scalar.cmpi .slt v1372 c0_i32_603
  let c0_i32_604 : BitVec 32 := 0#32
  let v1375 : BitVec 1 := Scalar.cmpi .slt v1371 c0_i32_604
  let v1376 : BitVec 1 := Scalar.xori v1374 v1375
  let c0_i32_602 : BitVec 32 := 0#32
  let v1373 : BitVec 1 := Scalar.cmpi .ne v1372 c0_i32_602
  let v1377 : BitVec 1 := Scalar.andi v1376 v1373
  let v1378 : BitVec 32 := Scalar.addi v1372 v1371
  let v1379 : BitVec 32 := Scalar.select v1377 v1378 v1372
  let c8_i32_606 : BitVec 32 := 8#32
  let v1381 : BitVec 32 := Scalar.muli v1379 c8_i32_606
  let v1383 : Index := Scalar.indexCast v1381
  let c384_608 : Index := 384#32
  ![0, v1382.toNat, v1383.toNat, 384]

def k0_chk23 (v1352 : BitVec 32) : Prop :=
  (∀ a, (k0_off52 v1352) a + S1x8x8x768.size a ≤ S1x56x56x1152.size a)
theorem k0_off52_inb : ∀ (v1352 : BitVec 32) (k0_hw23 : k0_chk23 v1352), ∀ a, (k0_off52 v1352) a + S1x8x8x768.size a ≤ S1x56x56x1152.size a := fun v1352 k0_hw23 => k0_hw23

def k0_off53 (i : grid0.Coords) : Fin 1 → Nat :=
  let arg0 : BitVec 32 := BitVec.ofNat 32 (i 0).val
  let c49_i32_552 : BitVec 32 := 49#32
  let v1267 : BitVec 32 := Scalar.muli arg0 c49_i32_552
  let arg1 : BitVec 32 := BitVec.ofNat 32 (i 1).val
  let c7_i32_553 : BitVec 32 := 7#32
  let v1268 : BitVec 32 := Scalar.muli arg1 c7_i32_553
  let v1269 : BitVec 32 := Scalar.addi v1267 v1268
  let c5_i32 : BitVec 32 := 5#32
  let v1270 : BitVec 32 := Scalar.addi v1269 c5_i32
  let c4_i32_554 : BitVec 32 := 4#32
  let v1271 : BitVec 32 := Scalar.muli v1270 c4_i32_554
  let c3_i32_609 : BitVec 32 := 3#32
  let v1389 : BitVec 32 := Scalar.addi v1271 c3_i32_609
  let v1390 : Index := Scalar.indexCast v1389
  ![v1390.toNat]
def k0_off54 (v1391 : BitVec 32) : Fin 4 → Nat :=
  let c0_625 : Index := 0#32
  let c0_i32_611 : BitVec 32 := 0#32
  let v1393 : BitVec 1 := Scalar.cmpi .sgt v1391 c0_i32_611
  let v1394 : BitVec 32 := Scalar.extui v1393
  let c0_i32_612 : BitVec 32 := 0#32
  let v1395 : BitVec 1 := Scalar.cmpi .slt v1391 c0_i32_612
  let v1396 : BitVec 32 := Scalar.extui v1395
  let v1397 : BitVec 32 := Scalar.subi v1394 v1396
  let c7_i32_610 : BitVec 32 := 7#32
  let c0_i32_613 : BitVec 32 := 0#32
  let v1398 : BitVec 1 := Scalar.cmpi .sgt c7_i32_610 c0_i32_613
  let v1399 : BitVec 32 := Scalar.extui v1398
  let c0_i32_614 : BitVec 32 := 0#32
  let v1400 : BitVec 1 := Scalar.cmpi .slt c7_i32_610 c0_i32_614
  let v1401 : BitVec 32 := Scalar.extui v1400
  let v1402 : BitVec 32 := Scalar.subi v1399 v1401
  let v1403 : BitVec 1 := Scalar.cmpi .ne v1397 v1402
  let v1404 : BitVec 32 := Scalar.remsi v1391 c7_i32_610
  let c0_i32_615 : BitVec 32 := 0#32
  let v1405 : BitVec 1 := Scalar.cmpi .ne v1404 c0_i32_615
  let v1406 : BitVec 1 := Scalar.andi v1403 v1405
  let v1392 : BitVec 32 := Scalar.divsi v1391 c7_i32_610
  let c1_i32_616 : BitVec 32 := 1#32
  let v1407 : BitVec 32 := Scalar.subi v1392 c1_i32_616
  let v1408 : BitVec 32 := Scalar.select v1406 v1407 v1392
  let c8_i32_623 : BitVec 32 := 8#32
  let v1419 : BitVec 32 := Scalar.muli v1408 c8_i32_623
  let v1421 : Index := Scalar.indexCast v1419
  let c7_i32_617 : BitVec 32 := 7#32
  let c0_i32_618 : BitVec 32 := 0#32
  let v1409 : BitVec 1 := Scalar.cmpi .eq c7_i32_617 c0_i32_618
  let c1_i32_619 : BitVec 32 := 1#32
  let v1410 : BitVec 32 := Scalar.select v1409 c1_i32_619 c7_i32_617
  let v1411 : BitVec 32 := Scalar.remsi v1391 v1410
  let c0_i32_621 : BitVec 32 := 0#32
  let v1413 : BitVec 1 := Scalar.cmpi .slt v1411 c0_i32_621
  let c0_i32_622 : BitVec 32 := 0#32
  let v1414 : BitVec 1 := Scalar.cmpi .slt v1410 c0_i32_622
  let v1415 : BitVec 1 := Scalar.xori v1413 v1414
  let c0_i32_620 : BitVec 32 := 0#32
  let v1412 : BitVec 1 := Scalar.cmpi .ne v1411 c0_i32_620
  let v1416 : BitVec 1 := Scalar.andi v1415 v1412
  let v1417 : BitVec 32 := Scalar.addi v1411 v1410
  let v1418 : BitVec 32 := Scalar.select v1416 v1417 v1411
  let c8_i32_624 : BitVec 32 := 8#32
  let v1420 : BitVec 32 := Scalar.muli v1418 c8_i32_624
  let v1422 : Index := Scalar.indexCast v1420
  let c384_626 : Index := 384#32
  ![0, v1421.toNat, v1422.toNat, 384]

def k0_chk24 (v1391 : BitVec 32) : Prop :=
  (∀ a, (k0_off54 v1391) a + S1x8x8x768.size a ≤ S1x56x56x1152.size a)
theorem k0_off54_inb : ∀ (v1391 : BitVec 32) (k0_hw24 : k0_chk24 v1391), ∀ a, (k0_off54 v1391) a + S1x8x8x768.size a ≤ S1x56x56x1152.size a := fun v1391 k0_hw24 => k0_hw24

def k0_off55 (i : grid0.Coords) : Fin 4 → Nat :=
  let c0_662 : Index := 0#32
  let arg1 : BitVec 32 := BitVec.ofNat 32 (i 1).val
  let c8_i32_661 : BitVec 32 := 8#32
  let v1511 : BitVec 32 := Scalar.muli arg1 c8_i32_661
  let v1512 : Index := Scalar.indexCast v1511
  let c48 : Index := 48#32
  let c0_663 : Index := 0#32
  ![0, v1512.toNat, 48, 0]
def k0_off56 (i : grid0.Coords) : Fin 1 → Nat :=
  let arg0 : BitVec 32 := BitVec.ofNat 32 (i 0).val
  let c49_i32_665 : BitVec 32 := 49#32
  let v1518 : BitVec 32 := Scalar.muli arg0 c49_i32_665
  let arg1 : BitVec 32 := BitVec.ofNat 32 (i 1).val
  let c7_i32_666 : BitVec 32 := 7#32
  let v1519 : BitVec 32 := Scalar.muli arg1 c7_i32_666
  let v1520 : BitVec 32 := Scalar.addi v1518 v1519
  let c6_i32 : BitVec 32 := 6#32
  let v1521 : BitVec 32 := Scalar.addi v1520 c6_i32
  let c4_i32_667 : BitVec 32 := 4#32
  let v1522 : BitVec 32 := Scalar.muli v1521 c4_i32_667
  let c0_i32_668 : BitVec 32 := 0#32
  let v1523 : BitVec 32 := Scalar.addi v1522 c0_i32_668
  let v1524 : Index := Scalar.indexCast v1523
  ![v1524.toNat]
def k0_off57 (v1525 : BitVec 32) : Fin 4 → Nat :=
  let c0_684 : Index := 0#32
  let c0_i32_670 : BitVec 32 := 0#32
  let v1527 : BitVec 1 := Scalar.cmpi .sgt v1525 c0_i32_670
  let v1528 : BitVec 32 := Scalar.extui v1527
  let c0_i32_671 : BitVec 32 := 0#32
  let v1529 : BitVec 1 := Scalar.cmpi .slt v1525 c0_i32_671
  let v1530 : BitVec 32 := Scalar.extui v1529
  let v1531 : BitVec 32 := Scalar.subi v1528 v1530
  let c7_i32_669 : BitVec 32 := 7#32
  let c0_i32_672 : BitVec 32 := 0#32
  let v1532 : BitVec 1 := Scalar.cmpi .sgt c7_i32_669 c0_i32_672
  let v1533 : BitVec 32 := Scalar.extui v1532
  let c0_i32_673 : BitVec 32 := 0#32
  let v1534 : BitVec 1 := Scalar.cmpi .slt c7_i32_669 c0_i32_673
  let v1535 : BitVec 32 := Scalar.extui v1534
  let v1536 : BitVec 32 := Scalar.subi v1533 v1535
  let v1537 : BitVec 1 := Scalar.cmpi .ne v1531 v1536
  let v1538 : BitVec 32 := Scalar.remsi v1525 c7_i32_669
  let c0_i32_674 : BitVec 32 := 0#32
  let v1539 : BitVec 1 := Scalar.cmpi .ne v1538 c0_i32_674
  let v1540 : BitVec 1 := Scalar.andi v1537 v1539
  let v1526 : BitVec 32 := Scalar.divsi v1525 c7_i32_669
  let c1_i32_675 : BitVec 32 := 1#32
  let v1541 : BitVec 32 := Scalar.subi v1526 c1_i32_675
  let v1542 : BitVec 32 := Scalar.select v1540 v1541 v1526
  let c8_i32_682 : BitVec 32 := 8#32
  let v1553 : BitVec 32 := Scalar.muli v1542 c8_i32_682
  let v1555 : Index := Scalar.indexCast v1553
  let c7_i32_676 : BitVec 32 := 7#32
  let c0_i32_677 : BitVec 32 := 0#32
  let v1543 : BitVec 1 := Scalar.cmpi .eq c7_i32_676 c0_i32_677
  let c1_i32_678 : BitVec 32 := 1#32
  let v1544 : BitVec 32 := Scalar.select v1543 c1_i32_678 c7_i32_676
  let v1545 : BitVec 32 := Scalar.remsi v1525 v1544
  let c0_i32_680 : BitVec 32 := 0#32
  let v1547 : BitVec 1 := Scalar.cmpi .slt v1545 c0_i32_680
  let c0_i32_681 : BitVec 32 := 0#32
  let v1548 : BitVec 1 := Scalar.cmpi .slt v1544 c0_i32_681
  let v1549 : BitVec 1 := Scalar.xori v1547 v1548
  let c0_i32_679 : BitVec 32 := 0#32
  let v1546 : BitVec 1 := Scalar.cmpi .ne v1545 c0_i32_679
  let v1550 : BitVec 1 := Scalar.andi v1549 v1546
  let v1551 : BitVec 32 := Scalar.addi v1545 v1544
  let v1552 : BitVec 32 := Scalar.select v1550 v1551 v1545
  let c8_i32_683 : BitVec 32 := 8#32
  let v1554 : BitVec 32 := Scalar.muli v1552 c8_i32_683
  let v1556 : Index := Scalar.indexCast v1554
  let c384_685 : Index := 384#32
  ![0, v1555.toNat, v1556.toNat, 384]

def k0_chk25 (v1525 : BitVec 32) : Prop :=
  (∀ a, (k0_off57 v1525) a + S1x8x8x768.size a ≤ S1x56x56x1152.size a)
theorem k0_off57_inb : ∀ (v1525 : BitVec 32) (k0_hw25 : k0_chk25 v1525), ∀ a, (k0_off57 v1525) a + S1x8x8x768.size a ≤ S1x56x56x1152.size a := fun v1525 k0_hw25 => k0_hw25

def k0_off58 (i : grid0.Coords) : Fin 1 → Nat :=
  let arg0 : BitVec 32 := BitVec.ofNat 32 (i 0).val
  let c49_i32_665 : BitVec 32 := 49#32
  let v1518 : BitVec 32 := Scalar.muli arg0 c49_i32_665
  let arg1 : BitVec 32 := BitVec.ofNat 32 (i 1).val
  let c7_i32_666 : BitVec 32 := 7#32
  let v1519 : BitVec 32 := Scalar.muli arg1 c7_i32_666
  let v1520 : BitVec 32 := Scalar.addi v1518 v1519
  let c6_i32 : BitVec 32 := 6#32
  let v1521 : BitVec 32 := Scalar.addi v1520 c6_i32
  let c4_i32_667 : BitVec 32 := 4#32
  let v1522 : BitVec 32 := Scalar.muli v1521 c4_i32_667
  let c1_i32_686 : BitVec 32 := 1#32
  let v1562 : BitVec 32 := Scalar.addi v1522 c1_i32_686
  let v1563 : Index := Scalar.indexCast v1562
  ![v1563.toNat]
def k0_off59 (v1564 : BitVec 32) : Fin 4 → Nat :=
  let c0_702 : Index := 0#32
  let c0_i32_688 : BitVec 32 := 0#32
  let v1566 : BitVec 1 := Scalar.cmpi .sgt v1564 c0_i32_688
  let v1567 : BitVec 32 := Scalar.extui v1566
  let c0_i32_689 : BitVec 32 := 0#32
  let v1568 : BitVec 1 := Scalar.cmpi .slt v1564 c0_i32_689
  let v1569 : BitVec 32 := Scalar.extui v1568
  let v1570 : BitVec 32 := Scalar.subi v1567 v1569
  let c7_i32_687 : BitVec 32 := 7#32
  let c0_i32_690 : BitVec 32 := 0#32
  let v1571 : BitVec 1 := Scalar.cmpi .sgt c7_i32_687 c0_i32_690
  let v1572 : BitVec 32 := Scalar.extui v1571
  let c0_i32_691 : BitVec 32 := 0#32
  let v1573 : BitVec 1 := Scalar.cmpi .slt c7_i32_687 c0_i32_691
  let v1574 : BitVec 32 := Scalar.extui v1573
  let v1575 : BitVec 32 := Scalar.subi v1572 v1574
  let v1576 : BitVec 1 := Scalar.cmpi .ne v1570 v1575
  let v1577 : BitVec 32 := Scalar.remsi v1564 c7_i32_687
  let c0_i32_692 : BitVec 32 := 0#32
  let v1578 : BitVec 1 := Scalar.cmpi .ne v1577 c0_i32_692
  let v1579 : BitVec 1 := Scalar.andi v1576 v1578
  let v1565 : BitVec 32 := Scalar.divsi v1564 c7_i32_687
  let c1_i32_693 : BitVec 32 := 1#32
  let v1580 : BitVec 32 := Scalar.subi v1565 c1_i32_693
  let v1581 : BitVec 32 := Scalar.select v1579 v1580 v1565
  let c8_i32_700 : BitVec 32 := 8#32
  let v1592 : BitVec 32 := Scalar.muli v1581 c8_i32_700
  let v1594 : Index := Scalar.indexCast v1592
  let c7_i32_694 : BitVec 32 := 7#32
  let c0_i32_695 : BitVec 32 := 0#32
  let v1582 : BitVec 1 := Scalar.cmpi .eq c7_i32_694 c0_i32_695
  let c1_i32_696 : BitVec 32 := 1#32
  let v1583 : BitVec 32 := Scalar.select v1582 c1_i32_696 c7_i32_694
  let v1584 : BitVec 32 := Scalar.remsi v1564 v1583
  let c0_i32_698 : BitVec 32 := 0#32
  let v1586 : BitVec 1 := Scalar.cmpi .slt v1584 c0_i32_698
  let c0_i32_699 : BitVec 32 := 0#32
  let v1587 : BitVec 1 := Scalar.cmpi .slt v1583 c0_i32_699
  let v1588 : BitVec 1 := Scalar.xori v1586 v1587
  let c0_i32_697 : BitVec 32 := 0#32
  let v1585 : BitVec 1 := Scalar.cmpi .ne v1584 c0_i32_697
  let v1589 : BitVec 1 := Scalar.andi v1588 v1585
  let v1590 : BitVec 32 := Scalar.addi v1584 v1583
  let v1591 : BitVec 32 := Scalar.select v1589 v1590 v1584
  let c8_i32_701 : BitVec 32 := 8#32
  let v1593 : BitVec 32 := Scalar.muli v1591 c8_i32_701
  let v1595 : Index := Scalar.indexCast v1593
  let c384_703 : Index := 384#32
  ![0, v1594.toNat, v1595.toNat, 384]

def k0_chk26 (v1564 : BitVec 32) : Prop :=
  (∀ a, (k0_off59 v1564) a + S1x8x8x768.size a ≤ S1x56x56x1152.size a)
theorem k0_off59_inb : ∀ (v1564 : BitVec 32) (k0_hw26 : k0_chk26 v1564), ∀ a, (k0_off59 v1564) a + S1x8x8x768.size a ≤ S1x56x56x1152.size a := fun v1564 k0_hw26 => k0_hw26

def k0_off60 (i : grid0.Coords) : Fin 1 → Nat :=
  let arg0 : BitVec 32 := BitVec.ofNat 32 (i 0).val
  let c49_i32_665 : BitVec 32 := 49#32
  let v1518 : BitVec 32 := Scalar.muli arg0 c49_i32_665
  let arg1 : BitVec 32 := BitVec.ofNat 32 (i 1).val
  let c7_i32_666 : BitVec 32 := 7#32
  let v1519 : BitVec 32 := Scalar.muli arg1 c7_i32_666
  let v1520 : BitVec 32 := Scalar.addi v1518 v1519
  let c6_i32 : BitVec 32 := 6#32
  let v1521 : BitVec 32 := Scalar.addi v1520 c6_i32
  let c4_i32_667 : BitVec 32 := 4#32
  let v1522 : BitVec 32 := Scalar.muli v1521 c4_i32_667
  let c2_i32_704 : BitVec 32 := 2#32
  let v1601 : BitVec 32 := Scalar.addi v1522 c2_i32_704
  let v1602 : Index := Scalar.indexCast v1601
  ![v1602.toNat]
def k0_off61 (v1603 : BitVec 32) : Fin 4 → Nat :=
  let c0_720 : Index := 0#32
  let c0_i32_706 : BitVec 32 := 0#32
  let v1605 : BitVec 1 := Scalar.cmpi .sgt v1603 c0_i32_706
  let v1606 : BitVec 32 := Scalar.extui v1605
  let c0_i32_707 : BitVec 32 := 0#32
  let v1607 : BitVec 1 := Scalar.cmpi .slt v1603 c0_i32_707
  let v1608 : BitVec 32 := Scalar.extui v1607
  let v1609 : BitVec 32 := Scalar.subi v1606 v1608
  let c7_i32_705 : BitVec 32 := 7#32
  let c0_i32_708 : BitVec 32 := 0#32
  let v1610 : BitVec 1 := Scalar.cmpi .sgt c7_i32_705 c0_i32_708
  let v1611 : BitVec 32 := Scalar.extui v1610
  let c0_i32_709 : BitVec 32 := 0#32
  let v1612 : BitVec 1 := Scalar.cmpi .slt c7_i32_705 c0_i32_709
  let v1613 : BitVec 32 := Scalar.extui v1612
  let v1614 : BitVec 32 := Scalar.subi v1611 v1613
  let v1615 : BitVec 1 := Scalar.cmpi .ne v1609 v1614
  let v1616 : BitVec 32 := Scalar.remsi v1603 c7_i32_705
  let c0_i32_710 : BitVec 32 := 0#32
  let v1617 : BitVec 1 := Scalar.cmpi .ne v1616 c0_i32_710
  let v1618 : BitVec 1 := Scalar.andi v1615 v1617
  let v1604 : BitVec 32 := Scalar.divsi v1603 c7_i32_705
  let c1_i32_711 : BitVec 32 := 1#32
  let v1619 : BitVec 32 := Scalar.subi v1604 c1_i32_711
  let v1620 : BitVec 32 := Scalar.select v1618 v1619 v1604
  let c8_i32_718 : BitVec 32 := 8#32
  let v1631 : BitVec 32 := Scalar.muli v1620 c8_i32_718
  let v1633 : Index := Scalar.indexCast v1631
  let c7_i32_712 : BitVec 32 := 7#32
  let c0_i32_713 : BitVec 32 := 0#32
  let v1621 : BitVec 1 := Scalar.cmpi .eq c7_i32_712 c0_i32_713
  let c1_i32_714 : BitVec 32 := 1#32
  let v1622 : BitVec 32 := Scalar.select v1621 c1_i32_714 c7_i32_712
  let v1623 : BitVec 32 := Scalar.remsi v1603 v1622
  let c0_i32_716 : BitVec 32 := 0#32
  let v1625 : BitVec 1 := Scalar.cmpi .slt v1623 c0_i32_716
  let c0_i32_717 : BitVec 32 := 0#32
  let v1626 : BitVec 1 := Scalar.cmpi .slt v1622 c0_i32_717
  let v1627 : BitVec 1 := Scalar.xori v1625 v1626
  let c0_i32_715 : BitVec 32 := 0#32
  let v1624 : BitVec 1 := Scalar.cmpi .ne v1623 c0_i32_715
  let v1628 : BitVec 1 := Scalar.andi v1627 v1624
  let v1629 : BitVec 32 := Scalar.addi v1623 v1622
  let v1630 : BitVec 32 := Scalar.select v1628 v1629 v1623
  let c8_i32_719 : BitVec 32 := 8#32
  let v1632 : BitVec 32 := Scalar.muli v1630 c8_i32_719
  let v1634 : Index := Scalar.indexCast v1632
  let c384_721 : Index := 384#32
  ![0, v1633.toNat, v1634.toNat, 384]

def k0_chk27 (v1603 : BitVec 32) : Prop :=
  (∀ a, (k0_off61 v1603) a + S1x8x8x768.size a ≤ S1x56x56x1152.size a)
theorem k0_off61_inb : ∀ (v1603 : BitVec 32) (k0_hw27 : k0_chk27 v1603), ∀ a, (k0_off61 v1603) a + S1x8x8x768.size a ≤ S1x56x56x1152.size a := fun v1603 k0_hw27 => k0_hw27

def k0_off62 (i : grid0.Coords) : Fin 1 → Nat :=
  let arg0 : BitVec 32 := BitVec.ofNat 32 (i 0).val
  let c49_i32_665 : BitVec 32 := 49#32
  let v1518 : BitVec 32 := Scalar.muli arg0 c49_i32_665
  let arg1 : BitVec 32 := BitVec.ofNat 32 (i 1).val
  let c7_i32_666 : BitVec 32 := 7#32
  let v1519 : BitVec 32 := Scalar.muli arg1 c7_i32_666
  let v1520 : BitVec 32 := Scalar.addi v1518 v1519
  let c6_i32 : BitVec 32 := 6#32
  let v1521 : BitVec 32 := Scalar.addi v1520 c6_i32
  let c4_i32_667 : BitVec 32 := 4#32
  let v1522 : BitVec 32 := Scalar.muli v1521 c4_i32_667
  let c3_i32_722 : BitVec 32 := 3#32
  let v1640 : BitVec 32 := Scalar.addi v1522 c3_i32_722
  let v1641 : Index := Scalar.indexCast v1640
  ![v1641.toNat]
def k0_off63 (v1642 : BitVec 32) : Fin 4 → Nat :=
  let c0_738 : Index := 0#32
  let c0_i32_724 : BitVec 32 := 0#32
  let v1644 : BitVec 1 := Scalar.cmpi .sgt v1642 c0_i32_724
  let v1645 : BitVec 32 := Scalar.extui v1644
  let c0_i32_725 : BitVec 32 := 0#32
  let v1646 : BitVec 1 := Scalar.cmpi .slt v1642 c0_i32_725
  let v1647 : BitVec 32 := Scalar.extui v1646
  let v1648 : BitVec 32 := Scalar.subi v1645 v1647
  let c7_i32_723 : BitVec 32 := 7#32
  let c0_i32_726 : BitVec 32 := 0#32
  let v1649 : BitVec 1 := Scalar.cmpi .sgt c7_i32_723 c0_i32_726
  let v1650 : BitVec 32 := Scalar.extui v1649
  let c0_i32_727 : BitVec 32 := 0#32
  let v1651 : BitVec 1 := Scalar.cmpi .slt c7_i32_723 c0_i32_727
  let v1652 : BitVec 32 := Scalar.extui v1651
  let v1653 : BitVec 32 := Scalar.subi v1650 v1652
  let v1654 : BitVec 1 := Scalar.cmpi .ne v1648 v1653
  let v1655 : BitVec 32 := Scalar.remsi v1642 c7_i32_723
  let c0_i32_728 : BitVec 32 := 0#32
  let v1656 : BitVec 1 := Scalar.cmpi .ne v1655 c0_i32_728
  let v1657 : BitVec 1 := Scalar.andi v1654 v1656
  let v1643 : BitVec 32 := Scalar.divsi v1642 c7_i32_723
  let c1_i32_729 : BitVec 32 := 1#32
  let v1658 : BitVec 32 := Scalar.subi v1643 c1_i32_729
  let v1659 : BitVec 32 := Scalar.select v1657 v1658 v1643
  let c8_i32_736 : BitVec 32 := 8#32
  let v1670 : BitVec 32 := Scalar.muli v1659 c8_i32_736
  let v1672 : Index := Scalar.indexCast v1670
  let c7_i32_730 : BitVec 32 := 7#32
  let c0_i32_731 : BitVec 32 := 0#32
  let v1660 : BitVec 1 := Scalar.cmpi .eq c7_i32_730 c0_i32_731
  let c1_i32_732 : BitVec 32 := 1#32
  let v1661 : BitVec 32 := Scalar.select v1660 c1_i32_732 c7_i32_730
  let v1662 : BitVec 32 := Scalar.remsi v1642 v1661
  let c0_i32_734 : BitVec 32 := 0#32
  let v1664 : BitVec 1 := Scalar.cmpi .slt v1662 c0_i32_734
  let c0_i32_735 : BitVec 32 := 0#32
  let v1665 : BitVec 1 := Scalar.cmpi .slt v1661 c0_i32_735
  let v1666 : BitVec 1 := Scalar.xori v1664 v1665
  let c0_i32_733 : BitVec 32 := 0#32
  let v1663 : BitVec 1 := Scalar.cmpi .ne v1662 c0_i32_733
  let v1667 : BitVec 1 := Scalar.andi v1666 v1663
  let v1668 : BitVec 32 := Scalar.addi v1662 v1661
  let v1669 : BitVec 32 := Scalar.select v1667 v1668 v1662
  let c8_i32_737 : BitVec 32 := 8#32
  let v1671 : BitVec 32 := Scalar.muli v1669 c8_i32_737
  let v1673 : Index := Scalar.indexCast v1671
  let c384_739 : Index := 384#32
  ![0, v1672.toNat, v1673.toNat, 384]

def k0_chk28 (v1642 : BitVec 32) : Prop :=
  (∀ a, (k0_off63 v1642) a + S1x8x8x768.size a ≤ S1x56x56x1152.size a)
theorem k0_off63_inb : ∀ (v1642 : BitVec 32) (k0_hw28 : k0_chk28 v1642), ∀ a, (k0_off63 v1642) a + S1x8x8x768.size a ≤ S1x56x56x1152.size a := fun v1642 k0_hw28 => k0_hw28

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x56x56x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x56x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RefAttnIdeal.lean ====
abbrev S4x49x4 : Shape := ⟨3, ![4, 49, 4]⟩
abbrev S4x56x56x1152 : Shape := ⟨4, ![4, 56, 56, 1152]⟩
abbrev S4x7x8x7x8x1152 : Shape := ⟨6, ![4, 7, 8, 7, 8, 1152]⟩
abbrev S4x7x7x8x8x1152 : Shape := ⟨6, ![4, 7, 7, 8, 8, 1152]⟩
abbrev S4x49x64x1152 : Shape := ⟨4, ![4, 49, 64, 1152]⟩
abbrev S4x49x64x384 : Shape := ⟨4, ![4, 49, 64, 384]⟩
abbrev S4x49x64x768 : Shape := ⟨4, ![4, 49, 64, 768]⟩
abbrev S_ : Shape := ⟨0, ![]⟩
abbrev S4x49x4x1 : Shape := ⟨4, ![4, 49, 4, 1]⟩
abbrev S4x49x4x64x768 : Shape := ⟨5, ![4, 49, 4, 64, 768]⟩
abbrev S4x49x4x64x384 : Shape := ⟨5, ![4, 49, 4, 64, 384]⟩
abbrev S196x4x64x12x32 : Shape := ⟨5, ![196, 4, 64, 12, 32]⟩
abbrev S196x12x32x4x64 : Shape := ⟨5, ![196, 12, 32, 4, 64]⟩
abbrev S196x12x32x256 : Shape := ⟨4, ![196, 12, 32, 256]⟩
abbrev S196x12x4x64x32 : Shape := ⟨5, ![196, 12, 4, 64, 32]⟩
abbrev S196x12x256x32 : Shape := ⟨4, ![196, 12, 256, 32]⟩
abbrev S196x64x12x32 : Shape := ⟨4, ![196, 64, 12, 32]⟩
abbrev S196x12x64x32 : Shape := ⟨4, ![196, 12, 64, 32]⟩
abbrev S196x12x64x256 : Shape := ⟨4, ![196, 12, 64, 256]⟩
abbrev S196x12x64 : Shape := ⟨3, ![196, 12, 64]⟩
abbrev S196x12x64x1 : Shape := ⟨4, ![196, 12, 64, 1]⟩
abbrev S4x7x7x12x8x8x32 : Shape := ⟨7, ![4, 7, 7, 12, 8, 8, 32]⟩
abbrev S4x7x8x7x8x12x32 : Shape := ⟨7, ![4, 7, 8, 7, 8, 12, 32]⟩
abbrev S4x56x56x384 : Shape := ⟨4, ![4, 56, 56, 384]⟩

abbrev nBuf : Space → Nat
  | .hbm => 48
  | .vmem => 0
  | .smem => 0
  | _ => 0

abbrev bufTy : (tb : Table) → Fin (tcTables nBuf tb) → BufTy
  | .hbm, ⟨0, _⟩ => ⟨S4x49x4, .i32⟩
  | .hbm, ⟨1, _⟩ => ⟨S4x56x56x1152, .f32⟩
  | .hbm, ⟨2, _⟩ => ⟨S4x7x8x7x8x1152, .f32⟩
  | .hbm, ⟨3, _⟩ => ⟨S4x7x7x8x8x1152, .f32⟩
  | .hbm, ⟨4, _⟩ => ⟨S4x49x64x1152, .f32⟩
  | .hbm, ⟨5, _⟩ => ⟨S4x49x64x384, .f32⟩
  | .hbm, ⟨6, _⟩ => ⟨S4x49x64x768, .f32⟩
  | .hbm, ⟨7, _⟩ => ⟨S_, .i32⟩
  | .hbm, ⟨8, _⟩ => ⟨S4x49x4, .i32⟩
  | .hbm, ⟨9, _⟩ => ⟨S4x49x4, .i1⟩
  | .hbm, ⟨10, _⟩ => ⟨S_, .i32⟩
  | .hbm, ⟨11, _⟩ => ⟨S4x49x4, .i32⟩
  | .hbm, ⟨12, _⟩ => ⟨S4x49x4, .i32⟩
  | .hbm, ⟨13, _⟩ => ⟨S4x49x4, .i32⟩
  | .hbm, ⟨14, _⟩ => ⟨S4x49x4x1, .i32⟩
  | .hbm, ⟨15, _⟩ => ⟨S4x49x4x64x768, .f32⟩
  | .hbm, ⟨16, _⟩ => ⟨S4x49x4x64x384, .f32⟩
  | .hbm, ⟨17, _⟩ => ⟨S196x4x64x12x32, .f32⟩
  | .hbm, ⟨18, _⟩ => ⟨S196x12x32x4x64, .f32⟩
  | .hbm, ⟨19, _⟩ => ⟨S196x12x32x256, .f32⟩
  | .hbm, ⟨20, _⟩ => ⟨S4x49x4x64x384, .f32⟩
  | .hbm, ⟨21, _⟩ => ⟨S196x4x64x12x32, .f32⟩
  | .hbm, ⟨22, _⟩ => ⟨S196x12x4x64x32, .f32⟩
  | .hbm, ⟨23, _⟩ => ⟨S196x12x256x32, .f32⟩
  | .hbm, ⟨24, _⟩ => ⟨S196x64x12x32, .f32⟩
  | .hbm, ⟨25, _⟩ => ⟨S196x12x64x32, .f32⟩
  | .hbm, ⟨26, _⟩ => ⟨S_, .f32⟩
  | .hbm, ⟨27, _⟩ => ⟨S196x12x64x32, .f32⟩
  | .hbm, ⟨28, _⟩ => ⟨S196x12x64x32, .f32⟩
  | .hbm, ⟨29, _⟩ => ⟨S196x12x64x256, .f32⟩
  | .hbm, ⟨30, _⟩ => ⟨S_, .f32⟩
  | .hbm, ⟨31, _⟩ => ⟨S196x12x64, .f32⟩
  | .hbm, ⟨32, _⟩ => ⟨S_, .f32⟩
  | .hbm, ⟨33, _⟩ => ⟨S196x12x64, .f32⟩
  | .hbm, ⟨34, _⟩ => ⟨S196x12x64, .f32⟩
  | .hbm, ⟨35, _⟩ => ⟨S196x12x64x1, .f32⟩
  | .hbm, ⟨36, _⟩ => ⟨S196x12x64x256, .f32⟩
  | .hbm, ⟨37, _⟩ => ⟨S196x12x64x256, .f32⟩
  | .hbm, ⟨38, _⟩ => ⟨S196x12x64x256, .f32⟩
  | .hbm, ⟨39, _⟩ => ⟨S_, .f32⟩
  | .hbm, ⟨40, _⟩ => ⟨S196x12x64, .f32⟩
  | .hbm, ⟨41, _⟩ => ⟨S196x12x64x1, .f32⟩
  | .hbm, ⟨42, _⟩ => ⟨S196x12x64x256, .f32⟩
  | .hbm, ⟨43, _⟩ => ⟨S196x12x64x256, .f32⟩
  | .hbm, ⟨44, _⟩ => ⟨S196x12x64x32, .f32⟩
  | .hbm, ⟨45, _⟩ => ⟨S4x7x7x12x8x8x32, .f32⟩
  | .hbm, ⟨46, _⟩ => ⟨S4x7x8x7x8x12x32, .f32⟩
  | .hbm, ⟨47, _⟩ => ⟨S4x56x56x384, .f32⟩
  | _, _ => ⟨S4x49x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Proj.lean ====
abbrev S4x56x56x1152 : Shape := ⟨4, ![4, 56, 56, 1152]⟩
abbrev S4x56x56x384 : Shape := ⟨4, ![4, 56, 56, 384]⟩
abbrev S384x1x5x5 : Shape := ⟨4, ![384, 1, 5, 5]⟩
abbrev S384 : Shape := ⟨1, ![384]⟩
abbrev S384x384 : Shape := ⟨2, ![384, 384]⟩
abbrev S384x5x5 : Shape := ⟨3, ![384, 5, 5]⟩
abbrev S5x5x384 : Shape := ⟨3, ![5, 5, 384]⟩
abbrev S25x384 : Shape := ⟨2, ![25, 384]⟩
abbrev S1x56x56x384 : Shape := ⟨4, ![1, 56, 56, 384]⟩
abbrev S56x56x384 : Shape := ⟨3, ![56, 56, 384]⟩
abbrev S56x2x384 : Shape := ⟨3, ![56, 2, 384]⟩
abbrev S56x60x384 : Shape := ⟨3, ![56, 60, 384]⟩
abbrev S2x60x384 : Shape := ⟨3, ![2, 60, 384]⟩
abbrev S60x60x384 : Shape := ⟨3, ![60, 60, 384]⟩
abbrev S60x56x384 : Shape := ⟨3, ![60, 56, 384]⟩
abbrev S1x1x384 : Shape := ⟨3, ![1, 1, 384]⟩
abbrev S1x384 : Shape := ⟨2, ![1, 384]⟩
abbrev S3136x384 : Shape := ⟨2, ![3136, 384]⟩

abbrev nBuf : Space → Nat
  | .hbm => 13
  | .vmem => 12
  | .smem => 0
  | _ => 0

abbrev bufTy : (tb : Table) → Fin (tcTables nBuf tb) → BufTy
  | .hbm, ⟨0, _⟩ => ⟨S4x56x56x1152, .f32⟩
  | .hbm, ⟨1, _⟩ => ⟨S4x56x56x384, .f32⟩
  | .hbm, ⟨2, _⟩ => ⟨S4x56x56x384, .f32⟩
  | .hbm, ⟨3, _⟩ => ⟨S384x1x5x5, .f32⟩
  | .hbm, ⟨4, _⟩ => ⟨S384, .f32⟩
  | .hbm, ⟨5, _⟩ => ⟨S384x384, .f32⟩
  | .hbm, ⟨6, _⟩ => ⟨S384, .f32⟩
  | .hbm, ⟨7, _⟩ => ⟨S384x5x5, .f32⟩
  | .hbm, ⟨8, _⟩ => ⟨S5x5x384, .f32⟩
  | .hbm, ⟨9, _⟩ => ⟨S25x384, .f32⟩
  | .hbm, ⟨10, _⟩ => ⟨S384x384, .f32⟩
  | .hbm, ⟨11, _⟩ => ⟨S384x384, .bf16⟩
  | .hbm, ⟨12, _⟩ => ⟨S4x56x56x384, .f32⟩
  | .local _ .vmem, ⟨0, _⟩ => ⟨S1x56x56x384, .f32⟩
  | .local _ .vmem, ⟨1, _⟩ => ⟨S1x56x56x384, .f32⟩
  | .local _ .vmem, ⟨2, _⟩ => ⟨S1x56x56x384, .f32⟩
  | .local _ .vmem, ⟨3, _⟩ => ⟨S1x56x56x384, .f32⟩
  | .local _ .vmem, ⟨4, _⟩ => ⟨S1x56x56x384, .f32⟩
  | .local _ .vmem, ⟨5, _⟩ => ⟨S1x56x56x384, .f32⟩
  | .local _ .vmem, ⟨6, _⟩ => ⟨S25x384, .f32⟩
  | .local _ .vmem, ⟨7, _⟩ => ⟨S384, .f32⟩
  | .local _ .vmem, ⟨8, _⟩ => ⟨S384x384, .bf16⟩
  | .local _ .vmem, ⟨9, _⟩ => ⟨S384, .f32⟩
  | .local _ .vmem, ⟨10, _⟩ => ⟨S1x56x56x384, .f32⟩
  | .local _ .vmem, ⟨11, _⟩ => ⟨S1x56x56x384, .f32⟩
  | _, _ => ⟨S4x56x56x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![arg0.toNat, c0_i32.toNat, c0_i32_0.toNat, c2_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x56x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x56x56x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x56x56x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefProjIdeal.lean ====
abbrev S4x56x56x1152 : Shape := ⟨4, ![4, 56, 56, 1152]⟩
abbrev S4x56x56x384 : Shape := ⟨4, ![4, 56, 56, 384]⟩
abbrev S384x1x5x5 : Shape := ⟨4, ![384, 1, 5, 5]⟩
abbrev S384 : Shape := ⟨1, ![384]⟩
abbrev S384x384 : Shape := ⟨2, ![384, 384]⟩
abbrev S4x384x56x56 : Shape := ⟨4, ![4, 384, 56, 56]⟩
abbrev S_ : Shape := ⟨0, ![]⟩
abbrev S4x384x60x60 : Shape := ⟨4, ![4, 384, 60, 60]⟩
abbrev S4x384x56x60 : Shape := ⟨4, ![4, 384, 56, 60]⟩
abbrev S4x384x1x56x60 : Shape := ⟨5, ![4, 384, 1, 56, 60]⟩
abbrev S4x384x5x56x60 : Shape := ⟨5, ![4, 384, 5, 56, 60]⟩
abbrev S4x384x5x56x56 : Shape := ⟨5, ![4, 384, 5, 56, 56]⟩
abbrev S4x384x5x1x56x56 : Shape := ⟨6, ![4, 384, 5, 1, 56, 56]⟩
abbrev S4x384x5x5x56x56 : Shape := ⟨6, ![4, 384, 5, 5, 56, 56]⟩
abbrev S384x5x5 : Shape := ⟨3, ![384, 5, 5]⟩
abbrev S1x384x5x5x1x1 : Shape := ⟨6, ![1, 384, 5, 5, 1, 1]⟩
abbrev S1x384x1x1 : Shape := ⟨4, ![1, 384, 1, 1]⟩
abbrev S1x1x1x384 : Shape := ⟨4, ![1, 1, 1, 384]⟩

abbrev nBuf : Space → Nat
  | .hbm => 51
  | .vmem => 0
  | .smem => 0
  | _ => 0

abbrev bufTy : (tb : Table) → Fin (tcTables nBuf tb) → BufTy
  | .hbm, ⟨0, _⟩ => ⟨S4x56x56x1152, .f32⟩
  | .hbm, ⟨1, _⟩ => ⟨S4x56x56x384, .f32⟩
  | .hbm, ⟨2, _⟩ => ⟨S4x56x56x384, .f32⟩
  | .hbm, ⟨3, _⟩ => ⟨S384x1x5x5, .f32⟩
  | .hbm, ⟨4, _⟩ => ⟨S384, .f32⟩
  | .hbm, ⟨5, _⟩ => ⟨S384x384, .f32⟩
  | .hbm, ⟨6, _⟩ => ⟨S384, .f32⟩
  | .hbm, ⟨7, _⟩ => ⟨S4x56x56x384, .f32⟩
  | .hbm, ⟨8, _⟩ => ⟨S4x384x56x56, .f32⟩
  | .hbm, ⟨9, _⟩ => ⟨S_, .i32⟩
  | .hbm, ⟨10, _⟩ => ⟨S_, .f32⟩
  | .hbm, ⟨11, _⟩ => ⟨S4x384x60x60, .f32⟩
  | .hbm, ⟨12, _⟩ => ⟨S4x384x56x60, .f32⟩
  | .hbm, ⟨13, _⟩ => ⟨S4x384x56x60, .f32⟩
  | .hbm, ⟨14, _⟩ => ⟨S4x384x56x60, .f32⟩
  | .hbm, ⟨15, _⟩ => ⟨S4x384x56x60, .f32⟩
  | .hbm, ⟨16, _⟩ => ⟨S4x384x56x60, .f32⟩
  | .hbm, ⟨17, _⟩ => ⟨S4x384x1x56x60, .f32⟩
  | .hbm, ⟨18, _⟩ => ⟨S4x384x1x56x60, .f32⟩
  | .hbm, ⟨19, _⟩ => ⟨S4x384x1x56x60, .f32⟩
  | .hbm, ⟨20, _⟩ => ⟨S4x384x1x56x60, .f32⟩
  | .hbm, ⟨21, _⟩ => ⟨S4x384x1x56x60, .f32⟩
  | .hbm, ⟨22, _⟩ => ⟨S4x384x5x56x60, .f32⟩
  | .hbm, ⟨23, _⟩ => ⟨S4x384x5x56x56, .f32⟩
  | .hbm, ⟨24, _⟩ => ⟨S4x384x5x56x56, .f32⟩
  | .hbm, ⟨25, _⟩ => ⟨S4x384x5x56x56, .f32⟩
  | .hbm, ⟨26, _⟩ => ⟨S4x384x5x56x56, .f32⟩
  | .hbm, ⟨27, _⟩ => ⟨S4x384x5x56x56, .f32⟩
  | .hbm, ⟨28, _⟩ => ⟨S4x384x5x1x56x56, .f32⟩
  | .hbm, ⟨29, _⟩ => ⟨S4x384x5x1x56x56, .f32⟩
  | .hbm, ⟨30, _⟩ => ⟨S4x384x5x1x56x56, .f32⟩
  | .hbm, ⟨31, _⟩ => ⟨S4x384x5x1x56x56, .f32⟩
  | .hbm, ⟨32, _⟩ => ⟨S4x384x5x1x56x56, .f32⟩
  | .hbm, ⟨33, _⟩ => ⟨S4x384x5x5x56x56, .f32⟩
  | .hbm, ⟨34, _⟩ => ⟨S384x5x5, .f32⟩
  | .hbm, ⟨35, _⟩ => ⟨S1x384x5x5x1x1, .f32⟩
  | .hbm, ⟨36, _⟩ => ⟨S4x384x5x5x56x56, .f32⟩
  | .hbm, ⟨37, _⟩ => ⟨S4x384x5x5x56x56, .f32⟩
  | .hbm, ⟨38, _⟩ => ⟨S_, .f32⟩
  | .hbm, ⟨39, _⟩ => ⟨S4x384x56x56, .f32⟩
  | .hbm, ⟨40, _⟩ => ⟨S1x384x1x1, .f32⟩
  | .hbm, ⟨41, _⟩ => ⟨S4x384x56x56, .f32⟩
  | .hbm, ⟨42, _⟩ => ⟨S4x384x56x56, .f32⟩
  | .hbm, ⟨43, _⟩ => ⟨S4x56x56x384, .f32⟩
  | .hbm, ⟨44, _⟩ => ⟨S4x56x56x384, .f32⟩
  | .hbm, ⟨45, _⟩ => ⟨S384x384, .f32⟩
  | .hbm, ⟨46, _⟩ => ⟨S4x56x56x384, .f32⟩
  | .hbm, ⟨47, _⟩ => ⟨S1x1x1x384, .f32⟩
  | .hbm, ⟨48, _⟩ => ⟨S4x56x56x384, .f32⟩
  | .hbm, ⟨49, _⟩ => ⟨S4x56x56x384, .f32⟩
  | .hbm, ⟨50, _⟩ => ⟨S4x56x56x384, .f32⟩
  | _, _ => ⟨S4x56x56x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Mlp.lean ====
abbrev S4x56x56x384 : Shape := ⟨4, ![4, 56, 56, 384]⟩
abbrev S384 : Shape := ⟨1, ![384]⟩
abbrev S1536x384 : Shape := ⟨2, ![1536, 384]⟩
abbrev S1536 : Shape := ⟨1, ![1536]⟩
abbrev S384x1536 : Shape := ⟨2, ![384, 1536]⟩
abbrev S12544x384 : Shape := ⟨2, ![12544, 384]⟩
abbrev S1568x384 : Shape := ⟨2, ![1568, 384]⟩
abbrev S1568 : Shape := ⟨1, ![1568]⟩
abbrev S1568x1 : Shape := ⟨2, ![1568, 1]⟩
abbrev S1x384 : Shape := ⟨2, ![1, 384]⟩
abbrev S1568x1536 : Shape := ⟨2, ![1568, 1536]⟩
abbrev S1x1536 : Shape := ⟨2, ![1, 1536]⟩
abbrev S4x384x56x56 : Shape := ⟨4, ![4, 384, 56, 56]⟩

abbrev nBuf : Space → Nat
  | .hbm => 15
  | .vmem => 10
  | .smem => 0
  | _ => 0

abbrev bufTy : (tb : Table) → Fin (tcTables nBuf tb) → BufTy
  | .hbm, ⟨0, _⟩ => ⟨S4x56x56x384, .f32⟩
  | .hbm, ⟨1, _⟩ => ⟨S384, .f32⟩
  | .hbm, ⟨2, _⟩ => ⟨S384, .f32⟩
  | .hbm, ⟨3, _⟩ => ⟨S1536x384, .f32⟩
  | .hbm, ⟨4, _⟩ => ⟨S1536, .f32⟩
  | .hbm, ⟨5, _⟩ => ⟨S384x1536, .f32⟩
  | .hbm, ⟨6, _⟩ => ⟨S384, .f32⟩
  | .hbm, ⟨7, _⟩ => ⟨S384x1536, .f32⟩
  | .hbm, ⟨8, _⟩ => ⟨S384x1536, .bf16⟩
  | .hbm, ⟨9, _⟩ => ⟨S1536x384, .f32⟩
  | .hbm, ⟨10, _⟩ => ⟨S1536x384, .bf16⟩
  | .hbm, ⟨11, _⟩ => ⟨S12544x384, .f32⟩
  | .hbm, ⟨12, _⟩ => ⟨S12544x384, .f32⟩
  | .hbm, ⟨13, _⟩ => ⟨S4x56x56x384, .f32⟩
  | .hbm, ⟨14, _⟩ => ⟨S4x384x56x56, .f32⟩
  | .local _ .vmem, ⟨0, _⟩ => ⟨S1568x384, .f32⟩
  | .local _ .vmem, ⟨1, _⟩ => ⟨S1568x384, .f32⟩
  | .local _ .vmem, ⟨2, _⟩ => ⟨S384, .f32⟩
  | .local _ .vmem, ⟨3, _⟩ => ⟨S384, .f32⟩
  | .local _ .vmem, ⟨4, _⟩ => ⟨S384x1536, .bf16⟩
  | .local _ .vmem, ⟨5, _⟩ => ⟨S1536, .f32⟩
  | .local _ .vmem, ⟨6, _⟩ => ⟨S1536x384, .bf16⟩
  | .local _ .vmem, ⟨7, _⟩ => ⟨S384, .f32⟩
  | .local _ .vmem, ⟨8, _⟩ => ⟨S1568x384, .f32⟩
  | .local _ .vmem, ⟨9, _⟩ => ⟨S1568x384, .f32⟩
  | _, _ => ⟨S4x56x56x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1568x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1568x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefMlpIdeal.lean ====
abbrev S4x56x56x384 : Shape := ⟨4, ![4, 56, 56, 384]⟩
abbrev S384 : Shape := ⟨1, ![384]⟩
abbrev S1536x384 : Shape := ⟨2, ![1536, 384]⟩
abbrev S1536 : Shape := ⟨1, ![1536]⟩
abbrev S384x1536 : Shape := ⟨2, ![384, 1536]⟩
abbrev S_ : Shape := ⟨0, ![]⟩
abbrev S4x56x56 : Shape := ⟨3, ![4, 56, 56]⟩
abbrev S4x56x56x1 : Shape := ⟨4, ![4, 56, 56, 1]⟩
abbrev S1x1x1x384 : Shape := ⟨4, ![1, 1, 1, 384]⟩
abbrev S4x56x56x1536 : Shape := ⟨4, ![4, 56, 56, 1536]⟩
abbrev S1x1x1x1536 : Shape := ⟨4, ![1, 1, 1, 1536]⟩
abbrev S4x384x56x56 : Shape := ⟨4, ![4, 384, 56, 56]⟩

abbrev nBuf : Space → Nat
  | .hbm => 72
  | .vmem => 0
  | .smem => 0
  | _ => 0

abbrev bufTy : (tb : Table) → Fin (tcTables nBuf tb) → BufTy
  | .hbm, ⟨0, _⟩ => ⟨S4x56x56x384, .f32⟩
  | .hbm, ⟨1, _⟩ => ⟨S384, .f32⟩
  | .hbm, ⟨2, _⟩ => ⟨S384, .f32⟩
  | .hbm, ⟨3, _⟩ => ⟨S1536x384, .f32⟩
  | .hbm, ⟨4, _⟩ => ⟨S1536, .f32⟩
  | .hbm, ⟨5, _⟩ => ⟨S384x1536, .f32⟩
  | .hbm, ⟨6, _⟩ => ⟨S384, .f32⟩
  | .hbm, ⟨7, _⟩ => ⟨S_, .f32⟩
  | .hbm, ⟨8, _⟩ => ⟨S4x56x56, .f32⟩
  | .hbm, ⟨9, _⟩ => ⟨S4x56x56x1, .f32⟩
  | .hbm, ⟨10, _⟩ => ⟨S_, .f32⟩
  | .hbm, ⟨11, _⟩ => ⟨S4x56x56x1, .f32⟩
  | .hbm, ⟨12, _⟩ => ⟨S4x56x56x1, .f32⟩
  | .hbm, ⟨13, _⟩ => ⟨S_, .i32⟩
  | .hbm, ⟨14, _⟩ => ⟨S_, .f32⟩
  | .hbm, ⟨15, _⟩ => ⟨S4x56x56, .f32⟩
  | .hbm, ⟨16, _⟩ => ⟨S4x56x56x1, .f32⟩
  | .hbm, ⟨17, _⟩ => ⟨S_, .f32⟩
  | .hbm, ⟨18, _⟩ => ⟨S4x56x56x1, .f32⟩
  | .hbm, ⟨19, _⟩ => ⟨S4x56x56x1, .f32⟩
  | .hbm, ⟨20, _⟩ => ⟨S4x56x56x384, .f32⟩
  | .hbm, ⟨21, _⟩ => ⟨S4x56x56x384, .f32⟩
  | .hbm, ⟨22, _⟩ => ⟨S4x56x56x384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x56x56, .f32⟩
  | .hbm, ⟨28, _⟩ => ⟨S4x56x56x1, .f32⟩
  | .hbm, ⟨29, _⟩ => ⟨S4x56x56x1, .f32⟩
  | .hbm, ⟨30, _⟩ => ⟨S4x56x56x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S4x56x56x1, .f32⟩
  | .hbm, ⟨36, _⟩ => ⟨S4x56x56x1, .f32⟩
  | .hbm, ⟨37, _⟩ => ⟨S4x56x56x384, .f32⟩
  | .hbm, ⟨38, _⟩ => ⟨S4x56x56x384, .f32⟩
  | .hbm, ⟨39, _⟩ => ⟨S_, .f32⟩
  | .hbm, ⟨40, _⟩ => ⟨S4x56x56x1, .f32⟩
  | .hbm, ⟨41, _⟩ => ⟨S4x56x56x1, .f32⟩
  | .hbm, ⟨42, _⟩ => ⟨S4x56x56x1, .f32⟩
  | .hbm, ⟨43, _⟩ => ⟨S4x56x56x384, .f32⟩
  | .hbm, ⟨44, _⟩ => ⟨S4x56x56x384, .f32⟩
  | .hbm, ⟨45, _⟩ => ⟨S1x1x1x384, .f32⟩
  | .hbm, ⟨46, _⟩ => ⟨S4x56x56x384, .f32⟩
  | .hbm, ⟨47, _⟩ => ⟨S4x56x56x384, .f32⟩
  | .hbm, ⟨48, _⟩ => ⟨S1x1x1x384, .f32⟩
  | .hbm, ⟨49, _⟩ => ⟨S4x56x56x384, .f32⟩
  | .hbm, ⟨50, _⟩ => ⟨S4x56x56x384, .f32⟩
  | .hbm, ⟨51, _⟩ => ⟨S384x1536, .f32⟩
  | .hbm, ⟨52, _⟩ => ⟨S4x56x56x1536, .f32⟩
  | .hbm, ⟨53, _⟩ => ⟨S1x1x1x1536, .f32⟩
  | .hbm, ⟨54, _⟩ => ⟨S4x56x56x1536, .f32⟩
  | .hbm, ⟨55, _⟩ => ⟨S4x56x56x1536, .f32⟩
  | .hbm, ⟨56, _⟩ => ⟨S_, .f32⟩
  | .hbm, ⟨57, _⟩ => ⟨S4x56x56x1536, .f32⟩
  | .hbm, ⟨58, _⟩ => ⟨S4x56x56x1536, .f32⟩
  | .hbm, ⟨59, _⟩ => ⟨S4x56x56x1536, .f32⟩
  | .hbm, ⟨60, _⟩ => ⟨S_, .f32⟩
  | .hbm, ⟨61, _⟩ => ⟨S4x56x56x1536, .f32⟩
  | .hbm, ⟨62, _⟩ => ⟨S4x56x56x1536, .f32⟩
  | .hbm, ⟨63, _⟩ => ⟨S4x56x56x1536, .f32⟩
  | .hbm, ⟨64, _⟩ => ⟨S4x56x56x1536, .f32⟩
  | .hbm, ⟨65, _⟩ => ⟨S1536x384, .f32⟩
  | .hbm, ⟨66, _⟩ => ⟨S4x56x56x384, .f32⟩
  | .hbm, ⟨67, _⟩ => ⟨S1x1x1x384, .f32⟩
  | .hbm, ⟨68, _⟩ => ⟨S4x56x56x384, .f32⟩
  | .hbm, ⟨69, _⟩ => ⟨S4x56x56x384, .f32⟩
  | .hbm, ⟨70, _⟩ => ⟨S4x56x56x384, .f32⟩
  | .hbm, ⟨71, _⟩ => ⟨S4x384x56x56, .f32⟩
  | _, _ => ⟨S4x56x56x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_2 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]
-- ==== Proof.Norm.lean ====
/- Row-wise layer normalisation and the two spellings of the error function, on extended reals: the kernels multiply by
   the reciprocal square root and use `1 + erf`, the references divide by the square root and use `erfc` of the negation. -/
module

public import Idealize.ShloMosaic.PureOps
public import Idealize.ShloMosaic.Lib.Pointwise
public import Idealize.ShloMosaic.Lib.IdealHost

@[expose] public section

noncomputable section

namespace Cert.Norm

open Idealize.ShloMosaic

/-- The row length 384, as the programs' literal. -/
abbrev len : EReal := Ideal.ofBits .f32 0x43C00000#32
/-- The literal added to a variance. -/
abbrev eps : EReal := Ideal.ofBits .f32 0x3727C5AC#32
/-- One half, as the programs' literal. -/
abbrev half : EReal := Ideal.ofBits .f32 0x3F000000#32
/-- The literal near the reciprocal square root of two that scales the error function's argument. -/
abbrev rt2 : EReal := Ideal.ofBits .f32 0x3F3504F3#32

/-- The literal 384 is the number 384. -/
theorem len_eq : len = ((384 : ℝ) : EReal) := by
  simp [len, Ideal.ofBits, Ideal.ieee, -EReal.coe_mul]; norm_num
/-- The literal added to a variance is positive. -/
theorem eps_pos : 0 < eps := by
  simp only [eps, Ideal.ofBits, Ideal.ieee]
  simp [-EReal.coe_mul]

/-- A row's mean. -/
def mean (x : Fin 384 → EReal) : EReal := Ideal.div (∑ k, x k) len
/-- A row's variance. -/
def var (x : Fin 384 → EReal) : EReal := Ideal.div (∑ k, (x k - mean x) * (x k - mean x)) len

/-- Dividing by the literal 384 keeps a sum of nonnegative terms nonnegative. -/
theorem div_len_nonneg {y : EReal} (h : 0 ≤ y) : 0 ≤ Ideal.div y len := by
  rw [len_eq, Ideal.div, if_neg (by norm_cast)]
  refine EReal.mul_nonneg h (EReal.inv_nonneg_of_nonneg (by norm_cast))

/-- A square of an extended real is nonnegative. -/
theorem sq_nonneg' (y : EReal) : 0 ≤ y * y := by
  rcases le_total 0 y with h | h
  · exact EReal.mul_nonneg h h
  · exact EReal.mul_nonneg_iff.mpr (.inr ⟨h, h⟩)

/-- A variance is nonnegative. -/
theorem var_nonneg (x : Fin 384 → EReal) : 0 ≤ var x :=
  div_len_nonneg (Finset.sum_nonneg fun k _ => sq_nonneg' _)

/-- A variance plus the literal is positive. -/
theorem var_eps_pos (x : Fin 384 → EReal) : 0 < var x + eps :=
  lt_of_lt_of_le eps_pos (le_add_of_nonneg_left (var_nonneg x))

/-- At a positive number, multiplying by the reciprocal square root is dividing by the square root. -/
theorem mul_rsqrt (x : EReal) {y : EReal} (h : 0 < y) : x * Ideal.rsqrt y = Ideal.div x (Ideal.sqrt y) := by
  rcases y with _ | _ | r
  · exact absurd h not_lt_bot
  · change x * (0 : EReal) = Ideal.div x ⊤
    rw [Ideal.div, if_neg EReal.top_ne_zero, EReal.inv_top]
  · have hr : 0 < r := EReal.coe_pos.mp h
    have hs : (Real.sqrt r : EReal) ≠ 0 := EReal.coe_ne_zero.mpr (Real.sqrt_pos.mpr hr).ne'
    change x * (if r < 0 then ⊥ else if r = 0 then ⊤ else (((Real.sqrt r)⁻¹ : ℝ) : EReal))
      = Ideal.div x (if r < 0 then ⊥ else (Real.sqrt r : EReal))
    rw [if_neg hr.not_gt, if_neg hr.ne', if_neg hr.not_gt, Ideal.div, if_neg hs, EReal.coe_inv]

/-- One entry of a normalised row as the reference has it: the deviation over the standard deviation, scaled and shifted. -/
def norm (x : Fin 384 → EReal) (w b : EReal) (i : Fin 384) : EReal :=
  Ideal.div (x i - mean x) (Ideal.sqrt (var x + eps)) * w + b

/-- The kernel's spelling of that entry, by the reciprocal square root. -/
theorem norm_eq_rsqrt (x : Fin 384 → EReal) (w b : EReal) (i : Fin 384) :
    (x i - mean x) * Ideal.rsqrt (var x + eps) * w + b = norm x w b i := by
  rw [norm, mul_rsqrt _ (var_eps_pos x)]

/-- `erfc` at the negated scaled argument is `1 + erf`. -/
theorem erfc_neg (h c : EReal) : Ideal.erfc (-h * c) = 1 + Ideal.erf (h * c) := by
  rw [Ideal.erfc, EReal.neg_mul, Ideal.erf_neg, sub_eq_add_neg, neg_neg]

/-- The Gaussian error linear unit by the complementary error function. -/
def gelu (h : EReal) : EReal := half * h * Ideal.erfc (-h * rt2)

/-- The kernel's spelling of it, by the error function. -/
theorem gelu_eq_erf (h : EReal) : half * h * (1 + Ideal.erf (h * rt2)) = gelu h := by
  rw [gelu, erfc_neg]

/-- The variance's divisor as the reference computes it, the row's length less the integer zero converted. -/
theorem len_sub : len - FloatOps.sitofp (F := Ideal) .f32 (0#32 : BitVec 32) = len := by
  change len - ((((0#32 : BitVec 32).toInt : ℝ)) : EReal) = len
  simp
/-- That divisor is positive. -/
theorem len_pos : 0 < len := by rw [len_eq]; exact EReal.coe_pos.mpr (by norm_num)

/-- One entry of a dense layer over a normalised row. -/
def dense (x w b : Fin 384 → EReal) (W : Fin 384 → EReal) (v : EReal) : EReal :=
  (∑ k, norm x (w k) (b k) k * W k) + v

/-- One hidden unit of the perceptron over a normalised row. -/
def hidden (x w b : Fin 384 → EReal) (W : Fin 384 → EReal) (b1 : EReal) : EReal :=
  gelu ((∑ k, norm x (w k) (b k) k * W k) + b1)

/-- One entry of the perceptron's result, added onto the row. -/
def mlp (x w b : Fin 384 → EReal) (W1 : Fin 384 → Fin 1536 → EReal) (b1 : Fin 1536 → EReal) (W2 : Fin 1536 → EReal)
    (b2 : EReal) (i : Fin 384) : EReal :=
  x i + ((∑ j, hidden x w b (fun k => W1 k j) (b1 j) * W2 j) + b2)

end Cert.Norm

end
-- ==== Proof.Conv.lean ====
/- Depthwise convolution at exact arithmetic: an image surrounded by zeros, and the weighted sum of a pixel's neighbourhood. -/
module

public import proofs.«01_k».proof.Proof.Norm

@[expose] public section

noncomputable section

namespace Cert.Conv

/-- The image `X` inside a border of `p` zeros, read at row `a` and column `b`. -/
def pad (p : ℕ) (X : Fin 56 → Fin 56 → EReal) (a b : ℕ) : EReal :=
  if h : (p ≤ a ∧ a < p + 56) ∧ (p ≤ b ∧ b < p + 56) then X ⟨a - p, by omega⟩ ⟨b - p, by omega⟩ else 0

/-- The sum of the `k` by `k` neighbourhood of pixel `(P, Q)`, weighted by `w`. -/
def conv (p k : ℕ) (X : Fin 56 → Fin 56 → EReal) (w : Fin k → Fin k → EReal) (P Q : Fin 56) : EReal :=
  ∑ r : Fin k, ∑ s : Fin k, pad p X (r.val + P.val) (s.val + Q.val) * w r s

/-- The bordered image read by deciding the row first, then the column. -/
theorem pad_eq (p : ℕ) (X : Fin 56 → Fin 56 → EReal) (a b : ℕ) :
    pad p X a b = if a < p then 0 else if h : a - p < 56 then
      if b < p then 0 else if h' : b - p < 56 then X ⟨a - p, h⟩ ⟨b - p, h'⟩ else 0 else 0 := by
  unfold pad
  split_ifs <;> first | rfl | omega

/-- The projection stage's result at pixel `(p, q)` of an image, from the values `v`, the attention output `o`, the residual `x`,
    the convolution's weights and bias, and the projection's weights and bias. -/
def proj (v o : Fin 56 → Fin 56 → Fin 384 → EReal) (x : EReal) (w : Fin 384 → Fin 5 → Fin 5 → EReal) (b : Fin 384 → EReal)
    (W : Fin 384 → EReal) (wb : EReal) (p q : Fin 56) : EReal :=
  x + ((∑ k, (o p q k + (conv 2 5 (fun P Q => v P Q k) (w k) p q + b k)) * W k) + wb)

/-- The image `x` and its convolution, at pixel `(p, q)` and channel `i`. -/
def embed (x : Fin 56 → Fin 56 → Fin 384 → EReal) (w : Fin 384 → Fin 3 → Fin 3 → EReal) (b : Fin 384 → EReal)
    (p q : Fin 56) (i : Fin 384) : EReal :=
  x p q i + (conv 1 3 (fun P Q => x P Q i) (w i) p q + b i)

/-- The integer zero as a number is the number zero. -/
theorem zero_eq : (Idealize.ShloMosaic.FloatOps.sitofp (F := Idealize.ShloMosaic.Ideal) .f32 0#32 : EReal) = 0 := by
  change ((((0#32 : BitVec 32).toInt : ℤ) : ℝ) : EReal) = 0
  simp

/-- The constant zero as a number is the number zero. -/
theorem const_zero : (Idealize.ShloMosaic.FloatOps.ofBits (F := Idealize.ShloMosaic.Ideal) .f32 0x00000000#32 : EReal) = 0 := by
  pointwise

end Cert.Conv

end
-- ==== Proof.PreBlock.lean ====
/- The first stage, one block: what the kernel's body stores into its two images, entry by entry. -/
module

public import proofs.«01_k».proof.Proof.Gen.PreIdeal.Frame
public import proofs.«01_k».proof.Proof.Conv
public import Idealize.ShloMosaic.Lib.Pipeline.ValueKit

@[expose] public section

set_option maxRecDepth 16384

noncomputable section

namespace Cert.PreVal

open Idealize.ShloMosaic Idealize.ShloMosaic.TcCoe Idealize.SL.Sem
open Cert.PreIdeal Cert.PreIdeal.Gen

/-- The image the body surrounds with one zero on each side. -/
theorem pay3_apply (x : FVec Ideal S1x56x56x384 .f32) (a b : Fin 58) (i : Fin 384) :
    (k0_pay3 (F := Ideal) x (ix3 a b i) : EReal) = Conv.pad 1 (fun P Q => x (ix4 0 P Q i)) a.val b.val := by
  pointwise [k0_pay3, k0_pay2]
  rw [Conv.pad_eq]
  rfl

/-- The same of the image loaded whole. -/
theorem pay3_ld_apply (x : FVec Ideal S1x56x56x384 .f32) (a b : Fin 58) (i : Fin 384) :
    (k0_pay3 (F := Ideal) (View.ld x r0_0) (ix3 a b i) : EReal) = Conv.pad 1 (fun P Q => x (ix4 0 P Q i)) a.val b.val :=
  (congrFun (congrArg (k0_pay3 (F := Ideal)) (View.ld_unit_lit (Val := Elt Ideal) (e := .f32)
    inb_S1x56x56x384_S1x56x56x384_0_0_0_0 x (by decide))) _).trans (pay3_apply x a b i)

variable (x0 : FVec Ideal S1x56x56x384 .f32) (x1 : FVec Ideal S9x384 .f32) (x2 x3 x4 : FVec Ideal S384 .f32)
  (x5 : FVec Ideal S384x1152 .bf16) (x6 : FVec Ideal S1152 .f32)

/-- The image and its convolution, as the body computes them. -/
def image : FVec Ideal S56x56x384 .f32 :=
  k0_pay9 (k0_pay26 x0 x1 x2 x3 x4 x5 x6) (k0_pay27 x0 x1 x2 x3 x4 x5 x6) (k0_pay28 x0 x1 x2 x3 x4 x5 x6)
    (k0_pay29 x0 x1 x2 x3 x4 x5 x6) (k0_pay30 x0 x1 x2 x3 x4 x5 x6) (k0_pay31 x0 x1 x2 x3 x4 x5 x6) (View.ld x1 r0_6) (View.ld x1 r0_7)
    (View.ld x1 r0_8) (View.ld x1 r0_9) (View.ld x1 r0_10)

/-- It is the image plus the weighted sum of each pixel's neighbourhood plus the bias. -/
theorem image_apply (P Q : Fin 56) (i : Fin 384) :
    (image x0 x1 x2 x3 x4 x5 x6 (ix3 P Q i) : EReal)
      = Conv.embed (fun a b k => x0 (ix4 0 a b k)) (fun k r s => x1 (ix2 ⟨r.val * 3 + s.val, by omega⟩ k)) (fun k => x2 (ix1 k)) P Q i := by
  pointwise [image, k0_pay9, k0_pay26, k0_pay27, k0_pay28, k0_pay29, k0_pay30, k0_pay31, k0_pay2, k0_pay4, k0_pay5, k0_pay6, k0_pay7, k0_pay8]
  simp only [pay3_ld_apply, Conv.embed]
  refine congrArg₂ (· + ·) rfl ?_
  rw [add_comm (Conv.conv _ _ _ _ _ _)]
  simp only [Conv.conv, Fin.sum_univ_three, ← add_assoc, Fin.coe_ofNat_eq_mod, Nat.reduceMod, Nat.reduceMul, Nat.reduceAdd,
    Nat.zero_add, Nat.zero_mod, Nat.zero_mul, Nat.one_mod, Nat.one_mul]
  rfl

/-- What the body stores into the first image. -/
theorem block7_apply (P Q : Fin 56) (i : Fin 384) :
    (out0_7 (F := Ideal) x0 x1 x2 x3 x4 x5 x6 (ix4 0 P Q i) : EReal) = image x0 x1 x2 x3 x4 x5 x6 (ix3 P Q i) := by
  frame_out
  pointwise [k0_pay10]
  rfl

/-- The deviations from the mean over a pixel's channels. -/
theorem center_apply (P Q : Fin 56) (i : Fin 384) :
    (k0_pay32 (F := Ideal) x0 x1 x2 x3 x4 x5 x6 (ix3 P Q i) : EReal)
      = image x0 x1 x2 x3 x4 x5 x6 (ix3 P Q i) - Norm.mean (fun k => image x0 x1 x2 x3 x4 x5 x6 (ix3 P Q k)) := by
  rw [k0_pay32, k0_pay11, ← image]
  pointwise
  rfl

/-- Their squares. -/
theorem square_apply (P Q : Fin 56) (i : Fin 384) :
    (k0_pay33 (F := Ideal) x0 x1 x2 x3 x4 x5 x6 (ix3 P Q i) : EReal)
      = k0_pay32 (F := Ideal) x0 x1 x2 x3 x4 x5 x6 (ix3 P Q i) * k0_pay32 (F := Ideal) x0 x1 x2 x3 x4 x5 x6 (ix3 P Q i) := rfl

/-- The deviations times the reciprocal square root of the variance, scaled and shifted, are the normalised channels. -/
theorem norm_apply (P Q : Fin 56) (k : Fin 384) (g h : EReal) :
    k0_pay32 (F := Ideal) x0 x1 x2 x3 x4 x5 x6 (ix3 P Q k)
        * Ideal.rsqrt (Ideal.div (∑ l, k0_pay33 (F := Ideal) x0 x1 x2 x3 x4 x5 x6 (ix3 P Q l)) Norm.len + Norm.eps) * g + h
      = Norm.norm (fun k => image x0 x1 x2 x3 x4 x5 x6 (ix3 P Q k)) g h k := by
  rw [← Norm.norm_eq_rsqrt]
  simp only [square_apply, center_apply]
  rfl

/-- What the body stores into the second image: the dense layer over the normalised channels of the first. -/
theorem block8_apply (P Q : Fin 56) (i : Fin 1152) :
    (out0_8 (F := Ideal) x0 x1 x2 x3 x4 x5 x6 (ix4 0 P Q i) : EReal)
      = Norm.dense (fun k => image x0 x1 x2 x3 x4 x5 x6 (ix3 P Q k)) (fun k => x3 (ix1 k)) (fun k => x4 (ix1 k)) (fun k => x5 (ix2 k i))
          (x6 (ix1 i)) := by
  frame_out
  pointwise [k0_pay14, k0_pay13]
  exact congrArg (· + x6 (ix1 i)) (Finset.sum_congr rfl fun k _ => congrArg (· * x5 (ix2 k i)) (norm_apply x0 x1 x2 x3 x4 x5 x6 P Q k _ _))

end Cert.PreVal

end
-- ==== Proof.PreValue.lean ====
/- The first stage: the two images the kernel's blocks fill. -/
module

public import proofs.«01_k».proof.Proof.PreBlock

@[expose] public section

set_option maxRecDepth 16384

noncomputable section

namespace Cert.PreVal

open Idealize.ShloMosaic Idealize.ShloMosaic.TcCoe Idealize.SL.Sem
open Idealize.ShloMosaic.Pipeline (Dat)
open Cert.PreIdeal Cert.PreIdeal.Gen

variable (m : (ℓ : Loc nD τ sig) → Buf (Elt Ideal) ℓ)

/-- Where each window's block lies: the images move with the grid point, every weight is whole. -/
theorem idx : ∀ t : Fin cfg0.N, win0_0.index t = ![t.val, 0, 0, 0] ∧ win0_1.index t = ![0, 0]
    ∧ win0_2.index t = ![0] ∧ win0_3.index t = ![0] ∧ win0_4.index t = ![0] ∧ win0_5.index t = ![0, 0]
    ∧ win0_6.index t = ![0] ∧ win0_7.index t = ![t.val, 0, 0, 0] ∧ win0_8.index t = ![t.val, 0, 0, 0] ∧ win0_9.index t = ![t.val, 0, 0] :=
  (by decide +kernel : ∀ t : Fin grid0.N, _)

/-- The first image: the argument and its convolution, channel last. -/
def out7 (c : Dev nD) : FVec Ideal S4x56x56x384 .f32 := fun i =>
  Conv.embed (fun P Q k => m ((c : Thread nD τ).loc main_arg0) (ix4 (i 0) k P Q))
    (fun k r s => m ((c : Thread nD τ).loc main_arg1) (ix4 k 0 r s)) (fun k => m ((c : Thread nD τ).loc main_arg2) (ix1 k)) (i 1) (i 2) (i 3)

/-- The second image: a dense layer over the normalised channels of the first. -/
def out8 (c : Dev nD) : FVec Ideal S4x56x56x1152 .f32 := fun i =>
  Norm.dense (fun k => out7 m c (ix4 (i 0) (i 1) (i 2) k)) (fun k => m ((c : Thread nD τ).loc main_arg3) (ix1 k))
    (fun k => m ((c : Thread nD τ).loc main_arg4) (ix1 k)) (fun k => m ((c : Thread nD τ).loc main_arg5) (ix2 (i 3) k))
    (m ((c : Thread nD τ).loc main_arg6) (ix1 (i 3)))

/-- The image as the region finds it, channel last. -/
theorem V_v0 (c : Dev nD) : V m c main_v0 = fun i => m ((c : Thread nD τ).loc main_arg0) (ix4 (i 0) (i 3) (i 1) (i 2)) := by
  simp only [V, hostOps0, List.flatten_cons, List.flatten_nil, List.append_nil]
  after_results
  funext i
  pointwise

/-- The convolution's weights as the region finds them: one row for each place of the neighbourhood, row by row. -/
theorem V_v3 (c : Dev nD) (r s : Fin 3) (k : Fin 384) :
    (V m c main_v3 (ix2 (⟨r.val * 3 + s.val, by omega⟩ : Fin 9) k) : EReal) = m ((c : Thread nD τ).loc main_arg1) (ix4 k 0 r s) := by
  simp only [V, hostOps0, List.flatten_cons, List.flatten_nil, List.append_nil]
  after_results
  pointwise

/-- The dense layer's weights as the region finds them: transposed (and their format changed, which is no change of value). -/
theorem V_v5 (c : Dev nD) : V m c main_v5 = fun i => m ((c : Thread nD τ).loc main_arg5) (ix2 (i 1) (i 0)) := by
  simp only [V, hostOps0, List.flatten_cons, List.flatten_nil, List.append_nil]
  after_results
  funext i
  pointwise

/-- The block index `(0, P, Q, i)` of a grid point's first image sits at batch `t`. -/
theorem emb7 (t : Fin cfg0.N) (P Q : Fin 56) (i : Fin 384) :
    ((cfg0.win 7).blk t).view.emb (ix4 0 P Q i) = ix4 (⟨t.val, t.isLt⟩ : Fin 4) P Q i := by
  blk_ext [idx t]

/-- The block index `(0, P, Q, i)` of a grid point's second image sits at batch `t`. -/
theorem emb8 (t : Fin cfg0.N) (P Q : Fin 56) (i : Fin 1152) :
    ((cfg0.win 8).blk t).view.emb (ix4 0 P Q i) = ix4 (⟨t.val, t.isLt⟩ : Fin 4) P Q i := by
  blk_ext [idx t]

/-- The image's block. -/
theorem read0 (c : Dev nD) (t : Fin cfg0.N) (P Q : Fin 56) (k : Fin 384) :
    (iblk m c 0 t (ix4 0 P Q k) : EReal) = m ((c : Thread nD τ).loc main_arg0) (ix4 (⟨t.val, t.isLt⟩ : Fin 4) k P Q) := by
  refine Eq.trans ?_ (congrFun (V_v0 m c) (ix4 (⟨t.val, t.isLt⟩ : Fin 4) P Q k))
  blk_point [iblk, idx t]

/-- The convolution's weights. -/
theorem read1 (c : Dev nD) (t : Fin cfg0.N) (r s : Fin 3) (k : Fin 384) :
    (iblk m c 1 t (ix2 (⟨r.val * 3 + s.val, by omega⟩ : Fin 9) k) : EReal) = m ((c : Thread nD τ).loc main_arg1) (ix4 k 0 r s) := by
  refine Eq.trans ?_ (V_v3 m c r s k)
  blk_point [iblk, idx t]

/-- The convolution's bias. -/
theorem read2 (c : Dev nD) (t : Fin cfg0.N) (k : Fin 384) :
    (iblk m c 2 t (ix1 k) : EReal) = m ((c : Thread nD τ).loc main_arg2) (ix1 k) := by
  blk_point [iblk, V, idx t]

/-- The layer norm's scale. -/
theorem read3 (c : Dev nD) (t : Fin cfg0.N) (k : Fin 384) :
    (iblk m c 3 t (ix1 k) : EReal) = m ((c : Thread nD τ).loc main_arg3) (ix1 k) := by
  blk_point [iblk, V, idx t]

/-- The layer norm's shift. -/
theorem read4 (c : Dev nD) (t : Fin cfg0.N) (k : Fin 384) :
    (iblk m c 4 t (ix1 k) : EReal) = m ((c : Thread nD τ).loc main_arg4) (ix1 k) := by
  blk_point [iblk, V, idx t]

/-- The dense layer's weights. -/
theorem read5 (c : Dev nD) (t : Fin cfg0.N) (k : Fin 384) (i : Fin 1152) :
    (iblk m c 5 t (ix2 k i) : EReal) = m ((c : Thread nD τ).loc main_arg5) (ix2 i k) := by
  refine Eq.trans ?_ (congrFun (V_v5 m c) (ix2 k i))
  blk_point [iblk, idx t]

/-- The dense layer's bias. -/
theorem read6 (c : Dev nD) (t : Fin cfg0.N) (k : Fin 1152) :
    (iblk m c 6 t (ix1 k) : EReal) = m ((c : Thread nD τ).loc main_arg6) (ix1 k) := by
  blk_point [iblk, V, idx t]

/-- A grid point's first image is the array's at its batch. -/
theorem image_at (c : Dev nD) (t : Fin cfg0.N) (P Q : Fin 56) (k : Fin 384) :
    image (iblk m c 0 t) (iblk m c 1 t) (iblk m c 2 t) (iblk m c 3 t) (iblk m c 4 t) (iblk m c 5 t) (iblk m c 6 t) (ix3 P Q k)
      = out7 m c (ix4 (⟨t.val, t.isLt⟩ : Fin 4) P Q k) := by
  refine (image_apply _ _ _ _ _ _ _ _ _ _).trans ?_
  simp only [read0, read1, read2]
  rfl

/-- What a grid point's body stores at a block index of the first image is the array's entry it sits at. -/
theorem point7 (c : Dev nD) (t : Fin cfg0.N) (y : S1x56x56x384.Idx) :
    out0_7 (F := Ideal) (iblk m c 0 t) (iblk m c 1 t) (iblk m c 2 t) (iblk m c 3 t) (iblk m c 4 t) (iblk m c 5 t) (iblk m c 6 t) y
      = out7 m c (((cfg0.win 7).blk t).view.emb y) := by
  obtain ⟨P, Q, i, rfl⟩ : ∃ (P Q : Fin 56) (i : Fin 384), y = ix4 0 P Q i :=
    ⟨y 1, y 2, y 3, (eq_ix4 y).trans (congrArg (fun a => ix4 a _ _ _) (Fin.ext (Nat.lt_one_iff.1 (y 0).isLt)))⟩
  rw [emb7]
  exact (block7_apply _ _ _ _ _ _ _ _ _ _).trans (image_at m c t P Q i)

/-- What a grid point's body stores at a block index of the second image is the array's entry it sits at. -/
theorem point8 (c : Dev nD) (t : Fin cfg0.N) (y : S1x56x56x1152.Idx) :
    out0_8 (F := Ideal) (iblk m c 0 t) (iblk m c 1 t) (iblk m c 2 t) (iblk m c 3 t) (iblk m c 4 t) (iblk m c 5 t) (iblk m c 6 t) y
      = out8 m c (((cfg0.win 8).blk t).view.emb y) := by
  obtain ⟨P, Q, i, rfl⟩ : ∃ (P Q : Fin 56) (i : Fin 1152), y = ix4 0 P Q i :=
    ⟨y 1, y 2, y 3, (eq_ix4 y).trans (congrArg (fun a => ix4 a _ _ _) (Fin.ext (Nat.lt_one_iff.1 (y 0).isLt)))⟩
  rw [emb8]
  refine (block8_apply _ _ _ _ _ _ _ _ _ _).trans ?_
  simp only [image_at, read3, read4, read5, read6]
  rfl

/-- The kernel's first output array after the run. -/
theorem final7 (c : Dev nD) : (dats m 0 c).arrAt 7 (cfgs 0).N = out7 m c := by
  refine (dats m 0 c).arrAt_eq_of_covers 7 _ (by decide +kernel) fun t _ y => ?_
  blk_simp
  rw [after0_7]
  exact point7 m c t y

/-- The kernel's second output array after the run. -/
theorem final8 (c : Dev nD) : (dats m 0 c).arrAt 8 (cfgs 0).N = out8 m c := by
  refine (dats m 0 c).arrAt_eq_of_covers 8 _ (by decide +kernel) fun t _ y => ?_
  blk_simp
  rw [after0_8]
  exact point8 m c t y

end Cert.PreVal

end
-- ==== Proof.PreRef.lean ====
/- The first stage: what the reference's two images hold, entry by entry. -/
module

public import proofs.«01_k».proof.Proof.Gen.RefPreIdeal.Run
public import proofs.«01_k».proof.Proof.Conv

@[expose] public section

set_option maxRecDepth 16384

noncomputable section

namespace Cert.PreRef

open Idealize.ShloMosaic Idealize.ShloMosaic.TcCoe Idealize.SL.Sem
open Cert.RefPreIdeal Cert.RefPreIdeal.Gen Cert.RefPreIdeal.Value

/-- The image, channel first, inside a border of one zero. -/
def bordered (x : FVec Ideal S4x384x56x56 .f32) : FVec Ideal S4x384x58x58 .f32 :=
  pad S4x384x58x58 ![0, 0, 1, 1] ![0, 0, 1, 1] ![0, 0, 0, 0] x (sitofp .f32 (constantI S_ 32 0#32)) pads_S4x384x56x56_S4x384x58x58_000_000_110_110 h_S_

/-- Three copies of it, each moved up by one row more. -/
def rows (x : FVec Ideal S4x384x56x56 .f32) : FVec Ideal S4x384x3x56x58 .f32 :=
  (concatenate S4x384x3x56x58 2 [⟨S4x384x1x56x58, ((broadcastInDim S4x384x1x56x58 ![0, 1, 3, 4] bcast_S4x384x56x58_S4x384x1x56x58_0_1_3_4 (extractStridedSlice S4x384x56x58 ![0, 0, 0, 0] (bordered x) slices_S4x384x58x58_S4x384x56x58_0_0_0_0)) : (⟨S4x384x1x56x58, .f32⟩ : BufTy).Contents (Elt Ideal))⟩, ⟨S4x384x1x56x58, ((broadcastInDim S4x384x1x56x58 ![0, 1, 3, 4] bcast_S4x384x56x58_S4x384x1x56x58_0_1_3_4 (extractStridedSlice S4x384x56x58 ![0, 0, 1, 0] (bordered x) slices_S4x384x58x58_S4x384x56x58_0_0_1_0)) : (⟨S4x384x1x56x58, .f32⟩ : BufTy).Contents (Elt Ideal))⟩, ⟨S4x384x1x56x58, ((broadcastInDim S4x384x1x56x58 ![0, 1, 3, 4] bcast_S4x384x56x58_S4x384x1x56x58_0_1_3_4 (extractStridedSlice S4x384x56x58 ![0, 0, 2, 0] (bordered x) slices_S4x384x58x58_S4x384x56x58_0_0_2_0)) : (⟨S4x384x1x56x58, .f32⟩ : BufTy).Contents (Elt Ideal))⟩] concatenates_S4x384x1x56x58_S4x384x1x56x58_S4x384x1x56x58_S4x384x3x56x58_d2 : (⟨S4x384x3x56x58, .f32⟩ : BufTy).Contents (Elt Ideal))

/-- Every pixel's neighbourhood: three copies of those, each moved left by one column more. -/
def near (x : FVec Ideal S4x384x56x56 .f32) : FVec Ideal S4x384x3x3x56x56 .f32 :=
  (concatenate S4x384x3x3x56x56 3 [⟨S4x384x3x1x56x56, ((broadcastInDim S4x384x3x1x56x56 ![0, 1, 2, 4, 5] bcast_S4x384x3x56x56_S4x384x3x1x56x56_0_1_2_4_5 (extractStridedSlice S4x384x3x56x56 ![0, 0, 0, 0, 0] ((rows x)) slices_S4x384x3x56x58_S4x384x3x56x56_0_0_0_0_0)) : (⟨S4x384x3x1x56x56, .f32⟩ : BufTy).Contents (Elt Ideal))⟩, ⟨S4x384x3x1x56x56, ((broadcastInDim S4x384x3x1x56x56 ![0, 1, 2, 4, 5] bcast_S4x384x3x56x56_S4x384x3x1x56x56_0_1_2_4_5 (extractStridedSlice S4x384x3x56x56 ![0, 0, 0, 0, 1] ((rows x)) slices_S4x384x3x56x58_S4x384x3x56x56_0_0_0_0_1)) : (⟨S4x384x3x1x56x56, .f32⟩ : BufTy).Contents (Elt Ideal))⟩, ⟨S4x384x3x1x56x56, ((broadcastInDim S4x384x3x1x56x56 ![0, 1, 2, 4, 5] bcast_S4x384x3x56x56_S4x384x3x1x56x56_0_1_2_4_5 (extractStridedSlice S4x384x3x56x56 ![0, 0, 0, 0, 2] ((rows x)) slices_S4x384x3x56x58_S4x384x3x56x56_0_0_0_0_2)) : (⟨S4x384x3x1x56x56, .f32⟩ : BufTy).Contents (Elt Ideal))⟩] concatenates_S4x384x3x1x56x56_S4x384x3x1x56x56_S4x384x3x1x56x56_S4x384x3x3x56x56_d3 : (⟨S4x384x3x3x56x56, .f32⟩ : BufTy).Contents (Elt Ideal))

/-- The convolution's weights, laid along the neighbourhoods. -/
def taps (w : FVec Ideal S384x1x3x3 .f32) : FVec Ideal S4x384x3x3x56x56 .f32 :=
  broadcastInDim S4x384x3x3x56x56 ![0, 1, 2, 3, 4, 5] bcast_S1x384x3x3x1x1_S4x384x3x3x56x56_0_1_2_3_4_5 (broadcastInDim S1x384x3x3x1x1 ![1, 2, 3] bcast_S384x3x3_S1x384x3x3x1x1_1_2_3 (shapeCast S384x3x3 w shapeCasts_S384x1x3x3_S384x3x3))

/-- The convolution's bias, laid along the pixels. -/
def bias (b : FVec Ideal S384 .f32) : FVec Ideal S4x384x56x56 .f32 :=
  broadcastInDim S4x384x56x56 ![0, 1, 2, 3] bcast_S1x384x1x1_S4x384x56x56_0_1_2_3 (broadcastInDim S1x384x1x1 ![1] bcast_S384_S1x384x1x1_1 b)

/-- The convolution of the image. -/
def pos (x : FVec Ideal S4x384x56x56 .f32) (w : FVec Ideal S384x1x3x3 .f32) (b : FVec Ideal S384 .f32) : FVec Ideal S4x384x56x56 .f32 :=
  addf (Host.reduceAdd (mulf (near x) (taps w)) (constant S_ .f32 0x00000000#32) reducesTo_S4x384x3x3x56x56_S4x384x56x56_d2_3 h_S_) (bias b)

/-- The first result: the image and its convolution, channel last. -/
def image (x : FVec Ideal S4x384x56x56 .f32) (w : FVec Ideal S384x1x3x3 .f32) (b : FVec Ideal S384 .f32) : FVec Ideal S4x56x56x384 .f32 :=
  transpose S4x56x56x384 [0, 2, 3, 1] (addf x (pos x w b)) transposes_S4x384x56x56_S4x56x56x384_0_2_3_1

/-- The second result: the normalised channels of the image, through a dense layer. -/
def dense (x : FVec Ideal S4x384x56x56 .f32) (w : FVec Ideal S384x1x3x3 .f32) (b : FVec Ideal S384 .f32) (g : FVec Ideal S384 .f32) (h : FVec Ideal S384 .f32) (W : FVec Ideal S1152x384 .f32) (v : FVec Ideal S1152 .f32) : FVec Ideal S4x56x56x1152 .f32 :=
  addf (Host.dotGeneral dot_S4x56x56x384_S384x1152_S4x56x56x1152_3_0_012_1_n_n none (addf (mulf (Host.divf (subf (image x w b) (broadcastInDim S4x56x56x384 ![0, 1, 2, 3] bcast_S4x56x56x1_S4x56x56x384_0_1_2_3 (Host.divf (broadcastInDim S4x56x56x1 ![0, 1, 2] bcast_S4x56x56_S4x56x56x1_0_1_2 (Host.reduceAdd (image x w b) (constant S_ .f32 0x00000000#32) reducesTo_S4x56x56x384_S4x56x56_d3 h_S_)) (broadcastInDim S4x56x56x1 ![] bcast_S_S4x56x56x1 (constant S_ .f32 0x43C00000#32))))) (broadcastInDim S4x56x56x384 ![0, 1, 2, 3] bcast_S4x56x56x1_S4x56x56x384_0_1_2_3 (Host.sqrt (addf (select (broadcastInDim S4x56x56x1 ![] bcast_S_S4x56x56x1 (cmpf .ogt (subf (constant S_ .f32 0x43C00000#32) (sitofp .f32 (constantI S_ 32 0#32)) : FVec Ideal S_ .f32) (constant S_ .f32 0x00000000#32))) (Host.divf (broadcastInDim S4x56x56x1 ![0, 1, 2] bcast_S4x56x56_S4x56x56x1_0_1_2 (Host.reduceAdd (mulf (subf (image x w b) (broadcastInDim S4x56x56x384 ![0, 1, 2, 3] bcast_S4x56x56x1_S4x56x56x384_0_1_2_3 (Host.divf (broadcastInDim S4x56x56x1 ![0, 1, 2] bcast_S4x56x56_S4x56x56x1_0_1_2 (Host.reduceAdd (image x w b) (constant S_ .f32 0x00000000#32) reducesTo_S4x56x56x384_S4x56x56_d3 h_S_)) (broadcastInDim S4x56x56x1 ![] bcast_S_S4x56x56x1 (constant S_ .f32 0x43C00000#32))))) (subf (image x w b) (broadcastInDim S4x56x56x384 ![0, 1, 2, 3] bcast_S4x56x56x1_S4x56x56x384_0_1_2_3 (Host.divf (broadcastInDim S4x56x56x1 ![0, 1, 2] bcast_S4x56x56_S4x56x56x1_0_1_2 (Host.reduceAdd (image x w b) (constant S_ .f32 0x00000000#32) reducesTo_S4x56x56x384_S4x56x56_d3 h_S_)) (broadcastInDim S4x56x56x1 ![] bcast_S_S4x56x56x1 (constant S_ .f32 0x43C00000#32)))))) (constant S_ .f32 0x00000000#32) reducesTo_S4x56x56x384_S4x56x56_d3 h_S_)) (broadcastInDim S4x56x56x1 ![] bcast_S_S4x56x56x1 (subf (constant S_ .f32 0x43C00000#32) (sitofp .f32 (constantI S_ 32 0#32))))) (broadcastInDim S4x56x56x1 ![] bcast_S_S4x56x56x1 (id (constant S_ .f32 0x7FC00000#32)))) (broadcastInDim S4x56x56x1 ![] bcast_S_S4x56x56x1 (constant S_ .f32 0x3727C5AC#32)))))) (broadcastInDim S4x56x56x384 ![0, 1, 2, 3] bcast_S1x1x1x384_S4x56x56x384_0_1_2_3 (broadcastInDim S1x1x1x384 ![3] bcast_S384_S1x1x1x384_3 g))) (broadcastInDim S4x56x56x384 ![0, 1, 2, 3] bcast_S1x1x1x384_S4x56x56x384_0_1_2_3 (broadcastInDim S1x1x1x384 ![3] bcast_S384_S1x1x1x384_3 h))) (transpose S384x1152 [1, 0] W transposes_S1152x384_S384x1152_1_0 : FVec Ideal S384x1152 .f32)) (broadcastInDim S4x56x56x1152 ![0, 1, 2, 3] bcast_S1x1x1x1152_S4x56x56x1152_0_1_2_3 (broadcastInDim S1x1x1x1152 ![3] bcast_S1152_S1x1x1x1152_3 v))

/-- The bordered image, read at an index. -/
theorem bordered_apply (x : FVec Ideal S4x384x56x56 .f32) (n : Fin 4) (k : Fin 384) (a b : Fin 58) :
    (bordered x (ix4 n k a b) : EReal) = Conv.pad 1 (fun P Q => x (ix4 n k P Q)) a.val b.val := by
  pointwise [bordered]
  rw [Conv.pad]
  split_ifs <;> first | rfl | omega | exact Conv.zero_eq

/-- The row-shifted copies, read at an index. -/
theorem rows_apply (x : FVec Ideal S4x384x56x56 .f32) (n : Fin 4) (k : Fin 384) (r : Fin 3) (a : Fin 56) (b : Fin 58) :
    (rows x (ix5 n k r a b) : EReal) = bordered x (ix4 n k (⟨r.val + a.val, by omega⟩ : Fin 58) b) := by
  unfold rows
  fin_cases r <;> pointwise

/-- The neighbourhoods, read at an index. -/
theorem near_apply (x : FVec Ideal S4x384x56x56 .f32) (n : Fin 4) (k : Fin 384) (r s : Fin 3) (a b : Fin 56) :
    (near x (ix6 n k r s a b) : EReal) = rows x (ix5 n k r a (⟨s.val + b.val, by omega⟩ : Fin 58)) := by
  unfold near
  fin_cases s <;> pointwise

/-- The weights without their axis of one entry, read at an index. -/
theorem squeeze_apply (w : FVec Ideal S384x1x3x3 .f32) (k : Fin 384) (r s : Fin 3) :
    (shapeCast S384x3x3 w shapeCasts_S384x1x3x3_S384x3x3 (ix3 k r s) : EReal) = w (ix4 k 0 r s) := by
  pointwise

/-- The weights, read at an index. -/
theorem taps_apply (w : FVec Ideal S384x1x3x3 .f32) (n : Fin 4) (k : Fin 384) (r s : Fin 3) (a b : Fin 56) :
    (taps w (ix6 n k r s a b) : EReal) = w (ix4 k 0 r s) := by
  refine Eq.trans ?_ (squeeze_apply _ k r s)
  unfold taps
  refine congrArg (shapeCast S384x3x3 _ shapeCasts_S384x1x3x3_S384x3x3) (?_ : _ = ix3 k r s)
  funext d
  fin_cases d <;> rfl

/-- The bias, read at an index. -/
theorem bias_apply (b : FVec Ideal S384 .f32) (n : Fin 4) (k : Fin 384) (p q : Fin 56) :
    (bias b (ix4 n k p q) : EReal) = b (ix1 k) := by
  pointwise [bias]

/-- The convolution is the weighted sum of each pixel's neighbourhood, and the bias. -/
theorem pos_apply (x : FVec Ideal S4x384x56x56 .f32) (w : FVec Ideal S384x1x3x3 .f32) (b : FVec Ideal S384 .f32) (n : Fin 4) (k : Fin 384) (p q : Fin 56) :
    (pos x w b (ix4 n k p q) : EReal)
      = Conv.conv 1 3 (fun P Q => x (ix4 n k P Q)) (fun r s => w (ix4 k 0 r s)) p q + b (ix1 k) := by
  rw [pos]
  simp only [addf, Host.reduceAdd, Ideal.hostReduceAdd_def]
  rw [Ideal.hostReduceAdd_r6_a23]
  refine congrArg₂ (fun x y : EReal => x + y) ?_ (bias_apply b n k p q)
  refine (congrArg (fun x : EReal => x + _) Conv.const_zero).trans ((zero_add _).trans ?_)
  refine Finset.sum_congr rfl fun r _ => Finset.sum_congr rfl fun s _ => ?_
  refine congrArg₂ (fun x y : EReal => x * y) ?_ (taps_apply w n k r s p q)
  exact (near_apply x n k r s p q).trans ((rows_apply x n k r p _).trans (bordered_apply x n k _ _))

/-- The first result's entry at batch `n`, pixel `(p, q)` and channel `i`. -/
theorem image_apply (x : FVec Ideal S4x384x56x56 .f32) (w : FVec Ideal S384x1x3x3 .f32) (b : FVec Ideal S384 .f32) (n : Fin 4) (p q : Fin 56) (i : Fin 384) :
    (image x w b (ix4 n p q i) : EReal)
      = Conv.embed (fun P Q k => x (ix4 n k P Q)) (fun k r s => w (ix4 k 0 r s)) (fun k => b (ix1 k)) p q i := by
  pointwise [image]
  rw [pos_apply]
  rfl

/-- The second result's entry at batch `n`, pixel `(p, q)` and channel `i`. -/
theorem dense_apply (x : FVec Ideal S4x384x56x56 .f32) (w : FVec Ideal S384x1x3x3 .f32) (b : FVec Ideal S384 .f32) (g : FVec Ideal S384 .f32) (h : FVec Ideal S384 .f32) (W : FVec Ideal S1152x384 .f32) (v : FVec Ideal S1152 .f32) (n : Fin 4) (p q : Fin 56) (i : Fin 1152) :
    (dense x w b g h W v (ix4 n p q i) : EReal)
      = Norm.dense (fun k => image x w b (ix4 n p q k)) (fun k => g (ix1 k)) (fun k => h (ix1 k)) (fun k => W (ix2 i k)) (v (ix1 i)) := by
  pointwise [dense]
  simp only [Norm.len_sub, if_pos Norm.len_pos]
  rfl

/-- The reference's first result is that array of its arguments. -/
theorem res0_eq (m : (ℓ : Loc nD τ sig) → Buf (Elt Ideal) ℓ) (c : Dev nD) :
    res_out0 (F := Ideal) m c = image (m ((c.tc : Thread nD τ).loc main_arg0)) (m ((c.tc : Thread nD τ).loc main_arg1)) (m ((c.tc : Thread nD τ).loc main_arg2)) := rfl

/-- The reference's second result is that array of its arguments. -/
theorem res1_eq (m : (ℓ : Loc nD τ sig) → Buf (Elt Ideal) ℓ) (c : Dev nD) :
    res_out1 (F := Ideal) m c = dense (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- The reference's first result, read at an index. -/
theorem image_at (m : (ℓ : Loc nD τ sig) → Buf (Elt Ideal) ℓ) (c : Dev nD) (n : Fin 4) (p q : Fin 56) (i : Fin 384) :
    (res_out0 (F := Ideal) m c (ix4 n p q i) : EReal)
      = Conv.embed (fun P Q k => m ((c.tc : Thread nD τ).loc main_arg0) (ix4 n k P Q))
          (fun k r s => m ((c.tc : Thread nD τ).loc main_arg1) (ix4 k 0 r s)) (fun k => m ((c.tc : Thread nD τ).loc main_arg2) (ix1 k)) p q i :=
  (congrFun (res0_eq m c) _).trans (image_apply _ _ _ n p q i)

/-- The reference's second result, read at an index. -/
theorem dense_at (m : (ℓ : Loc nD τ sig) → Buf (Elt Ideal) ℓ) (c : Dev nD) (n : Fin 4) (p q : Fin 56) (i : Fin 1152) :
    (res_out1 (F := Ideal) m c (ix4 n p q i) : EReal)
      = Norm.dense (fun j => Conv.embed (fun P Q k => m ((c.tc : Thread nD τ).loc main_arg0) (ix4 n k P Q))
            (fun k r s => m ((c.tc : Thread nD τ).loc main_arg1) (ix4 k 0 r s)) (fun k => m ((c.tc : Thread nD τ).loc main_arg2) (ix1 k)) p q j)
          (fun k => m ((c.tc : Thread nD τ).loc main_arg3) (ix1 k)) (fun k => m ((c.tc : Thread nD τ).loc main_arg4) (ix1 k))
          (fun k => m ((c.tc : Thread nD τ).loc main_arg5) (ix2 i k)) (m ((c.tc : Thread nD τ).loc main_arg6) (ix1 i)) := by
  refine (congrFun (res1_eq m c) _).trans ((dense_apply _ _ _ _ _ _ _ n p q i).trans ?_)
  simp only [image_apply]

end Cert.PreRef

end
-- ==== Proof.AttnWords.lean ====
/- The precondition of the attention call, read: every word of its table names one of the 49 windows. What the kernel's body assumes
   of each word it loads — that the window the word names lies inside the array — follows. -/
module

public import proofs.«01_k».proof.Defs
public import proofs.«01_k».proof.Proof.Gen.Attn.Frame
public import proofs.«01_k».proof.Proof.Gen.AttnIdeal.Frame
public import proofs.«01_k».proof.Proof.Gen.Pre_windows_exist
public import Idealize.ShloMosaic.Lib.ReduceAll

@[expose] public section

set_option maxRecDepth 16384

noncomputable section

namespace Cert.AttnVal

open Idealize.ShloMosaic Idealize.ShloMosaic.TcCoe Idealize.SL.Sem

variable {F : FTy → Type} [FloatOps F]

/-- The precondition says of each word that it is less than 49. -/
theorem lt_of_pre (r : IVec Cert.Pre_windows_exist.S4x49x4 32) (x : FVec F Cert.Pre_windows_exist.S4x56x56x1152 .f32)
    (h : Cert.Pre_windows_exist.fn (F := F) r x = fun _ => 1#1) (i : Cert.Pre_windows_exist.S4x49x4.Idx) : (r i).toNat < 49 := by
  have e := Host.reduce_andi_all _ _ _ _ (default : Cert.Pre_windows_exist.S_.Idx) (congrFun h default) i
  have both : ∀ a b : BitVec 1, IntOp.andi a b = 1#1 → a = 1#1 ∧ b = 1#1 := by decide
  obtain ⟨h0, h1⟩ := both _ _ e
  have h0 : (0#32).toInt ≤ (r i).toInt := IntOp.cmpi_sge.1 h0
  have h1 : (r i).toInt < (49#32).toInt := IntOp.cmpi_slt.1 h1
  have z : (0#32).toInt = 0 := by decide
  have n : (49#32).toInt = 49 := by decide
  rw [z, BitVec.toInt_eq_toNat_cond] at h0
  rw [n, BitVec.toInt_eq_toNat_cond] at h1
  split at h0 <;> omega

/-- Where the window that a word names begins: its rows and its columns by 8, after the 384 channels of the queries. -/
theorem begins (v : BitVec 32) (hv : v.toNat < 49) :
    Cert.AttnIdeal.k0_off3 v = ![0, 8 * (v.toNat / 7), 8 * (v.toNat % 7), 384] := by
  have all : ∀ n : Fin 49, Cert.AttnIdeal.k0_off3 (BitVec.ofNat 32 n.val) = ![0, 8 * (n.val / 7), 8 * (n.val % 7), 384] := by
    decide +kernel
  have e := all ⟨v.toNat, hv⟩
  have w : BitVec.ofNat 32 v.toNat = v := by simp
  rw [w] at e
  exact e

/-- A window that a word below 49 names lies inside the array. -/
theorem inside (v : BitVec 32) (hv : v.toNat < 49) : Cert.AttnIdeal.k0_chk1 v := fun a => by
  rw [begins v hv]
  match a with
  | 0 => exact (by decide : 0 + 1 ≤ 1)
  | 1 => exact (by omega : 8 * (v.toNat / 7) + 8 ≤ 56)
  | 2 => exact (by omega : 8 * (v.toNat % 7) + 8 ≤ 56)
  | 3 => exact (by decide : 384 + 768 ≤ 1152)

section kernel

open Cert.Attn Cert.Attn.Gen

variable (m : (ℓ : Loc nD τ sig) → Buf (Elt F) ℓ)

/-- The table the kernel reads is the array of words, in one row. -/
theorem table_kernel : tbl m 0 = (shapeCast S784 (m (((0 : Dev nD) : Thread nD τ).loc main_arg0) : IVec S4x49x4 32) shapeCasts_S4x49x4_S784 : IVec S784 32) := by
  show V m 0 main_v0 = _
  simp only [V, hostOps0, List.flatten_cons, List.flatten_nil, List.append_nil]
  after_results
  rfl

/-- Under the precondition the body's assumptions hold at every grid point. -/
theorem hyps_kernel (h : ∀ i, (m (((0 : Dev nD) : Thread nD τ).loc main_arg0) i : BitVec 32).toNat < 49) (hO : Ok m) : Hyps m hO := by
  have word : ∀ (chk : BitVec 32 → Prop), chk = Cert.AttnIdeal.k0_chk1 → ∀ i : S784.Idx, chk (tbl m 0 i) := fun chk e i => by
    subst e
    rw [table_kernel]
    exact inside _ (h _)
  intro c t
  repeat' apply And.intro
  all_goals exact word _ rfl _

end kernel

section ideal

open Cert.AttnIdeal Cert.AttnIdeal.Gen

variable (m : (ℓ : Loc nD τ sig) → Buf (Elt F) ℓ)

/-- The table the idealized kernel reads is the array of words, in one row. -/
theorem table : tbl m 0 = (shapeCast S784 (m (((0 : Dev nD) : Thread nD τ).loc main_arg0) : IVec S4x49x4 32) shapeCasts_S4x49x4_S784 : IVec S784 32) := by
  show V m 0 main_v0 = _
  simp only [V, hostOps0, List.flatten_cons, List.flatten_nil, List.append_nil]
  after_results
  rfl

/-- Under the precondition the idealized body's assumptions hold at every grid point. -/
theorem hyps (h : ∀ i, (m (((0 : Dev nD) : Thread nD τ).loc main_arg0) i : BitVec 32).toNat < 49) (hO : Ok m) : Hyps m hO := by
  have word : ∀ (chk : BitVec 32 → Prop), chk = k0_chk1 → ∀ i : S784.Idx, chk (tbl m 0 i) := fun chk e i => by
    subst e
    rw [table]
    exact inside _ (h _)
  intro c t
  repeat' apply And.intro
  all_goals exact word _ rfl _

end ideal

end Cert.AttnVal
-- ==== Proof.AttnScratch.lean ====
/- The attention stage: the block-diagonal query matrix the kernel keeps in its scratch buffer. Each window writes the
   twelve heads' 64 × 32 blocks along the diagonal; everywhere else the matrix stays zero. -/
module

public import proofs.«01_k».proof.Proof.Gen.AttnIdeal.Frame
public import proofs.«01_k».proof.Proof.Conv

@[expose] public section

set_option maxRecDepth 16384

noncomputable section

namespace Cert.AttnVal

open Idealize.ShloMosaic Idealize.ShloMosaic.TcCoe Idealize.SL.Sem
open Cert.AttnIdeal Cert.AttnIdeal.Gen

/-- The block of head `h` lies inside the matrix. -/
theorem block_inb (h : ℕ) (hh : h < 12) : ∀ a, (![64 * h, 32 * h] : Fin 2 → ℕ) a + S64x32.size a ≤ S768x384.size a := by
  intro a
  fin_cases a
  · show 64 * h + 64 ≤ 768; omega
  · show 32 * h + 32 ≤ 384; omega

/-- The columns of head `h` lie inside the queries. -/
theorem block_slices (h : ℕ) (hh : h < 12) : S64x384.Slices ![0, 32 * h] S64x32 := by
  refine ⟨rfl, fun a => ?_⟩
  fin_cases a
  · show 0 + 64 ≤ 64; omega
  · show 32 * h + 32 ≤ 384; omega

/-- The columns of head `h`. -/
def cols (q : FVec Ideal S64x384 .bf16) (h : ℕ) (hh : h < 12) : FVec Ideal S64x32 .bf16 :=
  extractStridedSlice S64x32 ![0, 32 * h] q (block_slices h hh)

/-- The store of head `h`: its 32 columns of the queries, at rows 64 h and columns 32 h. -/
def block (q : FVec Ideal S64x384 .bf16) (h : ℕ) (hh : h < 12) : View.Piece (Elt Ideal) S768x384 .bf16 :=
  ⟨Rect.unit ![64 * h, 32 * h] S64x32.size (block_inb h hh),
    shapeCast S64x32 (cols q h hh) shapeCasts_S64x32_S64x32⟩

/-- The stores of the first `n` heads, the last one first. -/
def blocks (q : FVec Ideal S64x384 .bf16) : (n : ℕ) → n ≤ 12 → List (View.Piece (Elt Ideal) S768x384 .bf16)
  | 0, _ => []
  | n + 1, h => block q n h :: blocks q n (Nat.le_of_succ_le h)

/-- Every listed store is some head's. -/
theorem of_mem_blocks (q : FVec Ideal S64x384 .bf16) : ∀ (n : ℕ) (hn : n ≤ 12) (p), p ∈ blocks q n hn →
    ∃ (h : ℕ) (hh : h < 12), p = block q h hh
  | 0, _, p, hp => absurd hp List.not_mem_nil
  | n + 1, hn, p, hp => by
    rcases List.mem_cons.mp hp with rfl | hp
    · exact ⟨n, hn, rfl⟩
    · exact of_mem_blocks q n _ p hp

/-- Every head below `n` has its store listed. -/
theorem mem_blocks (q : FVec Ideal S64x384 .bf16) (h : ℕ) (hh : h < 12) : ∀ (n : ℕ) (hn : n ≤ 12), h < n →
    block q h hh ∈ blocks q n hn
  | 0, _, hlt => absurd hlt (Nat.not_lt_zero h)
  | n + 1, hn, hlt => by
    by_cases e : h = n
    · subst e; exact List.mem_cons_self
    · exact List.mem_cons_of_mem _ (mem_blocks q h hh n _ (by omega))

/-- A matrix that is zero off the diagonal blocks. -/
def Clean (S : FVec Ideal S768x384 .bf16) : Prop :=
  ∀ (r : Fin 768) (c : Fin 384), r.val / 64 ≠ c.val / 32 → S (ix2 r c) = (0 : EReal)

/-- A matrix whose diagonal blocks are the heads' queries. -/
def Holds (S : FVec Ideal S768x384 .bf16) (q : FVec Ideal S64x384 .bf16) : Prop :=
  ∀ (r : Fin 768) (c : Fin 384), r.val / 64 = c.val / 32 →
    S (ix2 r c) = q (ix2 (⟨r.val % 64, by omega⟩ : Fin 64) c)

variable {sig' : RefSig} {κ : Kind} {sp : Space} (v : View sig' κ sp S768x384 .bf16)

/-- Storing the heads' blocks leaves a clean matrix clean. -/
theorem clean_writes (f : v.ty.Contents (Elt Ideal)) (q : FVec Ideal S64x384 .bf16)
    (hf : Clean (v.read (Elt Ideal) f)) :
    Clean (v.read (Elt Ideal) (v.writes (Elt Ideal) f (blocks q 12 le_rfl))) := by
  intro r c hrc
  refine (View.read_writes_apply_of_forall_not_mem v f _ _ fun p hp hy => ?_).trans (hf r c hrc)
  obtain ⟨h, hh, rfl⟩ := of_mem_blocks q 12 le_rfl p hp
  rw [block, Rect.mem_set_unit] at hy
  have h0 := hy 0
  have h1 := hy 1
  change 64 * h ≤ r.val ∧ r.val < 64 * h + 64 at h0
  change 32 * h ≤ c.val ∧ c.val < 32 * h + 32 at h1
  omega

/-- Storing the heads' blocks puts the queries on the diagonal. -/
theorem holds_writes (f : v.ty.Contents (Elt Ideal)) (q : FVec Ideal S64x384 .bf16) :
    Holds (v.read (Elt Ideal) (v.writes (Elt Ideal) f (blocks q 12 le_rfl))) q := by
  intro r c hrc
  refine View.read_writes_apply_of_pieces v f
    (fun y : S768x384.Idx => q (ix2 (⟨(y 0).val % 64, by omega⟩ : Fin 64) (y 1))) _ (fun p hp x => ?_) (ix2 r c)
    ⟨block q (r.val / 64) (by omega), mem_blocks q _ _ 12 le_rfl (by omega), ?_⟩
  · obtain ⟨h, hh, rfl⟩ := of_mem_blocks q 12 le_rfl p hp
    have hx0 : (x 0).val < 64 := (x 0).isLt
    have e : (block q h hh).2 x = cols q h hh x :=
      congrFun (shapeCast_self (cols q h hh) shapeCasts_S64x32_S64x32) x
    rw [e]
    refine congrArg q (funext fun a => Fin.ext ?_)
    fin_cases a
    · show 0 + (x 0).val = (64 * h + 1 * (x 0).val) % 64
      omega
    · show 32 * h + (x 1).val = 32 * h + 1 * (x 1).val
      omega
  · rw [block, Rect.mem_set_unit]
    intro a
    fin_cases a
    · show 64 * (r.val / 64) ≤ r.val ∧ r.val < 64 * (r.val / 64) + 64
      omega
    · show 32 * (r.val / 64) ≤ c.val ∧ c.val < 32 * (r.val / 64) + 32
      omega

end Cert.AttnVal
-- ==== Proof.AttnBlock.lean ====
/- The attention stage: what one window's output is, entry by entry. -/
module

public import proofs.«01_k».proof.Proof.AttnScratch

@[expose] public section

set_option maxRecDepth 16384

noncomputable section

namespace Cert.AttnVal

open Idealize.ShloMosaic Idealize.ShloMosaic.TcCoe Idealize.SL.Sem
open Cert.AttnIdeal Cert.AttnIdeal.Gen

/-- The scaled queries of a window, one row per pixel. -/
def query (x : Vec Ideal S1x8x8x384 .f32) : FVec Ideal S64x384 .bf16 := k0_pay16 (k0_pay3 x)

/-- The keys of the four gathered windows, one below the other. -/
def keys (x0 x1 x2 x3 : Vec Ideal S1x8x8x768 .f32) : FVec Ideal S256x384 .bf16 :=
  k0_pay14 (k0_pay5 x0) (k0_pay8 x1) (k0_pay11 x2) x3

/-- The values of the four gathered windows, one below the other. -/
def vals (x0 x1 x2 x3 : Vec Ideal S1x8x8x768 .f32) : FVec Ideal S256x384 .bf16 :=
  k0_pay15 (k0_pay6 x0) (k0_pay9 x1) (k0_pay12 x2) x3

/-- The output of a window from the block-diagonal queries and the gathered windows. -/
def window (S : FVec Ideal S768x384 .bf16) (x0 x1 x2 x3 : Vec Ideal S1x8x8x768 .f32) : FVec Ideal S1x8x8x384 .f32 :=
  k0_pay1 (vals x0 x1 x2 x3) (k0_pay30 (keys x0 x1 x2 x3) S)

/-- The queries: the pixels of the block one after another, times the scale. -/
theorem query_apply (x : Vec Ideal S1x8x8x384 .f32) (r : Fin 64) (c : Fin 384) :
    query x (ix2 r c) = x (ix4 (0 : Fin 1) (⟨r.val / 8, by omega⟩ : Fin 8) (⟨r.val % 8, by omega⟩ : Fin 8) c)
      * Ideal.ofBits FTy.f32 0x3D5105EC#32 := by
  unfold query
  pointwise [k0_pay16, k0_pay3]

/-- The keys: each of the four windows' pixels in turn, the first half of their channels. -/
theorem keys_apply (x0 x1 x2 x3 : Vec Ideal S1x8x8x768 .f32) (t : Fin 4) (s : Fin 64) (c : Fin 384) :
    keys x0 x1 x2 x3 (ix2 (⟨64 * t.val + s.val, by omega⟩ : Fin 256) c) = (![x0, x1, x2, x3] t)
      (ix4 (0 : Fin 1) (⟨s.val / 8, by omega⟩ : Fin 8) (⟨s.val % 8, by omega⟩ : Fin 8) (⟨c.val, by omega⟩ : Fin 768)) := by
  unfold keys
  fin_cases t <;> pointwise [k0_pay14, k0_pay5, k0_pay8, k0_pay11, k0_pay13, k0_pay4, k0_pay7, k0_pay10]
  · have e : 128 + s.val - 64 - 64 = s.val := by omega
    rw [dif_neg (by omega), dif_neg (by omega), dif_pos (by omega)]
    simp only [e]
  · have e : 192 + s.val - 64 - 64 - 64 = s.val := by omega
    rw [dif_neg (by omega), dif_neg (by omega), dif_neg (by omega)]
    simp only [e]

/-- The values: each of the four windows' pixels in turn, the second half of their channels. -/
theorem vals_apply (x0 x1 x2 x3 : Vec Ideal S1x8x8x768 .f32) (t : Fin 4) (s : Fin 64) (c : Fin 384) :
    vals x0 x1 x2 x3 (ix2 (⟨64 * t.val + s.val, by omega⟩ : Fin 256) c) = (![x0, x1, x2, x3] t)
      (ix4 (0 : Fin 1) (⟨s.val / 8, by omega⟩ : Fin 8) (⟨s.val % 8, by omega⟩ : Fin 8) (⟨384 + c.val, by omega⟩ : Fin 768)) := by
  unfold vals
  fin_cases t <;> pointwise [k0_pay15, k0_pay6, k0_pay9, k0_pay12, k0_pay13, k0_pay4, k0_pay7, k0_pay10]
  · have e : 128 + s.val - 64 - 64 = s.val := by omega
    rw [dif_neg (by omega), dif_neg (by omega), dif_pos (by omega)]
    simp only [e]
  · have e : 192 + s.val - 64 - 64 - 64 = s.val := by omega
    rw [dif_neg (by omega), dif_neg (by omega), dif_neg (by omega)]
    simp only [e]

/-- The logits: each row of the queries against each key, over all channels. -/
theorem logits_apply (K : FVec Ideal S256x384 .bf16) (S : FVec Ideal S768x384 .bf16) (r : Fin 768) (k : Fin 256) :
    k0_pay30 K S (ix2 r k) = ∑ c : Fin 384, (S (ix2 r c) * K (ix2 k c) : EReal) := by
  pointwise [k0_pay30]

/-- The softmax of the logits over the gathered keys. -/
def weights (L : FVec Ideal S768x256 .f32) : FVec Ideal S768x256 .bf16 :=
  have top : FVec Ideal S768 .f32 := multiReduction .maximumf [1] S768 L 0xFF800000#32 reduces_S768x256_S768 (.inl rfl) rfl
  have e : FVec Ideal S768x256 .f32 := exp (subf L (broadcastTo S768x256 (shapeCast S768x1 top shapeCasts_S768_S768x1) broadcasts_S768x1_S768x256))
  have total : FVec Ideal S768 .f32 := multiReduction .add [1] S768 e 0x00000000#32 reduces_S768x256_S768 (.inl rfl) rfl
  truncf .bf16 (divf e (broadcastTo S768x256 (shapeCast S768x1 total shapeCasts_S768_S768x1) broadcasts_S768x1_S768x256)) bitsLt_bf16_f32

/-- Each row's weighted mean of the gathered values, over all columns. -/
def mixed (A : FVec Ideal S768x256 .bf16) (V : FVec Ideal S256x384 .bf16) : FVec Ideal S768x384 .f32 :=
  matmul dot_S768x256_S256x384_S768x384_1_0_0_1_n_n none A V (constant S768x384 .f32 0x00000000#32)

/-- The rows and columns of head `h` lie inside the result. -/
theorem head_slices (h : Fin 12) : S768x384.Slices ![64 * h.val, 32 * h.val] S64x32 := by
  refine ⟨rfl, fun a => ?_⟩
  fin_cases a
  · show 64 * h.val + 64 ≤ 768; omega
  · show 32 * h.val + 32 ≤ 384; omega

/-- The rows and columns of head `h`. -/
def head (O : FVec Ideal S768x384 .f32) (h : Fin 12) : FVec Ideal S64x32 .f32 :=
  extractStridedSlice S64x32 ![64 * h.val, 32 * h.val] O (head_slices h)

/-- The heads side by side. -/
def beside (O : FVec Ideal S768x384 .f32) : FVec Ideal S64x384 .f32 :=
  concatenate S64x384 1 (List.ofFn fun h : Fin 12 => (⟨S64x32, head O h⟩ : (s : Shape) × (s.Idx → EReal)))
    concatenates_S64x32_S64x32_S64x32_S64x32_S64x32_S64x32_S64x32_S64x32_S64x32_S64x32_S64x32_S64x32_S64x384_d1

/-- A window's output from the rows and columns of each head. -/
def heads (O : FVec Ideal S768x384 .f32) : FVec Ideal S1x8x8x384 .f32 :=
  shapeCast S1x8x8x384 (shapeCast S8x8x384 (beside O) shapeCasts_S64x384_S8x8x384) shapeCasts_S8x8x384_S1x8x8x384

/-- What the body computes from the values and the logits is made of these parts. -/
theorem pay_eq (V : FVec Ideal S256x384 .bf16) (L : FVec Ideal S768x256 .f32) :
    k0_pay1 V L = heads (mixed (weights L) V) := rfl

/-- The greatest of a row of logits. -/
def top (f : Fin 256 → EReal) : EReal := Finset.fold max (Ideal.ofBits FTy.f32 0xFF800000#32) f Finset.univ

/-- A weight: a logit's power over the sum of its row's, the row's greatest logit taken away first. -/
theorem weights_apply (L : FVec Ideal S768x256 .f32) (r : Fin 768) (k : Fin 256) :
    weights L (ix2 r k) = Ideal.div (Ideal.exp (L (ix2 r k) - top fun x => L (ix2 r x)))
      (∑ y, Ideal.exp (L (ix2 r y) - top fun x => L (ix2 r x))) := by
  unfold top
  pointwise [weights]

/-- A weighted mean is the sum of the values in one column by the weights in one row. -/
theorem mixed_apply (A : FVec Ideal S768x256 .bf16) (V : FVec Ideal S256x384 .bf16) (r : Fin 768) (c : Fin 384) :
    mixed A V (ix2 r c) = ∑ k : Fin 256, (A (ix2 r k) * V (ix2 k c) : EReal) := by
  pointwise [mixed]

/-- The output at a pixel and a head's channel is the mean in that head's own rows and columns. -/
theorem heads_apply (O : FVec Ideal S768x384 .f32) (a b : Fin 8) (h : Fin 12) (e : Fin 32) :
    heads O (ix4 (0 : Fin 1) a b (⟨32 * h.val + e.val, by omega⟩ : Fin 384))
      = O (ix2 (⟨64 * h.val + 8 * a.val + b.val, by omega⟩ : Fin 768) (⟨32 * h.val + e.val, by omega⟩ : Fin 384)) := by
  have e1 : heads O (ix4 (0 : Fin 1) a b (⟨32 * h.val + e.val, by omega⟩ : Fin 384))
      = beside O (ix2 (⟨a.val * 8 + b.val, by omega⟩ : Fin 64) (⟨32 * h.val + e.val, by omega⟩ : Fin 384)) := by
    unfold heads
    generalize beside O = B
    pointwise
  refine e1.trans ((concatenate_ofFn_apply (t := S64x384) (s₁ := S64x32) (1 : Fin 2) (head O) _ rfl 32 rfl _ h ?_
    (ix2 (⟨a.val * 8 + b.val, by omega⟩ : Fin 64) e) ?_ ?_).trans ?_)
  · show (32 * h.val + e.val) / 32 = h.val
    omega
  · show e.val = (32 * h.val + e.val) % 32
    omega
  · intro d hd
    fin_cases d
    · rfl
    · exact absurd rfl hd
  · unfold head
    refine congrArg O (funext fun d => Fin.ext ?_)
    fin_cases d
    · show 64 * h.val + (a.val * 8 + b.val) = 64 * h.val + 8 * a.val + b.val
      omega
    · rfl

/-- A sum over all columns of terms that vanish off the columns of head `h` is the sum over that head's columns. -/
theorem sum_head (h : Fin 12) (f : Fin 384 → EReal) (hf : ∀ c : Fin 384, c.val / 32 ≠ h.val → f c = 0) :
    ∑ c, f c = ∑ e : Fin 32, f (⟨32 * h.val + e.val, by omega⟩ : Fin 384) := by
  have inj : Function.Injective fun e : Fin 32 => (⟨32 * h.val + e.val, by omega⟩ : Fin 384) := fun x y e => by
    have := congrArg Fin.val e
    exact Fin.ext (by dsimp only at this; omega)
  rw [← Finset.sum_image (f := f) (s := Finset.univ) (g := fun e : Fin 32 => (⟨32 * h.val + e.val, by omega⟩ : Fin 384))
    fun x _ y _ e => inj e]
  refine (Finset.sum_subset (Finset.subset_univ _) fun c _ hc => hf c fun e => hc ?_).symm
  exact Finset.mem_image.mpr ⟨⟨c.val % 32, by omega⟩, Finset.mem_univ _, Fin.ext (by dsimp only; omega)⟩

/-- One head's attention of one pixel: the softmax of its query's products with the keys, and the mean of the values
    weighted by it. -/
def attend (q : Fin 32 → EReal) (K : Fin 256 → Fin 32 → EReal) (V : Fin 256 → EReal) : EReal :=
  have L : Fin 256 → EReal := fun k => ∑ c, q c * K k c
  ∑ k, Ideal.div (Ideal.exp (L k - top L)) (∑ y, Ideal.exp (L y - top L)) * V k

/-- A window's output, entry by entry: each head attends over its own columns. -/
theorem window_apply (S : FVec Ideal S768x384 .bf16) (q : FVec Ideal S64x384 .bf16) (hS : Clean S) (hq : Holds S q)
    (x0 x1 x2 x3 : Vec Ideal S1x8x8x768 .f32) (a b : Fin 8) (h : Fin 12) (e : Fin 32) :
    window S x0 x1 x2 x3 (ix4 (0 : Fin 1) a b (⟨32 * h.val + e.val, by omega⟩ : Fin 384))
      = attend (fun c => q (ix2 (⟨8 * a.val + b.val, by omega⟩ : Fin 64) (⟨32 * h.val + c.val, by omega⟩ : Fin 384)))
          (fun k c => keys x0 x1 x2 x3 (ix2 k (⟨32 * h.val + c.val, by omega⟩ : Fin 384)))
          (fun k => vals x0 x1 x2 x3 (ix2 k (⟨32 * h.val + e.val, by omega⟩ : Fin 384))) := by
  have row : ∀ k : Fin 256, k0_pay30 (keys x0 x1 x2 x3) S (ix2 (⟨64 * h.val + 8 * a.val + b.val, by omega⟩ : Fin 768) k)
      = ∑ c : Fin 32, q (ix2 (⟨8 * a.val + b.val, by omega⟩ : Fin 64) (⟨32 * h.val + c.val, by omega⟩ : Fin 384))
          * keys x0 x1 x2 x3 (ix2 k (⟨32 * h.val + c.val, by omega⟩ : Fin 384)) := fun k => by
    rw [logits_apply, sum_head h _ fun c hc => ?_]
    · refine Finset.sum_congr rfl fun c _ => ?_
      rw [hq _ _ (by dsimp only; omega)]
      refine congrArg (fun i : Fin 64 => q (ix2 i _) * keys x0 x1 x2 x3 _) (Fin.ext ?_)
      dsimp only
      omega
    · rw [hS _ _ (by dsimp only; omega), zero_mul]
  unfold window
  rw [pay_eq, heads_apply, mixed_apply]
  unfold attend
  refine Finset.sum_congr rfl fun k _ => ?_
  rw [weights_apply]
  simp only [row]

end Cert.AttnVal
-- ==== Proof.AttnRun.lean ====
/- The attention stage: what the kernel's body reads and stores at a grid point, as one description of all seven windows. -/
module

public import proofs.«01_k».proof.Proof.AttnBlock
public import proofs.«01_k».proof.Proof.AttnWords

@[expose] public section

set_option maxRecDepth 131072

noncomputable section

namespace Cert.AttnVal

open Idealize.ShloMosaic Idealize.ShloMosaic.TcCoe Idealize.SL.Sem
open Cert.AttnIdeal Cert.AttnIdeal.Gen

/-- Where the queries of each of a point's seven windows begin. -/
def qo : Fin 7 → grid0.Coords → Fin 4 → ℕ :=
  ![k0_off1, k0_off10, k0_off19, k0_off28, k0_off37, k0_off46, k0_off55]

/-- Where the four words of each of a point's seven windows lie in the table. -/
def wo : Fin 7 → Fin 4 → grid0.Coords → Fin 1 → ℕ :=
  ![![k0_off2, k0_off4, k0_off6, k0_off8], ![k0_off11, k0_off13, k0_off15, k0_off17], ![k0_off20, k0_off22, k0_off24, k0_off26],
    ![k0_off29, k0_off31, k0_off33, k0_off35], ![k0_off38, k0_off40, k0_off42, k0_off44], ![k0_off47, k0_off49, k0_off51, k0_off53],
    ![k0_off56, k0_off58, k0_off60, k0_off62]]

/-- Point `t` works on row `t mod 7` of windows: window `n` of it begins at row `8 (t mod 7)` and column `8 n`. -/
theorem qo_eq : ∀ (t : Fin grid0.N) (n : Fin 7), qo n (grid0.coords t) = ![0, 8 * (t.val % 7), 8 * n.val, 0] := by
  decide +kernel

/-- The words of window `n` of point `t` are the four of that window, the windows counted row by row and image by image. -/
theorem wo_eq : ∀ (t : Fin grid0.N) (n : Fin 7) (k : Fin 4), wo n k (grid0.coords t)
    = ![(t.val / 7 * 49 + t.val % 7 * 7 + n.val) * 4 + k.val] := by
  decide +kernel

/-- The query window read in a step lies inside the image block. -/
theorem qo_inb (t : Fin grid0.N) (n : Fin 7) (a) : qo n (grid0.coords t) a + S1x8x8x384.size a ≤ S1x56x56x1152.size a := by
  rw [qo_eq]
  have hn := n.isLt
  match a with
  | 0 => exact (by decide : 0 + 1 ≤ 1)
  | 1 => exact (by omega : 8 * (t.val % 7) + 8 ≤ 56)
  | 2 => exact (by omega : 8 * n.val + 8 ≤ 56)
  | 3 => exact (by decide : 0 + 384 ≤ 1152)

/-- The word read in a step lies inside the table. -/
theorem wo_inb (t : Fin grid0.N) (n : Fin 7) (k : Fin 4) (a) : wo n k (grid0.coords t) a + S1.size a ≤ S784.size a := by
  rw [wo_eq]
  have ht : t.val < 28 := t.isLt
  match a with
  | 0 => exact (by omega : (t.val / 7 * 49 + t.val % 7 * 7 + n.val) * 4 + k.val + 1 ≤ 784)

/-- What the body reads for one window: its queries, and the four windows whose keys and values it attends to. -/
structure Win where
  q : Vec Ideal S1x8x8x384 .f32
  x0 : Vec Ideal S1x8x8x768 .f32
  x1 : Vec Ideal S1x8x8x768 .f32
  x2 : Vec Ideal S1x8x8x768 .f32
  x3 : Vec Ideal S1x8x8x768 .f32

section tiles

variable (M : Memref sig .tc .vmem S1x56x56x1152 .f32) (hM : M.IsWhole) (X : Vec Ideal S1x56x56x1152 .f32)
  (T : IVec S784 32) (hT : ∀ i, k0_chk1 (T i)) (t : Fin grid0.N)

/-- Word `k` of window `n`. -/
def word (n : Fin 7) (k : Fin 4) : BitVec 32 :=
  tbM0_0.view.readAt (Elt Ideal) (Rect.unit (s := S784) (wo n k (grid0.coords t)) S1.size (wo_inb t n k)).toLoadRect T
    (Shape.Idx.first (numel1_S1.symm ▸ Nat.one_pos))

/-- The window that word `k` of window `n` names: its keys and values. -/
def gathered (n : Fin 7) (k : Fin 4) : Vec Ideal S1x8x8x768 .f32 :=
  View.readAt (Elt Ideal) M.view (Rect.unit (s := S1x56x56x1152) (k0_off3 (word T t n k)) S1x8x8x768.size (hT _)).toLoadRect (hM.unread X)

/-- What the body reads for window `n`. -/
def tile (n : Fin 7) : Win where
  q := View.readAt (Elt Ideal) M.view (Rect.unit (s := S1x56x56x1152) (qo n (grid0.coords t)) S1x8x8x384.size (qo_inb t n)).toLoadRect (hM.unread X)
  x0 := gathered M hM X T hT t n 0
  x1 := gathered M hM X T hT t n 1
  x2 := gathered M hM X T hT t n 2
  x3 := gathered M hM X T hT t n 3

end tiles

/-- The stores into the block-diagonal matrix during the first `n` windows, the last one first, after the stores `base`. -/
def chain (base : List (View.Piece (Elt Ideal) S768x384 .bf16)) (w : Fin 7 → Win) : (n : ℕ) → n ≤ 7 → List (View.Piece (Elt Ideal) S768x384 .bf16)
  | 0, _ => base
  | n + 1, h => blocks (query (w ⟨n, h⟩).q) 12 le_rfl ++ chain base w n (Nat.le_of_succ_le h)

/-- The window written in a step lies inside the output block. -/
theorem out_inb (n : ℕ) (h : n < 7) : ∀ a, (![0, 0, 8 * n, 0] : Fin 4 → ℕ) a + S1x8x8x384.size a ≤ S1x8x56x384.size a := fun a =>
  match a with
  | 0 => (by decide : 0 + 1 ≤ 1)
  | 1 => (by decide : 0 + 8 ≤ 8)
  | 2 => (by omega : 8 * n + 8 ≤ 56)
  | 3 => (by decide : 0 + 384 ≤ 384)

/-- The block-diagonal matrix as window `n` reads it. -/
def matrix (f : scM0_0.view.ty.Contents (Elt Ideal)) (base : List (View.Piece (Elt Ideal) S768x384 .bf16)) (w : Fin 7 → Win) (n : ℕ) (h : n < 7) :
    FVec Ideal S768x384 .bf16 :=
  View.readAt (Elt Ideal) scM0_0.view (Rect.unit ![0, 0] S768x384.size inb_S768x384_S768x384_0_0).toLoadRect
    (scM0_0.view.writes (Elt Ideal) f (chain base w (n + 1) h))

/-- The store of window `n`'s output. -/
def piece (f : scM0_0.view.ty.Contents (Elt Ideal)) (base : List (View.Piece (Elt Ideal) S768x384 .bf16)) (w : Fin 7 → Win) (n : ℕ) (h : n < 7) :
    View.Piece (Elt Ideal) S1x8x56x384 .f32 :=
  ⟨Rect.unit ![0, 0, 8 * n, 0] S1x8x8x384.size (out_inb n h),
    window (matrix f base w n h) (w ⟨n, h⟩).x0 (w ⟨n, h⟩).x1 (w ⟨n, h⟩).x2 (w ⟨n, h⟩).x3⟩

/-- The stores of the first `n` windows' outputs, the last one first. -/
def pieces (f : scM0_0.view.ty.Contents (Elt Ideal)) (base : List (View.Piece (Elt Ideal) S768x384 .bf16)) (w : Fin 7 → Win) :
    (n : ℕ) → n ≤ 7 → List (View.Piece (Elt Ideal) S1x8x56x384 .f32)
  | 0, _ => []
  | n + 1, h => piece f base w n h :: pieces f base w n (Nat.le_of_succ_le h)

variable (m : (ℓ : Loc nD τ sig) → Buf (Elt Ideal) ℓ) (hO : Ok m) (hH : Hyps m hO) (c : Dev nD)
  (hT : ∀ i : S784.Idx, k0_chk1 (tbl m 0 i)) (t : Fin (cfgM m hO).N)

/-- What the body reads at point `t`. -/
abbrev tiles : Fin 7 → Win := tile (ms0_0 m hO t) (hs0_0 m hO t) (iblk m hO c 0 t) (tbl m 0) hT t

/-- What the point before left in the block-diagonal matrix. -/
abbrev left : Vec Ideal S768x384 .bf16 := (outsAt0 m hO hH c (t.val - 1) (Nat.lt_of_le_of_lt (Nat.sub_le _ _) t.isLt)).2

/-- A point other than the first stores the seven windows' outputs, its matrix starting from what the point before left. -/
theorem out_B (h0 : ¬t.val % 28 = 0) : (outsAt0 m hO hH c t.val t.isLt).1
    = VO0_1.read (Elt Ideal) (VO0_1.writes (Elt Ideal) VO0_1.junk
        (pieces ((Memref.isWhole_whole _ : scM0_0.IsWhole).unread (left m hO hH c t)) [] (tiles m hO c hT t) 7 le_rfl)) := by
  rw [outsAt0_B m hO hH c t h0]
  sl_kernel_rfl

/-- Such a point leaves the matrix as its stores make it. -/
theorem left_B (h0 : ¬t.val % 28 = 0) : (outsAt0 m hO hH c t.val t.isLt).2
    = scM0_0.view.read (Elt Ideal) (scM0_0.view.writes (Elt Ideal) ((Memref.isWhole_whole _ : scM0_0.IsWhole).unread (left m hO hH c t))
        (chain [] (tiles m hO c hT t) 7 le_rfl)) := by
  rw [outsAt0_B m hO hH c t h0]
  sl_kernel_rfl

/-- The first point's store of zeros into the whole matrix. -/
def zeros : View.Piece (Elt Ideal) S768x384 .bf16 :=
  ⟨Rect.unit ![0, 0] S768x384.size inb_S768x384_S768x384_0_0, (k0_pay2 (F := Ideal) :)⟩

/-- The first point stores the seven windows' outputs, its matrix starting from zeros. -/
theorem out_A (h0 : t.val % 28 = 0) : (outsAt0 m hO hH c t.val t.isLt).1
    = VO0_1.read (Elt Ideal) (VO0_1.writes (Elt Ideal) VO0_1.junk
        (pieces scM0_0.view.junk [zeros] (tiles m hO c hT t) 7 le_rfl)) := by
  rw [outsAt0_A m hO hH c t h0]
  sl_kernel_rfl

/-- The first point leaves the matrix as its stores make it. -/
theorem left_A (h0 : t.val % 28 = 0) : (outsAt0 m hO hH c t.val t.isLt).2
    = scM0_0.view.read (Elt Ideal) (scM0_0.view.writes (Elt Ideal) scM0_0.view.junk
        (chain [zeros] (tiles m hO c hT t) 7 le_rfl)) := by
  rw [outsAt0_A m hO hH c t h0]
  sl_kernel_rfl

end Cert.AttnVal
-- ==== Proof.AttnValue.lean ====
/- The attention stage: the array the kernel's blocks fill. -/
module

public import proofs.«01_k».proof.Proof.AttnRun
public import Idealize.ShloMosaic.Lib.Pipeline.ValueKit

@[expose] public section

set_option maxRecDepth 16384

noncomputable section

namespace Cert.AttnVal

open Idealize.ShloMosaic Idealize.ShloMosaic.TcCoe Idealize.SL.Sem
open Idealize.ShloMosaic.Pipeline (Dat)
open Cert.AttnIdeal Cert.AttnIdeal.Gen

/-! ## The matrix of queries -/

/-- After any number of windows the matrix is zero off its diagonal blocks, if it was so before. -/
theorem clean_chain (f : scM0_0.view.ty.Contents (Elt Ideal)) (base : List (View.Piece (Elt Ideal) S768x384 .bf16)) (w : Fin 7 → Win)
    (hf : Clean (scM0_0.view.read (Elt Ideal) (scM0_0.view.writes (Elt Ideal) f base))) :
    ∀ (n : ℕ) (h : n ≤ 7), Clean (scM0_0.view.read (Elt Ideal) (scM0_0.view.writes (Elt Ideal) f (chain base w n h)))
  | 0, _ => hf
  | n + 1, h => by
    rw [chain, View.writes_append]
    exact clean_writes _ _ _ (clean_chain f base w hf n _)

/-- A window reads the whole matrix. -/
theorem matrix_eq (f : scM0_0.view.ty.Contents (Elt Ideal)) (base : List (View.Piece (Elt Ideal) S768x384 .bf16)) (w : Fin 7 → Win)
    (n : ℕ) (h : n < 7) :
    matrix f base w n h = scM0_0.view.read (Elt Ideal) (scM0_0.view.writes (Elt Ideal) f (chain base w (n + 1) h)) := by
  funext y
  refine congrArg (scM0_0.view.read (Elt Ideal) (scM0_0.view.writes (Elt Ideal) f (chain base w (n + 1) h))) (funext fun a => Fin.ext ?_)
  match a with
  | 0 => exact (by omega : 0 + 1 * (y 0).val = (y 0).val)
  | 1 => exact (by omega : 0 + 1 * (y 1).val = (y 1).val)

/-- Off its diagonal blocks the matrix a window reads is zero. -/
theorem matrix_clean (f : scM0_0.view.ty.Contents (Elt Ideal)) (base : List (View.Piece (Elt Ideal) S768x384 .bf16)) (w : Fin 7 → Win)
    (hf : Clean (scM0_0.view.read (Elt Ideal) (scM0_0.view.writes (Elt Ideal) f base))) (n : ℕ) (h : n < 7) :
    Clean (matrix f base w n h) := by
  rw [matrix_eq]
  exact clean_chain f base w hf _ _

/-- On its diagonal blocks it is the window's own queries. -/
theorem matrix_holds (f : scM0_0.view.ty.Contents (Elt Ideal)) (base : List (View.Piece (Elt Ideal) S768x384 .bf16)) (w : Fin 7 → Win)
    (n : ℕ) (h : n < 7) : Holds (matrix f base w n h) (query (w ⟨n, h⟩).q) := by
  rw [matrix_eq, chain, View.writes_append]
  exact holds_writes _ _ _

/-! ## What a window reads -/

section tiles

variable (M : Memref sig .tc .vmem S1x56x56x1152 .f32) (hM : M.IsWhole) (X : Vec Ideal S1x56x56x1152 .f32)
  (T : IVec S784 32) (hT : ∀ i, k0_chk1 (T i)) (hv : ∀ i, (T i).toNat < 49) (t : Fin grid0.N)

/-- The place of word `k` of window `n` of point `t` in the table. -/
def place (n : Fin 7) (k : Fin 4) : Fin 784 :=
  ⟨(t.val / 7 * 49 + t.val % 7 * 7 + n.val) * 4 + k.val, by have ht : t.val < 28 := t.isLt; omega⟩

/-- A step's word is the table's entry at its place. -/
theorem word_eq (n : Fin 7) (k : Fin 4) : word T t n k = T (ix1 (place t n k)) := by
  refine congrArg T (funext fun a => Fin.ext ?_)
  match a with
  | 0 =>
    show wo n k (grid0.coords t) 0 + 1 * 0 = _
    rw [wo_eq]
    rfl

include hv in
/-- A gathered window, entry by entry, its word being `v`. -/
theorem gathered_apply (n : Fin 7) (k : Fin 4) (a b : Fin 8) (c : Fin 768) (v : ℕ) (e' : (T (ix1 (place t n k))).toNat = v) :
    gathered M hM X T hT t n k (ix4 (0 : Fin 1) a b c)
      = X (ix4 (0 : Fin 1) (⟨(8 * (v / 7) + a.val) % 56, by omega⟩ : Fin 56)
          (⟨(8 * (v % 7) + b.val) % 56, by omega⟩ : Fin 56) (⟨384 + c.val, by omega⟩ : Fin 1152)) := by
  have e : (word T t n k).toNat = v := (congrArg BitVec.toNat (word_eq T t n k)).trans e'
  have l : v < 49 := e' ▸ hv (ix1 (place t n k))
  have o := begins (word T t n k) (by rw [e]; exact l)
  rw [e] at o
  unfold gathered
  rw [View.readAt_apply, hM.read_unread]
  refine congrArg X (funext fun x => Fin.ext ?_)
  match x with
  | 0 =>
    show k0_off3 (word T t n k) 0 + 1 * 0 = 0
    rw [o]; rfl
  | 1 =>
    show k0_off3 (word T t n k) 1 + 1 * a.val = (8 * (v / 7) + a.val) % 56
    rw [o]
    show 8 * (v / 7) + 1 * a.val = _
    omega
  | 2 =>
    show k0_off3 (word T t n k) 2 + 1 * b.val = (8 * (v % 7) + b.val) % 56
    rw [o]
    show 8 * (v % 7) + 1 * b.val = _
    omega
  | 3 =>
    show k0_off3 (word T t n k) 3 + 1 * c.val = 384 + c.val
    rw [o]
    show 384 + 1 * c.val = _
    omega

/-- A window's queries, entry by entry. -/
theorem tile_q (n : Fin 7) (a b : Fin 8) (c : Fin 384) :
    (tile M hM X T hT t n).q (ix4 (0 : Fin 1) a b c)
      = X (ix4 (0 : Fin 1) (⟨8 * (t.val % 7) + a.val, by omega⟩ : Fin 56) (⟨8 * n.val + b.val, by omega⟩ : Fin 56) (⟨c.val, by omega⟩ : Fin 1152)) := by
  unfold tile
  dsimp only
  rw [View.readAt_apply, hM.read_unread]
  refine congrArg X (funext fun x => Fin.ext ?_)
  have o := qo_eq t n
  match x with
  | 0 =>
    show qo n (grid0.coords t) 0 + 1 * 0 = 0
    rw [o]; rfl
  | 1 =>
    show qo n (grid0.coords t) 1 + 1 * a.val = 8 * (t.val % 7) + a.val
    rw [o, Nat.one_mul]; rfl
  | 2 =>
    show qo n (grid0.coords t) 2 + 1 * b.val = 8 * n.val + b.val
    rw [o, Nat.one_mul]; rfl
  | 3 =>
    show qo n (grid0.coords t) 3 + 1 * c.val = c.val
    rw [o, Nat.one_mul]
    exact Nat.zero_add _

/-- The four gathered windows as one family. -/
theorem tile_x (n : Fin 7) (k : Fin 4) :
    (![(tile M hM X T hT t n).x0, (tile M hM X T hT t n).x1, (tile M hM X T hT t n).x2, (tile M hM X T hT t n).x3] k)
      = gathered M hM X T hT t n k := by
  fin_cases k <;> rfl

end tiles

/-! ## The result -/

/-- Attention at row `P` and column `Q` of image `n`, head `h`, channel `e` of the head: the pixel's window names four windows,
    and the pixel attends to their 256 pixels. -/
def attention (A : FVec Ideal S4x56x56x1152 .f32) (R : IVec S4x49x4 32) (n : Fin 4) (P Q : Fin 56) (h : Fin 12) (e : Fin 32) : EReal :=
  have v : Fin 256 → ℕ := fun k => (R (ix3 n (⟨P.val / 8 * 7 + Q.val / 8, by omega⟩ : Fin 49) (⟨k.val / 64, by omega⟩ : Fin 4))).toNat
  have row : Fin 256 → Fin 56 := fun k => ⟨(8 * (v k / 7) + k.val % 64 / 8) % 56, by omega⟩
  have col : Fin 256 → Fin 56 := fun k => ⟨(8 * (v k % 7) + k.val % 64 % 8) % 56, by omega⟩
  attend (fun c => A (ix4 n P Q (⟨32 * h.val + c.val, by omega⟩ : Fin 1152)) * Ideal.ofBits FTy.f32 0x3D5105EC#32)
    (fun k c => A (ix4 n (row k) (col k) (⟨384 + (32 * h.val + c.val), by omega⟩ : Fin 1152)))
    (fun k => A (ix4 n (row k) (col k) (⟨384 + (384 + (32 * h.val + e.val)), by omega⟩ : Fin 1152)))

variable (m : (ℓ : Loc nD τ sig) → Buf (Elt Ideal) ℓ)

/-- The array of the stage's results. -/
def out (c : Dev nD) : FVec Ideal S4x56x56x384 .f32 := fun i =>
  attention (m ((c : Thread nD τ).loc main_arg1)) (m ((c : Thread nD τ).loc main_arg0)) (i 0) (i 1) (i 2)
    (⟨(i 3).val / 32, by have h : (i 3).val < 384 := (i 3).isLt; omega⟩ : Fin 12) (⟨(i 3).val % 32, by omega⟩ : Fin 32)

/-- The table, word by word. -/
theorem table_apply (n : Fin 4) (w : Fin 49) (k : Fin 4) :
    tbl m 0 (ix1 (⟨(n.val * 49 + w.val) * 4 + k.val, by omega⟩ : Fin 784)) = m (((0 : Dev nD) : Thread nD τ).loc main_arg0) (ix3 n w k) := by
  rw [table]
  pointwise

section point

variable (hO : Ok m) (hH : Hyps m hO) (c : Dev nD)

/-- Where each window's block lies: point `t` works on image `t / 7`, given whole, and stores row `t mod 7` of its windows. -/
theorem idx : ∀ t : Fin grid0.N, cc0_transform_0 (grid0.coords t) = ![t.val / 7, 0, 0, 0]
    ∧ cc0_transform_1 (grid0.coords t) = ![t.val / 7, t.val % 7, 0, 0] := by
  decide +kernel

/-- The image block of a step: the batch of that step. -/
theorem idx0 (t : Fin (cfgM m hO).N) : ((cfgM m hO).win 0).index t = ![t.val / 7, 0, 0, 0] := (idx t).1

/-- The output block of a step: the batch and the row of windows of that step. -/
theorem idx1 (t : Fin (cfgM m hO).N) : ((cfgM m hO).win 1).index t = ![t.val / 7, t.val % 7, 0, 0] := (idx t).2

/-- The image of point `t`. -/
abbrev img (t : Fin grid0.N) : Fin 4 := ⟨t.val / 7, by have ht : t.val < 28 := t.isLt; omega⟩

/-- The block index `(0, a, Q, j)` of a point's output sits at its image and its row of windows. -/
theorem emb1 (t : Fin (cfgM m hO).N) (a : Fin 8) (Q : Fin 56) (j : Fin 384) :
    (((cfgM m hO).win 1).blk t).view.emb (ix4 (0 : Fin 1) a Q j)
      = (ix4 (img t) (⟨8 * (t.val % 7) + a.val, by omega⟩ : Fin 56) Q j : S4x56x56x384.Idx) := by
  blk_ext [idx1 m hO t]

/-- The image's block. -/
theorem read0 (t : Fin (cfgM m hO).N) (P Q : Fin 56) (k : Fin 1152) :
    (iblk m hO c 0 t (ix4 (0 : Fin 1) P Q k) : EReal) = m ((c : Thread nD τ).loc main_arg1) (ix4 (img t) P Q k) := by
  rw [← V_main_arg1 m c]
  blk_point [iblk, idx0 m hO t]

end point

end Cert.AttnVal
-- ==== Proof.AttnFinal.lean ====
/- The attention stage: every grid point stores the result at its places, and together the points fill the array. -/
module

public import proofs.«01_k».proof.Proof.AttnValue

@[expose] public section

set_option maxRecDepth 16384

noncomputable section

namespace Cert.AttnVal

open Idealize.ShloMosaic Idealize.ShloMosaic.TcCoe Idealize.SL.Sem
open Idealize.ShloMosaic.Pipeline (Dat)
open Cert.AttnIdeal Cert.AttnIdeal.Gen

variable (m : (ℓ : Loc nD τ sig) → Buf (Elt Ideal) ℓ)
  (hR : ∀ i, (m (((0 : Dev nD) : Thread nD τ).loc main_arg0) i : BitVec 32).toNat < 49)
  (hO : Ok m) (hH : Hyps m hO) (c : Dev nD)

include hR in
/-- Every word of the table is below 49. -/
theorem table_lt (i : S784.Idx) : (tbl m 0 i : BitVec 32).toNat < 49 := by
  rw [table]
  exact hR _

include hR in
/-- So every word names a window inside the array. -/
theorem table_inside (i : S784.Idx) : k0_chk1 (tbl m 0 i) := inside _ (table_lt m hR i)

/-- The first point's zeros are off the diagonal blocks too. -/
theorem clean_zeros : Clean (scM0_0.view.read (Elt Ideal) (scM0_0.view.writes (Elt Ideal) scM0_0.view.junk [zeros])) := by
  intro r j _
  refine View.read_writes_apply_of_pieces scM0_0.view _ (fun _ => (0 : EReal)) _ (fun p hp x => ?_) (ix2 r j)
    ⟨zeros, List.mem_singleton.mpr rfl, ?_⟩
  · obtain rfl := List.mem_singleton.mp hp
    show (k0_pay2 (F := Ideal) x : EReal) = 0
    rw [eq_ix2 x]
    pointwise [k0_pay2]
  · rw [zeros, Rect.mem_set_unit]
    intro a
    match a with
    | 0 => exact (by omega : 0 ≤ r.val ∧ r.val < 0 + 768)
    | 1 => exact (by omega : 0 ≤ j.val ∧ j.val < 0 + 384)

include hR in
/-- After every point the matrix is zero off its diagonal blocks. -/
theorem clean_left : ∀ (n : ℕ) (h : n < (cfgM m hO).N), Clean (outsAt0 m hO hH c n h).2
  | 0, h => by
    rw [left_A m hO hH c (table_inside m hR) ⟨0, h⟩ rfl]
    exact clean_chain _ _ _ clean_zeros _ _
  | n + 1, h => by
    have hN : n + 1 < 28 := h
    have h0 : ¬(n + 1) % 28 = 0 := by omega
    rw [left_B m hO hH c (table_inside m hR) ⟨n + 1, h⟩ h0]
    refine clean_chain _ _ _ ?_ _ _
    show Clean (scM0_0.view.read (Elt Ideal) ((Memref.isWhole_whole _ : scM0_0.IsWhole).unread _))
    rw [Memref.IsWhole.read_unread]
    exact clean_left n _

/-- A window's output, entry by entry, is the attention at its pixel. -/
theorem piece_apply (t : Fin (cfgM m hO).N) (f : scM0_0.view.ty.Contents (Elt Ideal))
    (base : List (View.Piece (Elt Ideal) S768x384 .bf16))
    (hf : Clean (scM0_0.view.read (Elt Ideal) (scM0_0.view.writes (Elt Ideal) f base)))
    (n : Fin 7) (a b : Fin 8) (h : Fin 12) (e : Fin 32) :
    window (matrix f base (tiles m hO c (table_inside m hR) t) n.val n.isLt) (tiles m hO c (table_inside m hR) t n).x0
        (tiles m hO c (table_inside m hR) t n).x1 (tiles m hO c (table_inside m hR) t n).x2 (tiles m hO c (table_inside m hR) t n).x3
        (ix4 (0 : Fin 1) a b (⟨32 * h.val + e.val, by omega⟩ : Fin 384))
      = attention (m ((c : Thread nD τ).loc main_arg1)) (m ((c : Thread nD τ).loc main_arg0)) (img t)
          (⟨8 * (t.val % 7) + a.val, by omega⟩ : Fin 56) (⟨8 * n.val + b.val, by omega⟩ : Fin 56) h e := by
  obtain rfl : c = 0 := Subsingleton.elim _ _
  have ht : t.val < 28 := t.isLt
  have hw : ∀ k : Fin 4, tbl m 0 (ix1 (place t n k)) = m (((0 : Dev nD) : Thread nD τ).loc main_arg0)
      (ix3 (img t) (⟨(8 * (t.val % 7) + a.val) / 8 * 7 + (8 * n.val + b.val) / 8, by omega⟩ : Fin 49) k) := fun k => by
    refine Eq.trans ?_ (table_apply m _ _ k)
    refine congrArg (fun i : Fin 784 => tbl m 0 (ix1 i)) (Fin.ext ?_)
    show (t.val / 7 * 49 + t.val % 7 * 7 + n.val) * 4 + k.val
      = (t.val / 7 * 49 + ((8 * (t.val % 7) + a.val) / 8 * 7 + (8 * n.val + b.val) / 8)) * 4 + k.val
    omega
  have key : ∀ (k : Fin 256), k = (⟨64 * (⟨k.val / 64, by omega⟩ : Fin 4).val + (⟨k.val % 64, by omega⟩ : Fin 64).val, by dsimp only; omega⟩ : Fin 256) :=
    fun k => Fin.ext (by dsimp only; omega)
  have g : ∀ (k : Fin 4) (s : Fin 64) (j : Fin 768), (![(tiles m hO 0 (table_inside m hR) t n).x0, (tiles m hO 0 (table_inside m hR) t n).x1,
      (tiles m hO 0 (table_inside m hR) t n).x2, (tiles m hO 0 (table_inside m hR) t n).x3] k)
        (ix4 (0 : Fin 1) (⟨s.val / 8, by omega⟩ : Fin 8) (⟨s.val % 8, by omega⟩ : Fin 8) j) = _ := fun k s j =>
    (congrFun (tile_x (ms0_0 m hO t) (hs0_0 m hO t) (iblk m hO 0 0 t) (tbl m 0) (table_inside m hR) t n k) _).trans
      ((gathered_apply (ms0_0 m hO t) (hs0_0 m hO t) (iblk m hO 0 0 t) (tbl m 0) (table_inside m hR) (table_lt m hR) t n k _ _ j _
        (congrArg BitVec.toNat (hw k))).trans (read0 m hO 0 t _ _ _))
  rw [window_apply _ _ (matrix_clean f base _ hf n.val n.isLt) (matrix_holds f base _ n.val n.isLt)]
  unfold attention
  congr 1
  · funext d
    rw [query_apply]
    refine congrArg (fun z : EReal => z * Ideal.ofBits FTy.f32 0x3D5105EC#32) ?_
    refine Eq.trans ?_ (read0 m hO 0 t _ _ _)
    refine Eq.trans ?_ (tile_q (ms0_0 m hO t) (hs0_0 m hO t) (iblk m hO 0 0 t) (tbl m 0) (table_inside m hR) t n a b
      (⟨32 * h.val + d.val, by omega⟩ : Fin 384))
    refine congrArg (tiles m hO 0 (table_inside m hR) t n).q ?_
    congr 1 <;> exact Fin.ext (by dsimp only; omega)
  · funext k d
    conv => lhs; rw [key k]
    rw [keys_apply]
    exact g _ _ _
  · funext k
    conv => lhs; rw [key k]
    rw [vals_apply]
    exact g _ _ _

/-- Every listed store of a point is some window's. -/
theorem of_mem_pieces (f : scM0_0.view.ty.Contents (Elt Ideal)) (base : List (View.Piece (Elt Ideal) S768x384 .bf16)) (w : Fin 7 → Win) :
    ∀ (n : ℕ) (hn : n ≤ 7) (p), p ∈ pieces f base w n hn → ∃ (k : ℕ) (hk : k < 7), p = piece f base w k hk
  | 0, _, p, hp => absurd hp List.not_mem_nil
  | n + 1, hn, p, hp => by
    rcases List.mem_cons.mp hp with rfl | hp
    · exact ⟨n, hn, rfl⟩
    · exact of_mem_pieces f base w n _ p hp

/-- Every window below `n` has its store listed. -/
theorem mem_pieces (f : scM0_0.view.ty.Contents (Elt Ideal)) (base : List (View.Piece (Elt Ideal) S768x384 .bf16)) (w : Fin 7 → Win)
    (k : ℕ) (hk : k < 7) : ∀ (n : ℕ) (hn : n ≤ 7), k < n → piece f base w k hk ∈ pieces f base w n hn
  | 0, _, hlt => absurd hlt (Nat.not_lt_zero k)
  | n + 1, hn, hlt => by
    by_cases e : k = n
    · subst e; exact List.mem_cons_self
    · exact List.mem_cons_of_mem _ (mem_pieces f base w k hk n _ (by omega))

/-- What a point's stores leave at a block index is the result at the array index it sits at. -/
theorem stores_apply (t : Fin (cfgM m hO).N) (f : scM0_0.view.ty.Contents (Elt Ideal))
    (base : List (View.Piece (Elt Ideal) S768x384 .bf16))
    (hf : Clean (scM0_0.view.read (Elt Ideal) (scM0_0.view.writes (Elt Ideal) f base))) (y : S1x8x56x384.Idx) :
    VO0_1.read (Elt Ideal) (VO0_1.writes (Elt Ideal) VO0_1.junk (pieces f base (tiles m hO c (table_inside m hR) t) 7 le_rfl)) y
      = out m c (ix4 (img t) (⟨8 * (t.val % 7) + (y 1).val, by have h : (y 1).val < 8 := (y 1).isLt; omega⟩ : Fin 56) (y 2) (y 3)) := by
  refine View.read_writes_apply_of_pieces VO0_1 VO0_1.junk (fun y : S1x8x56x384.Idx =>
    out m c (ix4 (img t) (⟨8 * (t.val % 7) + (y 1).val, by have h : (y 1).val < 8 := (y 1).isLt; omega⟩ : Fin 56) (y 2) (y 3)))
    _ (fun p hp x => ?_) y
    ⟨piece f base (tiles m hO c (table_inside m hR) t) ((y 2).val / 8) (by have h : (y 2).val < 56 := (y 2).isLt; omega),
      mem_pieces _ _ _ _ _ 7 le_rfl (by have h : (y 2).val < 56 := (y 2).isLt; omega), ?_⟩
  · obtain ⟨n, hn, rfl⟩ := of_mem_pieces _ _ _ 7 le_rfl p hp
    have x3 : (x 3).val < 384 := (x 3).isLt
    have ex : x = ix4 (0 : Fin 1) (x 1) (x 2) (⟨32 * (⟨(x 3).val / 32, by omega⟩ : Fin 12).val + (⟨(x 3).val % 32, by omega⟩ : Fin 32).val, by dsimp only; omega⟩ : Fin 384) := by
      refine (eq_ix4 x).trans ?_
      congr 1
      · exact Fin.ext (Nat.lt_one_iff.1 (x 0).isLt)
      · exact Fin.ext (by dsimp only; omega)
    have v := piece_apply m hR hO c t f base hf ⟨n, hn⟩ (x 1) (x 2) ⟨(x 3).val / 32, by omega⟩ ⟨(x 3).val % 32, by omega⟩
    refine Eq.trans (congrArg (piece f base (tiles m hO c (table_inside m hR) t) n hn).2 ex) (v.trans ?_)
    show _ = attention _ _ _ _ _ _ _
    congr 1
    · exact Fin.ext (by show 8 * (t.val % 7) + (x 1).val = 8 * (t.val % 7) + (0 + 1 * (x 1).val); omega)
    · exact Fin.ext (by show 8 * n + (x 2).val = 8 * n + 1 * (x 2).val; omega)
    · exact Fin.ext (by show (x 3).val / 32 = (0 + 1 * (x 3).val) / 32; omega)
    · exact Fin.ext (by show (x 3).val % 32 = (0 + 1 * (x 3).val) % 32; omega)
  · have y0 : (y 0).val < 1 := (y 0).isLt
    have y1 : (y 1).val < 8 := (y 1).isLt
    have y3 : (y 3).val < 384 := (y 3).isLt
    rw [piece, Rect.mem_set_unit]
    intro a
    match a with
    | 0 => exact (by omega : 0 ≤ (y 0).val ∧ (y 0).val < 0 + 1)
    | 1 => exact (by omega : 0 ≤ (y 1).val ∧ (y 1).val < 0 + 8)
    | 2 => exact (by omega : 8 * ((y 2).val / 8) ≤ (y 2).val ∧ (y 2).val < 8 * ((y 2).val / 8) + 8)
    | 3 => exact (by omega : 0 ≤ (y 3).val ∧ (y 3).val < 0 + 384)

include hR in
/-- What a point leaves in its block is the result at the array index the block index sits at. -/
theorem point (t : Fin (cfgM m hO).N) (y : S1x8x56x384.Idx) :
    (outsAt0 m hO hH c t.val t.isLt).1 y = out m c ((((cfgM m hO).win 1).blk t).view.emb y) := by
  have e : (((cfgM m hO).win 1).blk t).view.emb y
      = (ix4 (img t) (⟨8 * (t.val % 7) + (y 1).val, by have h : (y 1).val < 8 := (y 1).isLt; omega⟩ : Fin 56) (y 2) (y 3) : S4x56x56x384.Idx) := by
    refine Eq.trans (congrArg _ ?_) (emb1 m hO t (y 1) (y 2) (y 3))
    refine (eq_ix4 y).trans ?_
    congr 1
    exact Fin.ext (Nat.lt_one_iff.1 (y 0).isLt)
  refine Eq.trans ?_ (congrArg (out m c) e).symm
  by_cases h0 : t.val % 28 = 0
  · rw [out_A m hO hH c (table_inside m hR) t h0]
    exact stores_apply m hR hO c t _ _ clean_zeros y
  · rw [out_B m hO hH c (table_inside m hR) t h0]
    refine stores_apply m hR hO c t _ _ ?_ y
    show Clean (scM0_0.view.read (Elt Ideal) ((Memref.isWhole_whole _ : scM0_0.IsWhole).unread _))
    rw [Memref.IsWhole.read_unread]
    exact clean_left m hR hO hH c _ _

/-- A table of zeros: where the blocks lie does not depend on the table. -/
def noTable : pre0.Contents (Elt Ideal) := fun j => match j with
  | ⟨0, _⟩ => fun _ => (0#32 : BitVec 32)

/-- The blocks cover the array. -/
theorem covers : ((cfgM m hO).win 1).Covers := by
  have h : ((cfg0 (F := Ideal) ⟨noTable, trivial⟩).win 1).Covers := by decide +kernel
  exact h

include hR in
/-- The kernel's output array after the run. -/
theorem final : (dats m hO hH 0 c).arrAt 1 (cfgM m hO).N = out m c := by
  refine (dats m hO hH 0 c).arrAt_eq_of_covers 1 _ (covers m hO) fun t _ y => ?_
  blk_simp
  rw [after0_1]
  exact point m hR hO hH c t y

end Cert.AttnVal
-- ==== Proof.AttnRef.lean ====
/- The second stage: what the reference's result holds, entry by entry. -/
module

public import proofs.«01_k».proof.Proof.Gen.RefAttnIdeal.Run
public import proofs.«01_k».proof.Proof.AttnValue
public import proofs.«01_k».proof.Proof.Conv

@[expose] public section

set_option maxRecDepth 16384

noncomputable section

namespace Cert.AttnRef

open Idealize.ShloMosaic Idealize.ShloMosaic.TcCoe Idealize.SL.Sem
open Cert.RefAttnIdeal Cert.RefAttnIdeal.Gen Cert.RefAttnIdeal.Value

/-- The image, window by window: batch, window, pixel of the window, channel. -/
def windows (A : FVec Ideal S4x56x56x1152 .f32) : FVec Ideal S4x49x64x1152 .f32 :=
  shapeCast _ (transpose S4x7x7x8x8x1152 [0, 1, 3, 2, 4, 5] (shapeCast _ A shapeCasts_S4x56x56x1152_S4x7x8x7x8x1152) transposes_S4x7x8x7x8x1152_S4x7x7x8x8x1152_0_1_3_2_4_5) shapeCasts_S4x7x7x8x8x1152_S4x49x64x1152

/-- The channels of the keys and of the values. -/
def pairs (A : FVec Ideal S4x56x56x1152 .f32) : FVec Ideal S4x49x64x768 .f32 :=
  extractStridedSlice S4x49x64x768 ![0, 0, 0, 384] (windows A) slices_S4x49x64x1152_S4x49x64x768_0_0_0_384

/-- The words, a negative one counted from the end, with an axis of one entry. -/
def chosen (R : IVec S4x49x4 32) : IVec S4x49x4x1 32 :=
  broadcastInDim S4x49x4x1 ![0, 1, 2] bcast_S4x49x4_S4x49x4x1_0_1_2 (select (cmpi .slt R (broadcastInDim S4x49x4 ![] bcast_S_S4x49x4 (constantI S_ 32 0#32))) (addi R (broadcastInDim S4x49x4 ![] bcast_S_S4x49x4 (constantI S_ 32 49#32))) R)

/-- The windows that the words name. -/
def picked (A : FVec Ideal S4x56x56x1152 .f32) (R : IVec S4x49x4 32) : FVec Ideal S4x49x4x64x768 .f32 :=
  Host.gather gather_S4x49x64x768_S4x49x4x1_S4x49x4x64x768_34_1_0_0_1_3_1164768 (pairs A) (chosen R)

/-- The keys: window, head, channel, key. -/
def ks (A : FVec Ideal S4x56x56x1152 .f32) (R : IVec S4x49x4 32) : FVec Ideal S196x12x32x256 .f32 :=
  shapeCast _ (transpose S196x12x32x4x64 [0, 3, 4, 1, 2] (shapeCast _ (extractStridedSlice S4x49x4x64x384 ![0, 0, 0, 0, 0] (picked A R) slices_S4x49x4x64x768_S4x49x4x64x384_0_0_0_0_0) shapeCasts_S4x49x4x64x384_S196x4x64x12x32) transposes_S196x4x64x12x32_S196x12x32x4x64_0_3_4_1_2) shapeCasts_S196x12x32x4x64_S196x12x32x256

/-- The values: window, head, key, channel. -/
def vs (A : FVec Ideal S4x56x56x1152 .f32) (R : IVec S4x49x4 32) : FVec Ideal S196x12x256x32 .f32 :=
  shapeCast _ (transpose S196x12x4x64x32 [0, 3, 1, 2, 4] (shapeCast _ (extractStridedSlice S4x49x4x64x384 ![0, 0, 0, 0, 384] (picked A R) slices_S4x49x4x64x768_S4x49x4x64x384_0_0_0_0_384) shapeCasts_S4x49x4x64x384_S196x4x64x12x32) transposes_S196x4x64x12x32_S196x12x4x64x32_0_3_1_2_4) shapeCasts_S196x12x4x64x32_S196x12x256x32

/-- The queries before their scale: window, head, pixel, channel. -/
def heads (A : FVec Ideal S4x56x56x1152 .f32) : FVec Ideal S196x12x64x32 .f32 :=
  transpose S196x12x64x32 [0, 2, 1, 3] (shapeCast _ (extractStridedSlice S4x49x64x384 ![0, 0, 0, 0] (windows A) slices_S4x49x64x1152_S4x49x64x384_0_0_0_0) shapeCasts_S4x49x64x384_S196x64x12x32) transposes_S196x64x12x32_S196x12x64x32_0_2_1_3

/-- The queries. -/
def qs (A : FVec Ideal S4x56x56x1152 .f32) : FVec Ideal S196x12x64x32 .f32 :=
  mulf (heads A) (broadcastInDim S196x12x64x32 ![] bcast_S_S196x12x64x32 (constant S_ .f32 0x3D5105EC#32))

/-- The logits. -/
def logits (A : FVec Ideal S4x56x56x1152 .f32) (R : IVec S4x49x4 32) : FVec Ideal S196x12x64x256 .f32 :=
  Host.dotGeneral dot_S196x12x64x32_S196x12x32x256_S196x12x64x256_3_2_2_3_01_01 none (qs A) (ks A R)

/-- The largest entry of each row. -/
def peaks (L : FVec Ideal S196x12x64x256 .f32) : FVec Ideal S196x12x64 .f32 :=
  Host.reduce FloatOps.maximumf L (constant S_ .f32 0xFF800000#32) reducesTo_S196x12x64x256_S196x12x64_d3 h_S_

/-- The larger of −∞ and each entry. -/
def floors (x : FVec Ideal S196x12x64 .f32) : FVec Ideal S196x12x64 .f32 :=
  maximumf (broadcastInDim S196x12x64 ![] bcast_S_S196x12x64 (constant S_ .f32 0xFF800000#32)) x

/-- A value for each row, laid along the row. -/
def spread (x : FVec Ideal S196x12x64 .f32) : FVec Ideal S196x12x64x256 .f32 :=
  broadcastInDim S196x12x64x256 ![0, 1, 2, 3] bcast_S196x12x64x1_S196x12x64x256_0_1_2_3 (broadcastInDim S196x12x64x1 ![0, 1, 2] bcast_S196x12x64_S196x12x64x1_0_1_2 x)

/-- Their powers, the largest logit of the row taken away first. -/
def powers (L : FVec Ideal S196x12x64x256 .f32) : FVec Ideal S196x12x64x256 .f32 :=
  Host.exp (subf L (spread (floors (peaks L))))

/-- The sum of each row of powers. -/
def sums (L : FVec Ideal S196x12x64x256 .f32) : FVec Ideal S196x12x64 .f32 :=
  Host.reduceAdd (powers L) (constant S_ .f32 0x00000000#32) reducesTo_S196x12x64x256_S196x12x64_d3 h_S_

/-- The weights: each power over the sum of its row. -/
def weights (L : FVec Ideal S196x12x64x256 .f32) : FVec Ideal S196x12x64x256 .f32 :=
  Host.divf (powers L) (spread (sums L))

/-- The weighted sums of the values. -/
def mixed (A : FVec Ideal S4x56x56x1152 .f32) (R : IVec S4x49x4 32) : FVec Ideal S196x12x64x32 .f32 :=
  Host.dotGeneral dot_S196x12x64x256_S196x12x256x32_S196x12x64x32_3_2_2_3_01_01 none (weights (logits A R)) (vs A R)

/-- The result: those sums at their pixels. -/
def image (A : FVec Ideal S4x56x56x1152 .f32) (R : IVec S4x49x4 32) : FVec Ideal S4x56x56x384 .f32 :=
  shapeCast _ (transpose S4x7x8x7x8x12x32 [0, 1, 4, 2, 5, 3, 6] (shapeCast _ (mixed A R) shapeCasts_S196x12x64x32_S4x7x7x12x8x8x32) transposes_S4x7x7x12x8x8x32_S4x7x8x7x8x12x32_0_1_4_2_5_3_6) shapeCasts_S4x7x8x7x8x12x32_S4x56x56x384

/-- The reference's result is that array of its arguments. -/
theorem res_eq (m : (ℓ : Loc nD τ sig) → Buf (Elt Ideal) ℓ) (c : Dev nD) :
    res_out0 (F := Ideal) m c = image (m ((c.tc : Thread nD τ).loc main_arg1)) (m ((c.tc : Thread nD τ).loc main_arg0)) := rfl

/-- Window `w` holds the eight by eight pixels from its corner on. -/
theorem windows_apply (A : FVec Ideal S4x56x56x1152 .f32) (n : Fin 4) (w : Fin 49) (s : Fin 64) (c : Fin 1152) :
    (windows A (ix4 n w s c) : EReal)
      = A (ix4 n (⟨8 * (w.val / 7) + s.val / 8, by omega⟩ : Fin 56) (⟨8 * (w.val % 7) + s.val % 8, by omega⟩ : Fin 56) c) := by
  pointwise [windows]
  simp only [Nat.mul_comm]

/-- The gather's dimension numbers. -/
abbrev G := gather_S4x49x64x768_S4x49x4x1_S4x49x4x64x768_34_1_0_0_1_3_1164768

/-- A gather of whole windows, read at an index: the start is the word, read signed, and at most 48. -/
theorem gather_apply (x : FVec Ideal S4x49x64x768 .f32) (y : IVec S4x49x4x1 32) (n : Fin 4) (w : Fin 49) (k : Fin 4) (s : Fin 64) (c : Fin 768) :
    Host.gather G x y (ix5 n w k s c)
      = x (ix4 n (⟨min (y (ix4 n w k (0 : Fin 1))).toInt.toNat 48, by omega⟩ : Fin 49) s c) := by
  unfold Host.gather
  refine congrArg x ?_
  funext a
  refine Fin.ext ?_
  show G.start (ix5 n w k s c) y a + G.batchCoord (ix5 n w k s c) a + G.offCoord (ix5 n w k s c) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching G _ _ 0 (by decide), GatherDims.offCoord_eq_zero G _ 0 (by decide)]
    unfold GatherDims.batchCoord
    rw [dif_pos (by decide)]
    simp only [Nat.zero_add, Nat.add_zero]
    rfl
  · rw [GatherDims.batchCoord_eq_zero G _ 1 (by decide), GatherDims.offCoord_eq_zero G _ 1 (by decide)]
    unfold GatherDims.start
    rw [dif_pos (by decide)]
    have hs : G.siIdx (ix5 n w k s c) ⟨List.idxOf (1 : Fin 4) G.startIndexMap, by decide⟩ = ix4 n w k (0 : Fin 1) := by
      funext b
      refine Fin.ext ?_
      match b with
      | ⟨0, _⟩ => rfl
      | ⟨1, _⟩ => rfl
      | ⟨2, _⟩ => rfl
      | ⟨3, _⟩ => rfl
    rw [hs]
    rfl
  · rw [GatherDims.batchCoord_eq_zero G _ 2 (by decide)]
    unfold GatherDims.start GatherDims.offCoord
    rw [dif_neg (by decide), dif_pos (by decide)]
    simp only [Nat.zero_add]
    rfl
  · rw [GatherDims.batchCoord_eq_zero G _ 3 (by decide)]
    unfold GatherDims.start GatherDims.offCoord
    rw [dif_neg (by decide), dif_pos (by decide)]
    simp only [Nat.zero_add]
    rfl

/-- The words as they are, when they name windows. -/
theorem chosen_apply (R : IVec S4x49x4 32) (n : Fin 4) (w : Fin 49) (k : Fin 4) (h : (R (ix3 n w k)).toNat < 49) :
    chosen R (ix4 n w k (0 : Fin 1)) = R (ix3 n w k) := by
  pointwise [chosen]
  have hs : ¬ (R (ix3 n w k)).slt 0#32 = true := by
    rw [BitVec.slt_zero_iff_msb_cond, BitVec.msb_eq_decide]
    simp only [decide_eq_true_eq]
    omega
  simp [Scalar.select, IntOp.cmpi, hs]

/-- The queries before their scale, read at an index. -/
theorem heads_apply (A : FVec Ideal S4x56x56x1152 .f32) (b : Fin 196) (h : Fin 12) (s : Fin 64) (c : Fin 32) :
    (heads A (ix4 b h s c) : EReal)
      = windows A (ix4 (⟨b.val / 49, by omega⟩ : Fin 4) (⟨b.val % 49, by omega⟩ : Fin 49) s (⟨32 * h.val + c.val, by omega⟩ : Fin 1152)) := by
  pointwise [heads]
  simp only [Nat.mul_comm]

/-- The keys, read at an index. -/
theorem ks_apply (A : FVec Ideal S4x56x56x1152 .f32) (R : IVec S4x49x4 32) (b : Fin 196) (h : Fin 12) (c : Fin 32) (k : Fin 256) :
    (ks A R (ix4 b h c k) : EReal)
      = picked A R (ix5 (⟨b.val / 49, by omega⟩ : Fin 4) (⟨b.val % 49, by omega⟩ : Fin 49) (⟨k.val / 64, by omega⟩ : Fin 4) (⟨k.val % 64, by omega⟩ : Fin 64) (⟨32 * h.val + c.val, by omega⟩ : Fin 768)) := by
  pointwise [ks]
  simp only [Nat.mul_comm]

/-- The values, read at an index. -/
theorem vs_apply (A : FVec Ideal S4x56x56x1152 .f32) (R : IVec S4x49x4 32) (b : Fin 196) (h : Fin 12) (k : Fin 256) (c : Fin 32) :
    (vs A R (ix4 b h k c) : EReal)
      = picked A R (ix5 (⟨b.val / 49, by omega⟩ : Fin 4) (⟨b.val % 49, by omega⟩ : Fin 49) (⟨k.val / 64, by omega⟩ : Fin 4) (⟨k.val % 64, by omega⟩ : Fin 64) (⟨384 + (32 * h.val + c.val), by omega⟩ : Fin 768)) := by
  pointwise [vs]
  simp only [Nat.mul_comm]

/-- The logits, read at an index. -/
theorem logits_apply (A : FVec Ideal S4x56x56x1152 .f32) (R : IVec S4x49x4 32) (b : Fin 196) (h : Fin 12) (s : Fin 64) (k : Fin 256) :
    (logits A R (ix4 b h s k) : EReal)
      = ∑ c : Fin 32, (heads A (ix4 b h s c) * Ideal.ofBits FTy.f32 0x3D5105EC#32) * ks A R (ix4 b h c k) := by
  pointwise [logits, qs]

/-- The largest entry of a row. -/
theorem peaks_apply (L : FVec Ideal S196x12x64x256 .f32) (b : Fin 196) (h : Fin 12) (s : Fin 64) :
    (peaks L (ix3 b h s) : EReal) = AttnVal.top fun y => L (ix4 b h s y) := by
  unfold AttnVal.top
  pointwise [peaks]

/-- The larger of −∞ and an entry. -/
theorem floors_apply (x : FVec Ideal S196x12x64 .f32) (b : Fin 196) (h : Fin 12) (s : Fin 64) :
    (floors x (ix3 b h s) : EReal) = max (Ideal.ofBits FTy.f32 0xFF800000#32) (x (ix3 b h s)) := by
  pointwise [floors]

/-- A row's largest entry is at least −∞. -/
theorem max_top (f : Fin 256 → EReal) : max (Ideal.ofBits FTy.f32 0xFF800000#32) (AttnVal.top f) = AttnVal.top f := by
  refine max_eq_right ?_
  unfold AttnVal.top
  exact (Finset.le_fold_max _).mpr (Or.inl le_rfl)

/-- The laid values, read at an index. -/
theorem spread_apply (x : FVec Ideal S196x12x64 .f32) (b : Fin 196) (h : Fin 12) (s : Fin 64) (k : Fin 256) :
    (spread x (ix4 b h s k) : EReal) = x (ix3 b h s) := by
  pointwise [spread]

/-- The powers, read at an index. -/
theorem powers_apply (L : FVec Ideal S196x12x64x256 .f32) (b : Fin 196) (h : Fin 12) (s : Fin 64) (k : Fin 256) :
    (powers L (ix4 b h s k) : EReal)
      = Ideal.exp (L (ix4 b h s k) - AttnVal.top fun y => L (ix4 b h s y)) := by
  have e : (powers L (ix4 b h s k) : EReal) = Ideal.exp (L (ix4 b h s k) - spread (floors (peaks L)) (ix4 b h s k)) := by
    pointwise [powers]
  rw [e, spread_apply, floors_apply, peaks_apply, max_top]

/-- The weights, read at an index. -/
theorem weights_apply (L : FVec Ideal S196x12x64x256 .f32) (b : Fin 196) (h : Fin 12) (s : Fin 64) (k : Fin 256) :
    (weights L (ix4 b h s k) : EReal)
      = Ideal.div (powers L (ix4 b h s k)) (∑ y : Fin 256, powers L (ix4 b h s y)) := by
  have e : (weights L (ix4 b h s k) : EReal) = Ideal.div (powers L (ix4 b h s k)) (spread (sums L) (ix4 b h s k)) := by
    pointwise [weights]
  rw [e, spread_apply]
  pointwise [sums]

/-- The weighted sums, read at an index. -/
theorem mixed_apply (A : FVec Ideal S4x56x56x1152 .f32) (R : IVec S4x49x4 32) (b : Fin 196) (h : Fin 12) (s : Fin 64) (e : Fin 32) :
    (mixed A R (ix4 b h s e) : EReal) = ∑ k : Fin 256, weights (logits A R) (ix4 b h s k) * vs A R (ix4 b h k e) := by
  pointwise [mixed]

/-- The result, read at an index. -/
theorem image_apply (A : FVec Ideal S4x56x56x1152 .f32) (R : IVec S4x49x4 32) (n : Fin 4) (p q : Fin 56) (j : Fin 384) :
    (image A R (ix4 n p q j) : EReal)
      = mixed A R (ix4 (⟨49 * n.val + (p.val / 8 * 7 + q.val / 8), by omega⟩ : Fin 196) (⟨j.val / 32, by omega⟩ : Fin 12) (⟨8 * (p.val % 8) + q.val % 8, by omega⟩ : Fin 64) (⟨j.val % 32, by omega⟩ : Fin 32)) := by
  pointwise [image]
  simp only [Nat.mul_comm, Nat.add_assoc]

/-- The chosen windows, read at an index: window `v` of the keys' and values' channels. -/
theorem picked_apply (A : FVec Ideal S4x56x56x1152 .f32) (R : IVec S4x49x4 32) (hR : ∀ i, (R i).toNat < 49)
    (n : Fin 4) (w : Fin 49) (k : Fin 4) (s : Fin 64) (c : Fin 768) :
    (picked A R (ix5 n w k s c) : EReal)
      = A (ix4 n (⟨(8 * ((R (ix3 n w k)).toNat / 7) + s.val / 8) % 56, Nat.mod_lt _ (by norm_num)⟩ : Fin 56)
          (⟨(8 * ((R (ix3 n w k)).toNat % 7) + s.val % 8) % 56, Nat.mod_lt _ (by norm_num)⟩ : Fin 56) (⟨384 + c.val, by omega⟩ : Fin 1152)) := by
  have h := hR (ix3 n w k)
  have hw : min (R (ix3 n w k)).toInt.toNat 48 = (R (ix3 n w k)).toNat := by
    rw [BitVec.toInt_eq_toNat_of_lt (by omega)]
    omega
  have hp : (pairs A (ix4 n (⟨(R (ix3 n w k)).toNat, h⟩ : Fin 49) s c) : EReal)
      = windows A (ix4 n (⟨(R (ix3 n w k)).toNat, h⟩ : Fin 49) s (⟨384 + c.val, by omega⟩ : Fin 1152)) := by
    pointwise [pairs]
  unfold picked
  refine (gather_apply _ _ n w k s c).trans ?_
  simp only [chosen_apply R n w k h, hw]
  refine hp.trans ((windows_apply A n _ s _).trans ?_)
  congr 2 <;> refine Fin.ext (Nat.mod_eq_of_lt ?_).symm <;> simp only <;> omega

/-- A row of the result's weighted sum, in words of the arguments. -/
theorem mixed_eq (A : FVec Ideal S4x56x56x1152 .f32) (R : IVec S4x49x4 32) (b : Fin 196) (h : Fin 12) (s : Fin 64) (e : Fin 32) :
    (mixed A R (ix4 b h s e) : EReal)
      = AttnVal.attend (fun c => heads A (ix4 b h s c) * Ideal.ofBits FTy.f32 0x3D5105EC#32)
          (fun k c => ks A R (ix4 b h c k)) (fun k => vs A R (ix4 b h k e)) := by
  rw [mixed_apply]
  unfold AttnVal.attend
  refine Finset.sum_congr rfl fun k _ => ?_
  rw [weights_apply]
  simp only [powers_apply, logits_apply]

/-- The reference's result, entry by entry: each head's attention of its pixel over the four chosen windows. -/
theorem image_eq (A : FVec Ideal S4x56x56x1152 .f32) (R : IVec S4x49x4 32) (hR : ∀ i, (R i).toNat < 49)
    (n : Fin 4) (p q : Fin 56) (j : Fin 384) :
    (image A R (ix4 n p q j) : EReal)
      = AttnVal.attention A R n p q (⟨j.val / 32, by omega⟩ : Fin 12) (⟨j.val % 32, by omega⟩ : Fin 32) := by
  rw [image_apply, mixed_eq]
  have hb : (49 * n.val + (p.val / 8 * 7 + q.val / 8)) / 49 = n.val := by omega
  have hm : (49 * n.val + (p.val / 8 * 7 + q.val / 8)) % 49 = p.val / 8 * 7 + q.val / 8 := by omega
  simp only [heads_apply, ks_apply, vs_apply, picked_apply A R hR, windows_apply, hb, hm]
  unfold AttnVal.attention
  have hp : 8 * ((p.val / 8 * 7 + q.val / 8) / 7) + (8 * (p.val % 8) + q.val % 8) / 8 = p.val := by omega
  have hq : 8 * ((p.val / 8 * 7 + q.val / 8) % 7) + (8 * (p.val % 8) + q.val % 8) % 8 = q.val := by omega
  simp only [hp, hq]

/-- The same of the reference's run. -/
theorem image_at (m : (ℓ : Loc nD τ sig) → Buf (Elt Ideal) ℓ) (c : Dev nD)
    (hR : ∀ i, (m ((c.tc : Thread nD τ).loc main_arg0) i : BitVec 32).toNat < 49) (n : Fin 4) (p q : Fin 56) (j : Fin 384) :
    (res_out0 (F := Ideal) m c (ix4 n p q j) : EReal)
      = AttnVal.attention (m ((c.tc : Thread nD τ).loc main_arg1)) (m ((c.tc : Thread nD τ).loc main_arg0)) n p q
          (⟨j.val / 32, by omega⟩ : Fin 12) (⟨j.val % 32, by omega⟩ : Fin 32) :=
  (congrFun (res_eq m c) _).trans (image_eq _ _ hR n p q j)

end Cert.AttnRef

end
-- ==== Proof.ProjBlock.lean ====
/- The projection stage, one block: what the kernel's body stores, entry by entry. -/
module

public import proofs.«01_k».proof.Proof.Gen.ProjIdeal.Frame
public import proofs.«01_k».proof.Proof.Conv
public import Idealize.ShloMosaic.Lib.Pipeline.ValueKit

@[expose] public section

set_option maxRecDepth 16384

noncomputable section

namespace Cert.ProjVal

open Idealize.ShloMosaic Idealize.ShloMosaic.TcCoe Idealize.SL.Sem
open Cert.ProjIdeal Cert.ProjIdeal.Gen

/-- The image the body surrounds with two zeros on each side. -/
theorem pay2_apply (x : FVec Ideal S1x56x56x384 .f32) (a b : Fin 60) (i : Fin 384) :
    (k0_pay2 (F := Ideal) x (ix3 a b i) : EReal) = Conv.pad 2 (fun P Q => x (ix4 0 P Q i)) a.val b.val := by
  pointwise [k0_pay2]
  rw [Conv.pad_eq]
  rfl

/-- The same of the image loaded whole. -/
theorem pay2_ld_apply (x : FVec Ideal S1x56x56x384 .f32) (a b : Fin 60) (i : Fin 384) :
    (k0_pay2 (F := Ideal) (View.ld x r0_0) (ix3 a b i) : EReal) = Conv.pad 2 (fun P Q => x (ix4 0 P Q i)) a.val b.val :=
  (congrFun (congrArg (k0_pay2 (F := Ideal)) (View.ld_unit_lit (Val := Elt Ideal) (e := .f32)
    inb_S1x56x56x384_S1x56x56x384_0_0_0_0 x (by decide))) _).trans (pay2_apply x a b i)

/-- What the body stores at pixel `(P, Q)` and channel `i`: the residual, and the projection of the attention output plus the
    convolution of the values. -/
theorem block_apply (x0 x1 x2 : FVec Ideal S1x56x56x384 .f32) (x3 : FVec Ideal S25x384 .f32) (x4 : FVec Ideal S384 .f32)
    (x5 : FVec Ideal S384x384 .bf16) (x6 : FVec Ideal S384 .f32) (P Q : Fin 56) (i : Fin 384) :
    (out0_7 (F := Ideal) x0 x1 x2 x3 x4 x5 x6 (ix4 0 P Q i) : EReal)
      = x2 (ix4 0 P Q i) + ((∑ k, (x1 (ix4 0 P Q k) + (Conv.conv 2 5 (fun a b => x0 (ix4 0 a b k))
          (fun r s => x3 (ix2 ⟨r.val * 5 + s.val, by omega⟩ k)) P Q + x4 (ix1 k))) * x5 (ix2 k i)) + x6 (ix1 i)) := by
  frame_out
  pointwise [k0_pay1, k0_pay15, k0_pay12, k0_pay10, k0_pay8, k0_pay11, k0_pay13, k0_pay14, k0_pay9, k0_pay16, k0_pay3, k0_pay4,
    k0_pay5, k0_pay6, k0_pay7, k0_pay17, k0_pay18, k0_pay19, k0_pay20, k0_pay21]
  simp only [pay2_ld_apply]
  refine congrArg₂ (· + ·) rfl (congrArg₂ (· + ·) (Finset.sum_congr rfl fun k _ => congrArg₂ (· * ·) (congrArg₂ (· + ·) rfl ?_) rfl) rfl)
  rw [add_comm (Conv.conv _ _ _ _ _ _)]
  simp only [pay2_apply, Conv.conv, Fin.sum_univ_five, ← add_assoc, Fin.coe_ofNat_eq_mod, Nat.reduceMod, Nat.reduceMul, Nat.reduceAdd,
    Nat.zero_add, Nat.zero_mod, Nat.zero_mul, Nat.one_mod, Nat.one_mul]
  rfl

end Cert.ProjVal

end
-- ==== Proof.ProjValue.lean ====
/- The projection stage: the array the kernel's blocks fill. -/
module

public import proofs.«01_k».proof.Proof.ProjBlock

@[expose] public section

set_option maxRecDepth 16384

noncomputable section

namespace Cert.ProjVal

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ)

/-- Where each window's block lies: the images move with the grid point (the values are the last third of the channels of the
    projected array), every weight is whole. -/
theorem idx : ∀ t : Fin cfg0.N, win0_0.index t = ![t.val, 0, 0, 2] ∧ win0_1.index t = ![t.val, 0, 0, 0]
    ∧ win0_2.index t = ![t.val, 0, 0, 0] ∧ win0_3.index t = ![0, 0] ∧ win0_4.index t = ![0] ∧ win0_5.index t = ![0, 0]
    ∧ win0_6.index t = ![0] ∧ win0_7.index t = ![t.val, 0, 0, 0] :=
  (by decide +kernel : ∀ t : Fin grid0.N, _)

/-- The array of the stage's results. -/
def out (c : Dev nD) : FVec Ideal S4x56x56x384 .f32 := fun i =>
  Conv.proj (fun P Q k => m ((c : Thread nD τ).loc main_arg0) (ix4 (i 0) P Q (⟨768 + k.val, by omega⟩ : Fin 1152)))
    (fun P Q k => m ((c : Thread nD τ).loc main_arg1) (ix4 (i 0) P Q k))
    (m ((c : Thread nD τ).loc main_arg2) (ix4 (i 0) (i 1) (i 2) (i 3)))
    (fun k r s => m ((c : Thread nD τ).loc main_arg3) (ix4 k 0 r s)) (fun k => m ((c : Thread nD τ).loc main_arg4) (ix1 k))
    (fun k => m ((c : Thread nD τ).loc main_arg5) (ix2 (i 3) k)) (m ((c : Thread nD τ).loc main_arg6) (ix1 (i 3))) (i 1) (i 2)

/-- The convolution's weights as the region finds them: one row for each place of the neighbourhood, row by row. -/
theorem V_v2 (c : Dev nD) (r s : Fin 5) (k : Fin 384) :
    (V m c main_v2 (ix2 (⟨r.val * 5 + s.val, by omega⟩ : Fin 25) k) : EReal) = m ((c : Thread nD τ).loc main_arg3) (ix4 k 0 r s) := by
  simp only [V, hostOps0, List.flatten_cons, List.flatten_nil, List.append_nil]
  after_results
  pointwise

/-- The projection's weights as the region finds them: transposed (and their format changed, which is no change of value). -/
theorem V_v4 (c : Dev nD) : V m c main_v4 = fun i => m ((c : Thread nD τ).loc main_arg5) (ix2 (i 1) (i 0)) := by
  simp only [V, hostOps0, List.flatten_cons, List.flatten_nil, List.append_nil]
  after_results
  funext i
  pointwise

/-- The block index `(0, P, Q, i)` of a grid point's output sits at batch `t`. -/
theorem emb7 (t : Fin cfg0.N) (P Q : Fin 56) (i : Fin 384) :
    ((cfg0.win 7).blk t).view.emb (ix4 0 P Q i) = ix4 (⟨t.val, t.isLt⟩ : Fin 4) P Q i := by
  blk_ext [idx t]

/-- The values' block. -/
theorem read0 (c : Dev nD) (t : Fin cfg0.N) (P Q : Fin 56) (k : Fin 384) :
    (iblk m c 0 t (ix4 0 P Q k) : EReal)
      = m ((c : Thread nD τ).loc main_arg0) (ix4 (⟨t.val, t.isLt⟩ : Fin 4) P Q (⟨768 + k.val, by omega⟩ : Fin 1152)) := by
  blk_point [iblk, V, idx t]

/-- The attention output's block. -/
theorem read1 (c : Dev nD) (t : Fin cfg0.N) (P Q : Fin 56) (k : Fin 384) :
    (iblk m c 1 t (ix4 0 P Q k) : EReal) = m ((c : Thread nD τ).loc main_arg1) (ix4 (⟨t.val, t.isLt⟩ : Fin 4) P Q k) := by
  blk_point [iblk, V, idx t]

/-- The residual's block. -/
theorem read2 (c : Dev nD) (t : Fin cfg0.N) (P Q : Fin 56) (k : Fin 384) :
    (iblk m c 2 t (ix4 0 P Q k) : EReal) = m ((c : Thread nD τ).loc main_arg2) (ix4 (⟨t.val, t.isLt⟩ : Fin 4) P Q k) := by
  blk_point [iblk, V, idx t]

/-- The convolution's weights. -/
theorem read3 (c : Dev nD) (t : Fin cfg0.N) (r s : Fin 5) (k : Fin 384) :
    (iblk m c 3 t (ix2 (⟨r.val * 5 + s.val, by omega⟩ : Fin 25) k) : EReal) = m ((c : Thread nD τ).loc main_arg3) (ix4 k 0 r s) := by
  refine Eq.trans ?_ (V_v2 m c r s k)
  blk_point [iblk, idx t]

/-- The convolution's bias. -/
theorem read4 (c : Dev nD) (t : Fin cfg0.N) (k : Fin 384) :
    (iblk m c 4 t (ix1 k) : EReal) = m ((c : Thread nD τ).loc main_arg4) (ix1 k) := by
  blk_point [iblk, V, idx t]

/-- The projection's weights. -/
theorem read5 (c : Dev nD) (t : Fin cfg0.N) (k i : Fin 384) :
    (iblk m c 5 t (ix2 k i) : EReal) = m ((c : Thread nD τ).loc main_arg5) (ix2 i k) := by
  refine Eq.trans ?_ (congrFun (V_v4 m c) (ix2 k i))
  blk_point [iblk, idx t]

/-- The projection's bias. -/
theorem read6 (c : Dev nD) (t : Fin cfg0.N) (k : Fin 384) :
    (iblk m c 6 t (ix1 k) : EReal) = m ((c : Thread nD τ).loc main_arg6) (ix1 k) := by
  blk_point [iblk, V, idx t]

/-- What a grid point's body stores at a block index is the result at the array index the block index sits at. -/
theorem point (c : Dev nD) (t : Fin cfg0.N) (y : S1x56x56x384.Idx) :
    out0_7 (F := Ideal) (iblk m c 0 t) (iblk m c 1 t) (iblk m c 2 t) (iblk m c 3 t) (iblk m c 4 t) (iblk m c 5 t) (iblk m c 6 t) y
      = out m c (((cfg0.win 7).blk t).view.emb y) := by
  obtain ⟨P, Q, i, rfl⟩ : ∃ (P Q : Fin 56) (i : Fin 384), y = ix4 0 P Q i :=
    ⟨y 1, y 2, y 3, (eq_ix4 y).trans (congrArg (fun a => ix4 a _ _ _) (Fin.ext (Nat.lt_one_iff.1 (y 0).isLt)))⟩
  rw [emb7]
  refine (block_apply _ _ _ _ _ _ _ _ _ _).trans ?_
  simp only [read0, read1, read2, read3, read4, read5, read6]
  rfl

/-- The kernel's output array after the run. -/
theorem final (c : Dev nD) : (dats m 0 c).arrAt 7 (cfgs 0).N = out m c := by
  refine (dats m 0 c).arrAt_eq_of_covers 7 _ (by decide +kernel) fun t _ y => ?_
  blk_simp
  rw [after0_7]
  exact point m c t y

end Cert.ProjVal

end
-- ==== Proof.ProjRef.lean ====
/- The projection stage: what the reference returns, entry by entry. -/
module

public import proofs.«01_k».proof.Proof.Gen.RefProjIdeal.Run
public import proofs.«01_k».proof.Proof.Conv

@[expose] public section

set_option maxRecDepth 16384

noncomputable section

namespace Cert.ProjVal

open Idealize.ShloMosaic Idealize.ShloMosaic.TcCoe Idealize.SL.Sem
open Cert.RefProjIdeal Cert.RefProjIdeal.Gen Cert.RefProjIdeal.Value

variable (m : (ℓ : Loc nD τ sig) → Buf (Elt Ideal) ℓ) (c : Dev nD)

/-- The values, channel first, inside a border of two zeros. -/
def bordered : FVec Ideal S4x384x60x60 .f32 :=
  pad S4x384x60x60 ![0, 0, 2, 2] ![0, 0, 2, 2] ![0, 0, 0, 0] (transpose S4x384x56x56 [0, 3, 1, 2] (extractStridedSlice S4x56x56x384 ![0, 0, 0, 768] (m ((c.tc : Thread nD τ).loc main_arg0)) slices_S4x56x56x1152_S4x56x56x384_0_0_0_768) transposes_S4x56x56x384_S4x384x56x56_0_3_1_2) (sitofp .f32 (constantI S_ 32 0#32)) pads_S4x384x56x56_S4x384x60x60_000_000_220_220 h_S_

/-- Five copies of it, each moved up by one row more. -/
def rows : FVec Ideal S4x384x5x56x60 .f32 :=
  concatenate S4x384x5x56x60 2 [⟨S4x384x1x56x60, ((broadcastInDim S4x384x1x56x60 ![0, 1, 3, 4] bcast_S4x384x56x60_S4x384x1x56x60_0_1_3_4 (extractStridedSlice S4x384x56x60 ![0, 0, 0, 0] (bordered m c) slices_S4x384x60x60_S4x384x56x60_0_0_0_0)) : (⟨S4x384x1x56x60, .f32⟩ : BufTy).Contents (Elt Ideal))⟩, ⟨S4x384x1x56x60, ((broadcastInDim S4x384x1x56x60 ![0, 1, 3, 4] bcast_S4x384x56x60_S4x384x1x56x60_0_1_3_4 (extractStridedSlice S4x384x56x60 ![0, 0, 1, 0] (bordered m c) slices_S4x384x60x60_S4x384x56x60_0_0_1_0)) : (⟨S4x384x1x56x60, .f32⟩ : BufTy).Contents (Elt Ideal))⟩, ⟨S4x384x1x56x60, ((broadcastInDim S4x384x1x56x60 ![0, 1, 3, 4] bcast_S4x384x56x60_S4x384x1x56x60_0_1_3_4 (extractStridedSlice S4x384x56x60 ![0, 0, 2, 0] (bordered m c) slices_S4x384x60x60_S4x384x56x60_0_0_2_0)) : (⟨S4x384x1x56x60, .f32⟩ : BufTy).Contents (Elt Ideal))⟩, ⟨S4x384x1x56x60, ((broadcastInDim S4x384x1x56x60 ![0, 1, 3, 4] bcast_S4x384x56x60_S4x384x1x56x60_0_1_3_4 (extractStridedSlice S4x384x56x60 ![0, 0, 3, 0] (bordered m c) slices_S4x384x60x60_S4x384x56x60_0_0_3_0)) : (⟨S4x384x1x56x60, .f32⟩ : BufTy).Contents (Elt Ideal))⟩, ⟨S4x384x1x56x60, ((broadcastInDim S4x384x1x56x60 ![0, 1, 3, 4] bcast_S4x384x56x60_S4x384x1x56x60_0_1_3_4 (extractStridedSlice S4x384x56x60 ![0, 0, 4, 0] (bordered m c) slices_S4x384x60x60_S4x384x56x60_0_0_4_0)) : (⟨S4x384x1x56x60, .f32⟩ : BufTy).Contents (Elt Ideal))⟩] concatenates_S4x384x1x56x60_S4x384x1x56x60_S4x384x1x56x60_S4x384x1x56x60_S4x384x1x56x60_S4x384x5x56x60_d2

/-- Every pixel's neighbourhood: five copies of those, each moved left by one column more. -/
def near : FVec Ideal S4x384x5x5x56x56 .f32 :=
  concatenate S4x384x5x5x56x56 3 [⟨S4x384x5x1x56x56, ((broadcastInDim S4x384x5x1x56x56 ![0, 1, 2, 4, 5] bcast_S4x384x5x56x56_S4x384x5x1x56x56_0_1_2_4_5 (extractStridedSlice S4x384x5x56x56 ![0, 0, 0, 0, 0] (rows m c) slices_S4x384x5x56x60_S4x384x5x56x56_0_0_0_0_0)) : (⟨S4x384x5x1x56x56, .f32⟩ : BufTy).Contents (Elt Ideal))⟩, ⟨S4x384x5x1x56x56, ((broadcastInDim S4x384x5x1x56x56 ![0, 1, 2, 4, 5] bcast_S4x384x5x56x56_S4x384x5x1x56x56_0_1_2_4_5 (extractStridedSlice S4x384x5x56x56 ![0, 0, 0, 0, 1] (rows m c) slices_S4x384x5x56x60_S4x384x5x56x56_0_0_0_0_1)) : (⟨S4x384x5x1x56x56, .f32⟩ : BufTy).Contents (Elt Ideal))⟩, ⟨S4x384x5x1x56x56, ((broadcastInDim S4x384x5x1x56x56 ![0, 1, 2, 4, 5] bcast_S4x384x5x56x56_S4x384x5x1x56x56_0_1_2_4_5 (extractStridedSlice S4x384x5x56x56 ![0, 0, 0, 0, 2] (rows m c) slices_S4x384x5x56x60_S4x384x5x56x56_0_0_0_0_2)) : (⟨S4x384x5x1x56x56, .f32⟩ : BufTy).Contents (Elt Ideal))⟩, ⟨S4x384x5x1x56x56, ((broadcastInDim S4x384x5x1x56x56 ![0, 1, 2, 4, 5] bcast_S4x384x5x56x56_S4x384x5x1x56x56_0_1_2_4_5 (extractStridedSlice S4x384x5x56x56 ![0, 0, 0, 0, 3] (rows m c) slices_S4x384x5x56x60_S4x384x5x56x56_0_0_0_0_3)) : (⟨S4x384x5x1x56x56, .f32⟩ : BufTy).Contents (Elt Ideal))⟩, ⟨S4x384x5x1x56x56, ((broadcastInDim S4x384x5x1x56x56 ![0, 1, 2, 4, 5] bcast_S4x384x5x56x56_S4x384x5x1x56x56_0_1_2_4_5 (extractStridedSlice S4x384x5x56x56 ![0, 0, 0, 0, 4] (rows m c) slices_S4x384x5x56x60_S4x384x5x56x56_0_0_0_0_4)) : (⟨S4x384x5x1x56x56, .f32⟩ : BufTy).Contents (Elt Ideal))⟩] concatenates_S4x384x5x1x56x56_S4x384x5x1x56x56_S4x384x5x1x56x56_S4x384x5x1x56x56_S4x384x5x1x56x56_S4x384x5x5x56x56_d3

/-- The bordered values, read at an index. -/
theorem bordered_apply (n : Fin 4) (k : Fin 384) (a b : Fin 60) :
    (bordered m c (ix4 n k a b) : EReal)
      = Conv.pad 2 (fun P Q => m ((c.tc : Thread nD τ).loc main_arg0) (ix4 n P Q (⟨768 + k.val, by omega⟩ : Fin 1152))) a.val b.val := by
  pointwise [bordered]
  rw [Conv.pad]
  split_ifs <;> first | rfl | omega | exact Conv.zero_eq

/-- The row-shifted copies, read at an index. -/
theorem rows_apply (n : Fin 4) (k : Fin 384) (r : Fin 5) (a : Fin 56) (b : Fin 60) :
    (rows m c (ix5 n k r a b) : EReal) = bordered m c (ix4 n k (⟨r.val + a.val, by omega⟩ : Fin 60) b) := by
  unfold rows
  fin_cases r <;> pointwise

/-- The neighbourhoods, read at an index. -/
theorem near_apply (n : Fin 4) (k : Fin 384) (r s : Fin 5) (a b : Fin 56) :
    (near m c (ix6 n k r s a b) : EReal) = rows m c (ix5 n k r a (⟨s.val + b.val, by omega⟩ : Fin 60)) := by
  unfold near
  fin_cases s <;> pointwise

/-- The convolution's weights, laid along the neighbourhoods. -/
def taps : FVec Ideal S4x384x5x5x56x56 .f32 :=
  broadcastInDim S4x384x5x5x56x56 ![0, 1, 2, 3, 4, 5] bcast_S1x384x5x5x1x1_S4x384x5x5x56x56_0_1_2_3_4_5 (broadcastInDim S1x384x5x5x1x1 ![1, 2, 3] bcast_S384x5x5_S1x384x5x5x1x1_1_2_3 (shapeCast _ (m ((c.tc : Thread nD τ).loc main_arg3)) shapeCasts_S384x1x5x5_S384x5x5))

/-- The convolution's bias, laid along the pixels. -/
def bias : FVec Ideal S4x384x56x56 .f32 :=
  broadcastInDim S4x384x56x56 ![0, 1, 2, 3] bcast_S1x384x1x1_S4x384x56x56_0_1_2_3 (broadcastInDim S1x384x1x1 ![1] bcast_S384_S1x384x1x1_1 (m ((c.tc : Thread nD τ).loc main_arg4)))

/-- The weights without their axis of one entry, read at an index. -/
theorem squeeze_apply (w : FVec Ideal S384x1x5x5 .f32) (k : Fin 384) (r s : Fin 5) :
    (shapeCast S384x5x5 w shapeCasts_S384x1x5x5_S384x5x5 (ix3 k r s) : EReal) = w (ix4 k 0 r s) := by
  pointwise

/-- The weights, read at an index. -/
theorem taps_apply (n : Fin 4) (k : Fin 384) (r s : Fin 5) (a b : Fin 56) :
    (taps m c (ix6 n k r s a b) : EReal) = m ((c.tc : Thread nD τ).loc main_arg3) (ix4 k 0 r s) := by
  refine Eq.trans ?_ (squeeze_apply _ k r s)
  unfold taps
  refine congrArg (shapeCast S384x5x5 _ shapeCasts_S384x1x5x5_S384x5x5) (?_ : _ = ix3 k r s)
  funext d
  fin_cases d <;> rfl

/-- The bias, read at an index. -/
theorem bias_apply (n : Fin 4) (k : Fin 384) (a b : Fin 56) :
    (bias m c (ix4 n k a b) : EReal) = m ((c.tc : Thread nD τ).loc main_arg4) (ix1 k) := by
  pointwise [bias]

/-- The convolution of the values. -/
def lepe : FVec Ideal S4x384x56x56 .f32 :=
  addf (Host.reduceAdd (mulf (near m c) (taps m c)) (constant S_ .f32 0x00000000#32) reducesTo_S4x384x5x5x56x56_S4x384x56x56_d2_3 h_S_) (bias m c)

/-- It is the weighted sum of each pixel's neighbourhood, and the bias. -/
theorem lepe_apply (n : Fin 4) (k : Fin 384) (p q : Fin 56) :
    (lepe m c (ix4 n k p q) : EReal)
      = Conv.conv 2 5 (fun P Q => m ((c.tc : Thread nD τ).loc main_arg0) (ix4 n P Q (⟨768 + k.val, by omega⟩ : Fin 1152)))
          (fun r s => m ((c.tc : Thread nD τ).loc main_arg3) (ix4 k 0 r s)) p q + m ((c.tc : Thread nD τ).loc main_arg4) (ix1 k) := by
  rw [lepe]
  simp only [addf, Host.reduceAdd, Ideal.hostReduceAdd_def]
  rw [Ideal.hostReduceAdd_r6_a23]
  refine congrArg₂ (fun x y : EReal => x + y) ?_ (bias_apply m c n k p q)
  refine (congrArg (fun x : EReal => x + _) Conv.const_zero).trans ((zero_add _).trans ?_)
  refine Finset.sum_congr rfl fun r _ => Finset.sum_congr rfl fun s _ => ?_
  refine congrArg₂ (fun x y : EReal => x * y) ?_ (taps_apply m c n k r s p q)
  exact (near_apply m c n k r s p q).trans ((rows_apply m c n k r p _).trans (bordered_apply m c n k _ _))

/-- The result, through the convolution. -/
theorem res_eq : res_out0 (F := Ideal) m c =
    (addf (m ((c.tc : Thread nD τ).loc main_arg2)) (addf (Host.dotGeneral dot_S4x56x56x384_S384x384_S4x56x56x384_3_0_012_1_n_n none (addf (m ((c.tc : Thread nD τ).loc main_arg1)) (transpose S4x56x56x384 [0, 2, 3, 1] (lepe m c) transposes_S4x384x56x56_S4x56x56x384_0_2_3_1)) (transpose S384x384 [1, 0] (m ((c.tc : Thread nD τ).loc main_arg5)) transposes_S384x384_S384x384_1_0 : FVec Ideal S384x384 .f32)) (broadcastInDim S4x56x56x384 ![0, 1, 2, 3] bcast_S1x1x1x384_S4x56x56x384_0_1_2_3 (broadcastInDim S1x1x1x384 ![3] bcast_S384_S1x1x1x384_3 (m ((c.tc : Thread nD τ).loc main_arg6))))) : FVec Ideal S4x56x56x384 .f32) := rfl

/-- The reference's result at batch `n`, pixel `(p, q)` and channel `i`. -/
theorem ref_apply (n : Fin 4) (p q : Fin 56) (i : Fin 384) :
    ((res_out0 (F := Ideal) m c (ix4 n p q i)) : EReal)
      = Conv.proj (fun P Q k => m ((c.tc : Thread nD τ).loc main_arg0) (ix4 n P Q (⟨768 + k.val, by omega⟩ : Fin 1152)))
          (fun P Q k => m ((c.tc : Thread nD τ).loc main_arg1) (ix4 n P Q k))
          (m ((c.tc : Thread nD τ).loc main_arg2) (ix4 n p q i))
          (fun k r s => m ((c.tc : Thread nD τ).loc main_arg3) (ix4 k 0 r s)) (fun k => m ((c.tc : Thread nD τ).loc main_arg4) (ix1 k))
          (fun k => m ((c.tc : Thread nD τ).loc main_arg5) (ix2 i k)) (m ((c.tc : Thread nD τ).loc main_arg6) (ix1 i)) p q := by
  rw [res_eq]
  pointwise
  simp only [lepe_apply, Conv.proj]

end Cert.ProjVal

end
-- ==== Proof.MlpBlock.lean ====
/- The multilayer perceptron stage, one block: what the kernel's body stores, entry by entry. -/
module

public import proofs.«01_k».proof.Proof.Gen.MlpIdeal.Frame
public import proofs.«01_k».proof.Proof.Norm

@[expose] public section

set_option maxRecDepth 16384

noncomputable section

namespace Cert.MlpVal

open Idealize.ShloMosaic Idealize.ShloMosaic.TcCoe Idealize.SL.Sem
open Cert.MlpIdeal Cert.MlpIdeal.Gen

/-- The hidden activations of a block of rows: normalise, multiply by the first weights, add the bias, apply the unit. -/
theorem hid_apply (x : FVec Ideal S1568x384 .f32) (w b : FVec Ideal S384 .f32) (W : FVec Ideal S384x1536 .bf16)
    (b1 : FVec Ideal S1536 .f32) (r : Fin 1568) (j : Fin 1536) :
    (k0_pay3 (F := Ideal) x w b W b1 (ix2 r j) : EReal)
      = Norm.hidden (fun k => x (ix2 r k)) (fun k => w (ix1 k)) (fun k => b (ix1 k)) (fun k => W (ix2 k j)) (b1 (ix1 j)) := by
  rw [Norm.hidden, ← Norm.gelu_eq_erf]
  simp only [← Norm.norm_eq_rsqrt]
  pointwise [k0_pay3, k0_pay2, Norm.mean, Norm.var]
  rfl

/-- The block the body stores: the perceptron of the hidden activations, added onto the rows. -/
theorem out_apply (x : FVec Ideal S1568x384 .f32) (h : FVec Ideal S1568x1536 .bf16) (W2 : FVec Ideal S1536x384 .bf16)
    (b2 : FVec Ideal S384 .f32) (r : Fin 1568) (i : Fin 384) :
    (k0_pay1 (F := Ideal) (k0_pay2 x) h W2 b2 (ix2 r i) : EReal)
      = x (ix2 r i) + ((∑ j, h (ix2 r j) * W2 (ix2 j i)) + b2 (ix1 i)) := by
  pointwise [k0_pay1, k0_pay2]

/-- The block the body stores, as the perceptron of each of its rows. -/
theorem block_apply (x : FVec Ideal S1568x384 .f32) (w b : FVec Ideal S384 .f32) (W : FVec Ideal S384x1536 .bf16)
    (b1 : FVec Ideal S1536 .f32) (W2 : FVec Ideal S1536x384 .bf16) (b2 : FVec Ideal S384 .f32) (r : Fin 1568) (i : Fin 384) :
    (k0_pay1 (F := Ideal) (k0_pay2 x) (k0_pay3 x w b W b1) W2 b2 (ix2 r i) : EReal)
      = Norm.mlp (fun k => x (ix2 r k)) (fun k => w (ix1 k)) (fun k => b (ix1 k)) (fun k j => W (ix2 k j))
          (fun j => b1 (ix1 j)) (fun j => W2 (ix2 j i)) (b2 (ix1 i)) i := by
  rw [out_apply]
  simp only [hid_apply, Norm.mlp]

end Cert.MlpVal

end
-- ==== Proof.MlpValue.lean ====
/- The multilayer perceptron stage: the array the kernel's blocks fill, and the result @main returns from it. -/
module

public import proofs.«01_k».proof.Proof.MlpBlock
public import Idealize.ShloMosaic.Lib.Pipeline.ValueKit

@[expose] public section

set_option maxRecDepth 16384

noncomputable section

namespace Cert.MlpVal

open Idealize.ShloMosaic Idealize.ShloMosaic.TcCoe Idealize.SL.Sem
open Idealize.ShloMosaic.Pipeline (Dat)
open Cert.MlpIdeal Cert.MlpIdeal.Gen

variable (m : (ℓ : Loc nD τ sig) → Buf (Elt Ideal) ℓ)

/-- Where each window's block lies: the rows move with the grid point, every weight is whole. -/
theorem idx : ∀ t : Fin cfg0.N, win0_0.index t = ![t.val, 0] ∧ win0_1.index t = ![0] ∧ win0_2.index t = ![0]
    ∧ win0_3.index t = ![0, 0] ∧ win0_4.index t = ![0] ∧ win0_5.index t = ![0, 0] ∧ win0_6.index t = ![0]
    ∧ win0_7.index t = ![t.val, 0] :=
  (by decide +kernel : ∀ t : Fin grid0.N, _)

/-- A row of the flattened pixels is the pixel at the quotients and remainders of the row number. -/
theorem flat (X : FVec Ideal S4x56x56x384 .f32) (r : Fin 12544) (k : Fin 384) :
    shapeCast S12544x384 X shapeCasts_S4x56x56x384_S12544x384 (ix2 r k)
      = X (ix4 (⟨r.val / 3136, by omega⟩ : Fin 4) (⟨r.val / 56 % 56, by omega⟩ : Fin 56)
          (⟨r.val % 56, by omega⟩ : Fin 56) k) := by
  pointwise

/-- The row of a given pixel. -/
theorem flat_at (X : FVec Ideal S4x56x56x384 .f32) (n : Fin 4) (p q : Fin 56) (k : Fin 384)
    (r : Fin 12544) (hr : r.val = n.val * 3136 + p.val * 56 + q.val) :
    shapeCast S12544x384 X shapeCasts_S4x56x56x384_S12544x384 (ix2 r k) = X (ix4 n p q k) := by
  have hn : (⟨r.val / 3136, by omega⟩ : Fin 4) = n := Fin.ext (by simp only []; omega)
  have hp : (⟨r.val / 56 % 56, by omega⟩ : Fin 56) = p := Fin.ext (by simp only []; omega)
  have hq : (⟨r.val % 56, by omega⟩ : Fin 56) = q := Fin.ext (by simp only []; omega)
  rw [flat, hn, hp, hq]
/-- The pixels as rows. -/
abbrev rows (c : Dev nD) : FVec Ideal S12544x384 .f32 :=
  shapeCast S12544x384 (m ((c : Thread nD τ).loc main_arg0)) shapeCasts_S4x56x56x384_S12544x384

/-- The rows' perceptron results: what the kernel's output array holds. -/
def out2 (c : Dev nD) : FVec Ideal S12544x384 .f32 := fun i =>
  Norm.mlp (fun k => rows m c (ix2 (i 0) k))
    (fun k => m ((c : Thread nD τ).loc main_arg1) (ix1 k)) (fun k => m ((c : Thread nD τ).loc main_arg2) (ix1 k))
    (fun k j => m ((c : Thread nD τ).loc main_arg3) (ix2 j k)) (fun j => m ((c : Thread nD τ).loc main_arg4) (ix1 j))
    (fun j => m ((c : Thread nD τ).loc main_arg5) (ix2 (i 1) j)) (m ((c : Thread nD τ).loc main_arg6) (ix1 (i 1))) (i 1)

/-- The first weights as the region finds them: transposed (and their format changed, which is no change of value). -/
theorem V_v1 (c : Dev nD) : V m c main_v1 = fun i => m ((c : Thread nD τ).loc main_arg3) (ix2 (i 1) (i 0)) := by
  simp only [V, V0, hostOps0, List.flatten_cons, List.flatten_nil, List.append_nil]
  after_results
  funext i
  pointwise

/-- The second weights as the region finds them: transposed. -/
theorem V_v3 (c : Dev nD) : V m c main_v3 = fun i => m ((c : Thread nD τ).loc main_arg5) (ix2 (i 1) (i 0)) := by
  simp only [V, V0, hostOps0, List.flatten_cons, List.flatten_nil, List.append_nil]
  after_results
  funext i
  pointwise

/-- What a grid point's body stores at a block index is the result at the array index the block index sits at. -/
theorem point (c : Dev nD) (t : Fin cfg0.N) (y : S1568x384.Idx) :
    k0_pay1 (F := Ideal) (k0_pay2 (iblk m c 0 t)) (k0_pay3 (iblk m c 0 t) (iblk m c 1 t) (iblk m c 2 t) (iblk m c 3 t) (iblk m c 4 t))
        (iblk m c 5 t) (iblk m c 6 t) y
      = out2 m c (((cfg0.win 7).blk t).view.emb y) := by
  rw [eq_ix2 y]
  refine (block_apply _ _ _ _ _ _ _ _ _).trans ?_
  simp only [out2, Norm.mlp, Norm.hidden, Norm.norm, Norm.gelu, Norm.mean, Norm.var]
  blk_point [iblk, V, idx t]
  · rw [V_v1]; blk_ext [idx t]
  · rw [V_v3]; blk_ext [idx t]

/-- The kernel's output array after the run. -/
theorem final (c : Dev nD) : (dats m 0 c).arrAt 7 (cfgs 0).N = out2 m c := by
  refine (dats m 0 c).arrAt_eq_of_covers 7 _ (by decide +kernel) fun t _ y => ?_
  blk_simp
  rw [after0_7]; frame_out
  exact point m c t y

/-- @main's result: the output array read back as pixels, its channels moved to the front. -/
theorem tail (c : Dev nD) (n : Fin 4) (i : Fin 384) (p q : Fin 56) :
    (Pipeline.afterTail₀ cfgs (dats m) 0 (V0 m) [hostOps1] c main_v7 (ix4 n i p q) : EReal)
      = Norm.mlp (fun k => m ((c : Thread nD τ).loc main_arg0) (ix4 n p q k))
          (fun k => m ((c : Thread nD τ).loc main_arg1) (ix1 k)) (fun k => m ((c : Thread nD τ).loc main_arg2) (ix1 k))
          (fun k j => m ((c : Thread nD τ).loc main_arg3) (ix2 j k)) (fun j => m ((c : Thread nD τ).loc main_arg4) (ix1 j))
          (fun j => m ((c : Thread nD τ).loc main_arg5) (ix2 i j)) (m ((c : Thread nD τ).loc main_arg6) (ix1 i)) i := by
  have h : Pipeline.afterTail₀ cfgs (dats m) 0 (V0 m) [hostOps1] c main_v7
      = transpose S4x384x56x56 [0, 3, 1, 2] (shapeCast S4x56x56x384 (out2 m c) shapeCasts_S12544x384_S4x56x56x384)
          transposes_S4x56x56x384_S4x384x56x56_0_3_1_2 := by
    rw [← final m c, ← Pipeline.withArrays_arr cfg0.spec launch0.win.arr_inj c (V0 m c) (fun w => (dats m 0 c).arrAt w cfg0.N) 7]
    unfold Pipeline.afterTail₀
    simp only [List.flatten_cons, List.flatten_nil, List.append_nil, hostOps1]
    after_results
    rfl
  rw [h]
  pointwise
  simp only [out2]
  refine (congrArg (fun x => Norm.mlp x _ _ _ _ _ _ _) (funext fun k => ?_) : _)
  exact flat_at _ n p q k _ rfl

end Cert.MlpVal

end
-- ==== Proof.MlpRef.lean ====
/- The multilayer perceptron stage: what the reference returns, entry by entry. -/
module

public import proofs.«01_k».proof.Proof.Gen.RefMlpIdeal.Run
public import proofs.«01_k».proof.Proof.Norm

@[expose] public section

set_option maxRecDepth 16384

noncomputable section

namespace Cert.MlpVal

open Idealize.ShloMosaic Idealize.ShloMosaic.TcCoe Idealize.SL.Sem
open Cert.RefMlpIdeal Cert.RefMlpIdeal.Gen Cert.RefMlpIdeal.Value

/-- The reference's result at batch `n`, channel `i` and pixel `(p, q)` is the perceptron of that pixel's channels. -/
theorem ref_apply (m : (ℓ : Loc nD τ sig) → Buf (Elt Ideal) ℓ) (c : Dev nD)
    (n : Fin 4) (i : Fin 384) (p q : Fin 56) :
    (res_out0 (F := Ideal) m c (ix4 n i p q) : EReal)
      = Norm.mlp (fun k => m ((c.tc : Thread nD τ).loc main_arg0) (ix4 n p q k))
          (fun k => m ((c.tc : Thread nD τ).loc main_arg1) (ix1 k)) (fun k => m ((c.tc : Thread nD τ).loc main_arg2) (ix1 k))
          (fun k j => m ((c.tc : Thread nD τ).loc main_arg3) (ix2 j k)) (fun j => m ((c.tc : Thread nD τ).loc main_arg4) (ix1 j))
          (fun j => m ((c.tc : Thread nD τ).loc main_arg5) (ix2 i j)) (m ((c.tc : Thread nD τ).loc main_arg6) (ix1 i)) i := by
  rw [res_out0, res_main_v36]
  pointwise []
  simp only [Norm.len_sub, if_pos Norm.len_pos]
  rfl

end Cert.MlpVal

end
-- ==== Proof.lean ====
/- The certificate's claims about the four calls of the kernel, put together: the frames are read off each program's own run,
   and each value claim joins the kernel's run and the reference's run at one function of the arguments. -/
module

public import proofs.«01_k».proof.Defs
public import proofs.«01_k».proof.Proof.Gen.Pre.Frame
public import proofs.«01_k».proof.Proof.Gen.PreIdeal.Frame
public import proofs.«01_k».proof.Proof.Gen.RefPreIdeal.Run
public import proofs.«01_k».proof.Proof.Gen.Attn.Frame
public import proofs.«01_k».proof.Proof.Gen.AttnIdeal.Frame
public import proofs.«01_k».proof.Proof.Gen.RefAttnIdeal.Run
public import proofs.«01_k».proof.Proof.Gen.Pre_windows_exist
public import proofs.«01_k».proof.Proof.Gen.Proj.Frame
public import proofs.«01_k».proof.Proof.Gen.ProjIdeal.Frame
public import proofs.«01_k».proof.Proof.Gen.RefProjIdeal.Run
public import proofs.«01_k».proof.Proof.Gen.Mlp.Frame
public import proofs.«01_k».proof.Proof.Gen.MlpIdeal.Frame
public import proofs.«01_k».proof.Proof.Gen.RefMlpIdeal.Run
public import proofs.«01_k».proof.Proof.PreValue
public import proofs.«01_k».proof.Proof.PreRef
public import proofs.«01_k».proof.Proof.AttnWords
public import proofs.«01_k».proof.Proof.AttnFinal
public import proofs.«01_k».proof.Proof.AttnRef
public import proofs.«01_k».proof.Proof.ProjValue
public import proofs.«01_k».proof.Proof.ProjRef
public import proofs.«01_k».proof.Proof.MlpValue
public import proofs.«01_k».proof.Proof.MlpRef
public import Idealize.ShloMosaic.Adequacy
public import Idealize.ShloMosaic.Init

@[expose] public section

set_option maxRecDepth 16384

noncomputable section

namespace Cert.Proof

open Idealize.ShloMosaic Idealize.SL.Sem

/-- The first call and its reference return the same two images. -/
theorem algebraic_Pre : Cert.algebraic_PreIdeal_RefPreIdeal := by
  pair_intro
  · run_from Cert.PreIdeal.Gen.run_main m g & Cert.PreIdeal.Gen.unchanged m g
  · run_from Cert.RefPreIdeal.Value.run m' g'
    · obtain ⟨h0, h1, h2, h3, h4, h5, h6⟩ := hagree c
      funext j
      rw [eq_ix4 j]
      refine (PreRef.image_at m' c _ _ _ _).trans ?_
      rw [h0, h1, h2]
      exact (congrFun (PreVal.final7 m c) (ix4 (j 0) (j 1) (j 2) (j 3))).symm
    · obtain ⟨h0, h1, h2, h3, h4, h5, h6⟩ := hagree c
      funext j
      rw [eq_ix4 j]
      refine (PreRef.dense_at m' c _ _ _ _).trans ?_
      rw [h0, h1, h2, h3, h4, h5, h6]
      exact (congrFun (PreVal.final8 m c) (ix4 (j 0) (j 1) (j 2) (j 3))).symm

/-- The attention call and its reference return the same array, when the words name windows. -/
theorem algebraic_Attn : Cert.algebraic_AttnIdeal_RefAttnIdeal := by
  pair_intro
  · run_from Cert.AttnIdeal.Gen.run_main m g trivial (AttnVal.hyps m (AttnVal.lt_of_pre _ _ (hpre 0)) trivial) & Cert.AttnIdeal.Gen.unchanged m g trivial (AttnVal.hyps m (AttnVal.lt_of_pre _ _ (hpre 0)) trivial)
    exact AttnVal.final m (AttnVal.lt_of_pre _ _ (hpre 0)) trivial (AttnVal.hyps m (AttnVal.lt_of_pre _ _ (hpre 0)) trivial) c
  · run_from Cert.RefAttnIdeal.Value.run m' g'
    obtain ⟨h0, h1⟩ := hagree c
    funext j
    rw [eq_ix4 j]
    refine (AttnRef.image_at m' c (fun i => ?_) _ _ _ _).trans ?_
    · rw [h0]
      exact AttnVal.lt_of_pre _ _ (hpre c) i
    rw [h0, h1]
    rfl

/-- The projection call and its reference return the same array. -/
theorem algebraic_Proj : Cert.algebraic_ProjIdeal_RefProjIdeal := by
  pair_intro
  · run_from Cert.ProjIdeal.Gen.run_main m g & Cert.ProjIdeal.Gen.unchanged m g
  · run_from Cert.RefProjIdeal.Value.run m' g'
    obtain ⟨h0, h1, h2, h3, h4, h5, h6⟩ := hagree c
    funext j
    rw [eq_ix4 j]
    refine (ProjVal.ref_apply m' c _ _ _ _).trans ?_
    rw [h0, h1, h2, h3, h4, h5, h6]
    exact (congrFun (ProjVal.final m c) (ix4 (j 0) (j 1) (j 2) (j 3))).symm

/-- The perceptron call and its reference return the same array. -/
theorem algebraic_Mlp : Cert.algebraic_MlpIdeal_RefMlpIdeal := by
  pair_intro
  · run_from Cert.MlpIdeal.Gen.run_main m g & Cert.MlpIdeal.Gen.unchanged m g
  · run_from Cert.RefMlpIdeal.Value.run m' g'
    obtain ⟨h0, h1, h2, h3, h4, h5, h6⟩ := hagree c
    funext j
    rw [eq_ix4 j]
    refine (MlpVal.ref_apply m' c _ _ _ _).trans ?_
    rw [h0, h1, h2, h3, h4, h5, h6]
    exact (MlpVal.tail m c _ _ _ _).symm

/-- The first call's reference stops with its arguments unchanged. -/
theorem frame_RefPre : Cert.quiescent_RefPreIdeal := fun m ρ _ =>
  (θ_run Cert.RefPreIdeal.defs _ _).mono (fun r h => ⟨fun c => (h c).2.2, sem_eq_zero_of_no_sems (by decide) r.2⟩)
    (Cert.RefPreIdeal.Value.run m ρ)

/-- The attention call's reference stops with its arguments unchanged. -/
theorem frame_RefAttn : Cert.quiescent_RefAttnIdeal := fun m ρ _ =>
  (θ_run Cert.RefAttnIdeal.defs _ _).mono (fun r h => ⟨fun c => (h c).2, sem_eq_zero_of_no_sems (by decide) r.2⟩)
    (Cert.RefAttnIdeal.Value.run m ρ)

/-- The projection call's reference stops with its arguments unchanged. -/
theorem frame_RefProj : Cert.quiescent_RefProjIdeal := fun m ρ _ =>
  (θ_run Cert.RefProjIdeal.defs _ _).mono (fun r h => ⟨fun c => (h c).2, sem_eq_zero_of_no_sems (by decide) r.2⟩)
    (Cert.RefProjIdeal.Value.run m ρ)

/-- The perceptron call's reference stops with its arguments unchanged. -/
theorem frame_RefMlp : Cert.quiescent_RefMlpIdeal := fun m ρ _ =>
  (θ_run Cert.RefMlpIdeal.defs _ _).mono (fun r h => ⟨fun c => (h c).2, sem_eq_zero_of_no_sems (by decide) r.2⟩)
    (Cert.RefMlpIdeal.Value.run m ρ)

/-- Everything the certificate claims. -/
theorem claim : Cert.Claim := ⟨Cert.Pre.Gen.facts, Cert.PreIdeal.Gen.facts, Cert.RefPreIdeal.Gen.facts, Cert.Attn.Gen.facts, Cert.AttnIdeal.Gen.facts, Cert.RefAttnIdeal.Gen.facts, Cert.Proj.Gen.facts, Cert.ProjIdeal.Gen.facts, Cert.RefProjIdeal.Gen.facts, Cert.Mlp.Gen.facts,
  Cert.MlpIdeal.Gen.facts, Cert.RefMlpIdeal.Gen.facts, Cert.Pre_windows_exist.Gen.facts,
  fun m ρ _ => Cert.Pre.Gen.frame m ρ, fun m ρ _ => Cert.PreIdeal.Gen.frame m ρ, frame_RefPre,
  fun m ρ h => Cert.Attn.Gen.frame m ρ trivial (AttnVal.hyps_kernel m (AttnVal.lt_of_pre _ _ (h 0)) trivial),
  fun m ρ h => Cert.AttnIdeal.Gen.frame m ρ trivial (AttnVal.hyps m (AttnVal.lt_of_pre _ _ (h 0)) trivial), frame_RefAttn, fun m ρ _ => frame_RefAttn m ρ trivial,
  fun m ρ _ => Cert.Proj.Gen.frame m ρ, fun m ρ _ => Cert.ProjIdeal.Gen.frame m ρ, frame_RefProj,
  fun m ρ _ => Cert.Mlp.Gen.frame m ρ, fun m ρ _ => Cert.MlpIdeal.Gen.frame m ρ, frame_RefMlp,
  trivial, algebraic_Pre, trivial, algebraic_Attn, trivial, algebraic_Proj, trivial, algebraic_Mlp⟩

end Cert.Proof

end
